-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  IdealRules.named_const.Statement Cert.KernelIdeal.κ "slope1" .f32 0xBF8293EE#32 ((((-1) * (Real.log 2)⁻¹) * (Real.sqrt 2)⁻¹ : ℝ) : EReal)
  ∧ IdealRules.named_const.Statement Cert.KernelIdeal.κ "mask" .f32 0xF149F2CA#32 ⊥
  ∧ IdealRules.named_const.Statement Cert.KernelIdeal.κ "slope2" .f32 0xBF38AA3B#32 (((-1 / 2) * (Real.log 2)⁻¹ : ℝ) : EReal)
  ∧ IdealRules.named_const.Statement Cert.KernelIdeal.κ "slope3" .f32 0xBF0293EE#32 ((((-1 / 2) * (Real.log 2)⁻¹) * (Real.sqrt 2)⁻¹ : ℝ) : EReal)
  ∧ IdealRules.named_const.Statement Cert.KernelIdeal.κ "slope4" .f32 0xBEB8AA3B#32 (((-1 / 4) * (Real.log 2)⁻¹ : ℝ) : EReal)
  ∧ IdealRules.named_const.Statement Cert.KernelIdeal.κ "slope5" .f32 0xBE8293EE#32 ((((-1 / 4) * (Real.log 2)⁻¹) * (Real.sqrt 2)⁻¹ : ℝ) : EReal)
  ∧ IdealRules.named_const.Statement Cert.KernelIdeal.κ "slope6" .f32 0xBE38AA3B#32 (((-1 / 8) * (Real.log 2)⁻¹ : ℝ) : EReal)
  ∧ IdealRules.named_const.Statement Cert.KernelIdeal.κ "slope7" .f32 0xBE0293EE#32 ((((-1 / 8) * (Real.log 2)⁻¹) * (Real.sqrt 2)⁻¹ : ℝ) : EReal)
  ∧ IdealRules.named_const.Statement Cert.KernelIdeal.κ "slope8" .f32 0xBDB8AA3B#32 (((-1 / 16) * (Real.log 2)⁻¹ : ℝ) : EReal)
  ∧ IdealRules.named_const.Statement Cert.KernelIdeal.κ "slope9" .f32 0xBD8293EE#32 ((((-1 / 16) * (Real.log 2)⁻¹) * (Real.sqrt 2)⁻¹ : ℝ) : EReal)
  ∧ IdealRules.named_const.Statement Cert.KernelIdeal.κ "slope10" .f32 0xBD38AA3B#32 (((-1 / 32) * (Real.log 2)⁻¹ : ℝ) : EReal)
  ∧ IdealRules.named_const.Statement Cert.KernelIdeal.κ "slope11" .f32 0xBD0293EE#32 ((((-1 / 32) * (Real.log 2)⁻¹) * (Real.sqrt 2)⁻¹ : ℝ) : EReal)
  ∧ IdealRules.named_const.Statement Cert.KernelIdeal.κ "slope12" .f32 0xBCB8AA3B#32 (((-1 / 64) * (Real.log 2)⁻¹ : ℝ) : EReal)
  ∧ IdealRules.named_const.Statement Cert.KernelIdeal.κ "slope13" .f32 0xBC8293EE#32 ((((-1 / 64) * (Real.log 2)⁻¹) * (Real.sqrt 2)⁻¹ : ℝ) : EReal)
  ∧ IdealRules.named_const.Statement Cert.KernelIdeal.κ "slope14" .f32 0xBC38AA3B#32 (((-1 / 128) * (Real.log 2)⁻¹ : ℝ) : EReal)
  ∧ IdealRules.named_const.Statement Cert.KernelIdeal.κ "slope15" .f32 0xBC0293EE#32 ((((-1 / 128) * (Real.log 2)⁻¹) * (Real.sqrt 2)⁻¹ : ℝ) : EReal)
  ∧ IdealRules.named_const.Statement Cert.KernelIdeal.κ "slope16" .f32 0xBBB8AA3B#32 (((-1 / 256) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S1x8192x16x128 : Shape := ⟨4, ![1, 8192, 16, 128]⟩
abbrev S1x8192x4x128 : Shape := ⟨4, ![1, 8192, 4, 128]⟩
abbrev S1x8192x2048 : Shape := ⟨3, ![1, 8192, 2048]⟩
abbrev S16 : Shape := ⟨1, ![16]⟩
abbrev S4x512x512 : Shape := ⟨3, ![4, 512, 512]⟩
abbrev S2048 : Shape := ⟨1, ![2048]⟩
abbrev S4096x4096 : Shape := ⟨2, ![4096, 4096]⟩
abbrev S_ : Shape := ⟨0, ![]⟩

class Facts : Prop where
  bcast_S_S1x8192x16x128 : S_.BroadcastsInDim S1x8192x16x128 (![] : Fin 0 → Fin S1x8192x16x128.rank)
  reducesTo_S1x8192x16x128_S_d0_1_2_3 : S1x8192x16x128.ReducesTo [0, 1, 2, 3] S_
  h_S_ : 0 < S_.numel
  bcast_S_S1x8192x4x128 : S_.BroadcastsInDim S1x8192x4x128 (![] : Fin 0 → Fin S1x8192x4x128.rank)
  reducesTo_S1x8192x4x128_S_d0_1_2_3 : S1x8192x4x128.ReducesTo [0, 1, 2, 3] S_
  bcast_S_S1x8192x2048 : S_.BroadcastsInDim S1x8192x2048 (![] : Fin 0 → Fin S1x8192x2048.rank)
  reducesTo_S1x8192x2048_S_d0_1_2 : S1x8192x2048.ReducesTo [0, 1, 2] S_

variable [Facts]

def fn {F : FTy → Type} [FloatOps F] (main_arg0 : FVec F S1x8192x16x128 .f32) (main_arg1 : FVec F S1x8192x4x128 .f32) (main_arg2 : FVec F S1x8192x4x128 .f32) (main_arg3 : FVec F S1x8192x2048 .f32) (main_arg4 : FVec F S16 .f32) (main_arg5 : FVec F S4x512x512 .f32) (main_arg6 : FVec F S2048 .f32) (main_arg7 : FVec F S4096x4096 .f32) : IVec S_ 1 :=
  let main_v0 : FVec F S1x8192x16x128 .f32 := Host.absf main_arg0
  let main_cst : FVec F S_ .f32 := constant S_ .f32 0x7F800000#32
  let main_v1 : FVec F S1x8192x16x128 .f32 := broadcastInDim S1x8192x16x128 ![] bcast_S_S1x8192x16x128 main_cst
  let main_v2 : IVec S1x8192x16x128 1 := cmpf .olt main_v0 main_v1
  let main_c : IVec S_ 1 := constantI S_ 1 1#1
  let main_v3 : IVec S_ 1 := (fun x v => Host.reduce IntOp.andi x v reducesTo_S1x8192x16x128_S_d0_1_2_3 h_S_) main_v2 main_c
  let main_v4 : FVec F S1x8192x4x128 .f32 := Host.absf main_arg1
  let main_cst_0 : FVec F S_ .f32 := constant S_ .f32 0x7F800000#32
  let main_v5 : FVec F S1x8192x4x128 .f32 := broadcastInDim S1x8192x4x128 ![] bcast_S_S1x8192x4x128 main_cst_0
  let main_v6 : IVec S1x8192x4x128 1 := cmpf .olt main_v4 main_v5
  let main_c_1 : IVec S_ 1 := constantI S_ 1 1#1
  let main_v7 : IVec S_ 1 := (fun x v => Host.reduce IntOp.andi x v reducesTo_S1x8192x4x128_S_d0_1_2_3 h_S_) main_v6 main_c_1
  let main_v8 : IVec S_ 1 := andi main_v3 main_v7
  let main_v9 : FVec F S1x8192x2048 .f32 := Host.absf main_arg3
  let main_cst_2 : FVec F S_ .f32 := constant S_ .f32 0x7F800000#32
  let main_v10 : FVec F S1x8192x2048 .f32 := broadcastInDim S1x8192x2048 ![] bcast_S_S1x8192x2048 main_cst_2
  let main_v11 : IVec S1x8192x2048 1 := cmpf .olt main_v9 main_v10
  let main_c_3 : IVec S_ 1 := constantI S_ 1 1#1
  let main_v12 : IVec S_ 1 := (fun x v => Host.reduce IntOp.andi x v reducesTo_S1x8192x2048_S_d0_1_2 h_S_) main_v11 main_c_3
  let main_v13 : IVec S_ 1 := andi main_v8 main_v12
  main_v13
-- ==== Kernel.lean ====
abbrev S1x8192x16x128 : Shape := ⟨4, ![1, 8192, 16, 128]⟩
abbrev S1x8192x4x128 : Shape := ⟨4, ![1, 8192, 4, 128]⟩
abbrev S1x8192x2048 : Shape := ⟨3, ![1, 8192, 2048]⟩
abbrev S16 : Shape := ⟨1, ![16]⟩
abbrev S4x512x512 : Shape := ⟨3, ![4, 512, 512]⟩
abbrev S2048 : Shape := ⟨1, ![2048]⟩
abbrev S4096x4096 : Shape := ⟨2, ![4096, 4096]⟩
abbrev S8192x2048 : Shape := ⟨2, ![8192, 2048]⟩
abbrev S_ : Shape := ⟨0, ![]⟩
abbrev S8192x512 : Shape := ⟨2, ![8192, 512]⟩
abbrev S8192x5120 : Shape := ⟨2, ![8192, 5120]⟩
abbrev S1x2048 : Shape := ⟨2, ![1, 2048]⟩
abbrev S8192x4096 : Shape := ⟨2, ![8192, 4096]⟩
abbrev S256x2048 : Shape := ⟨2, ![256, 2048]⟩
abbrev S128x1024 : Shape := ⟨2, ![128, 1024]⟩
abbrev S256x1024 : Shape := ⟨2, ![256, 1024]⟩
abbrev S16x2048 : Shape := ⟨2, ![16, 2048]⟩
abbrev S128x4096 : Shape := ⟨2, ![128, 4096]⟩
abbrev S256x4096 : Shape := ⟨2, ![256, 4096]⟩
abbrev S48x128x384 : Shape := ⟨3, ![48, 128, 384]⟩
abbrev S4x256x288 : Shape := ⟨3, ![4, 256, 288]⟩
abbrev S128x384 : Shape := ⟨2, ![128, 384]⟩
abbrev S1x128x384 : Shape := ⟨3, ![1, 128, 384]⟩
abbrev S256x288 : Shape := ⟨2, ![256, 288]⟩
abbrev S1x256x288 : Shape := ⟨3, ![1, 256, 288]⟩
abbrev S512x1 : Shape := ⟨2, ![512, 1]⟩
abbrev S384x128 : Shape := ⟨2, ![384, 128]⟩
abbrev S288x2048 : Shape := ⟨2, ![288, 2048]⟩
abbrev S256x1 : Shape := ⟨2, ![256, 1]⟩
abbrev S128x128 : Shape := ⟨2, ![128, 128]⟩
abbrev S256x128 : Shape := ⟨2, ![256, 128]⟩
abbrev S512x128 : Shape := ⟨2, ![512, 128]⟩
abbrev S1 : Shape := ⟨1, ![1]⟩
abbrev S512x384 : Shape := ⟨2, ![512, 384]⟩
abbrev S4x128x384 : Shape := ⟨3, ![4, 128, 384]⟩
abbrev S512 : Shape := ⟨1, ![512]⟩
abbrev S384x256 : Shape := ⟨2, ![384, 256]⟩
abbrev S512x256 : Shape := ⟨2, ![512, 256]⟩
abbrev S288x512 : Shape := ⟨2, ![288, 512]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 23
  | .vmem => 24
  | .smem => 1
  | _ => 0

abbrev bufTy : (tb : Table) → Fin (tcTables nBuf tb) → BufTy
  | .hbm, ⟨0, _⟩ => ⟨S1x8192x16x128, .f32⟩
  | .hbm, ⟨1, _⟩ => ⟨S1x8192x4x128, .f32⟩
  | .hbm, ⟨2, _⟩ => ⟨S1x8192x4x128, .f32⟩
  | .hbm, ⟨3, _⟩ => ⟨S1x8192x2048, .f32⟩
  | .hbm, ⟨4, _⟩ => ⟨S16, .f32⟩
  | .hbm, ⟨5, _⟩ => ⟨S4x512x512, .f32⟩
  | .hbm, ⟨6, _⟩ => ⟨S2048, .f32⟩
  | .hbm, ⟨7, _⟩ => ⟨S4096x4096, .f32⟩
  | .hbm, ⟨8, _⟩ => ⟨S8192x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x512, .f32⟩
  | .hbm, ⟨16, _⟩ => ⟨S8192x512, .f32⟩
  | .hbm, ⟨17, _⟩ => ⟨S8192x5120, .f32⟩
  | .hbm, ⟨18, _⟩ => ⟨S8192x5120, .bf16⟩
  | .hbm, ⟨19, _⟩ => ⟨S4x512x512, .bf16⟩
  | .hbm, ⟨20, _⟩ => ⟨S1x2048, .f32⟩
  | .hbm, ⟨21, _⟩ => ⟨S8192x4096, .bf16⟩
  | .hbm, ⟨22, _⟩ => ⟨S4096x4096, .bf16⟩
  | .local _ .vmem, ⟨0, _⟩ => ⟨S256x2048, .bf16⟩
  | .local _ .vmem, ⟨1, _⟩ => ⟨S256x2048, .bf16⟩
  | .local _ .vmem, ⟨2, _⟩ => ⟨S128x1024, .bf16⟩
  | .local _ .vmem, ⟨3, _⟩ => ⟨S128x1024, .bf16⟩
  | .local _ .vmem, ⟨4, _⟩ => ⟨S256x1024, .bf16⟩
  | .local _ .vmem, ⟨5, _⟩ => ⟨S256x1024, .bf16⟩
  | .local _ .vmem, ⟨6, _⟩ => ⟨S128x1024, .bf16⟩
  | .local _ .vmem, ⟨7, _⟩ => ⟨S128x1024, .bf16⟩
  | .local _ .vmem, ⟨8, _⟩ => ⟨S16x2048, .bf16⟩
  | .local _ .vmem, ⟨9, _⟩ => ⟨S16x2048, .bf16⟩
  | .local _ .vmem, ⟨10, _⟩ => ⟨S256x2048, .bf16⟩
  | .local _ .vmem, ⟨11, _⟩ => ⟨S256x2048, .bf16⟩
  | .local _ .vmem, ⟨12, _⟩ => ⟨S16x2048, .bf16⟩
  | .local _ .vmem, ⟨13, _⟩ => ⟨S16x2048, .bf16⟩
  | .local _ .vmem, ⟨14, _⟩ => ⟨S4x512x512, .bf16⟩
  | .local _ .vmem, ⟨15, _⟩ => ⟨S1x2048, .f32⟩
  | .local _ .vmem, ⟨16, _⟩ => ⟨S128x4096, .f32⟩
  | .local _ .vmem, ⟨17, _⟩ => ⟨S128x4096, .f32⟩
  | .local _ .vmem, ⟨18, _⟩ => ⟨S256x4096, .bf16⟩
  | .local _ .vmem, ⟨19, _⟩ => ⟨S256x4096, .bf16⟩
  | .local _ .vmem, ⟨20, _⟩ => ⟨S128x4096, .bf16⟩
  | .local _ .vmem, ⟨21, _⟩ => ⟨S128x4096, .bf16⟩
  | .local _ .vmem, ⟨22, _⟩ => ⟨S48x128x384, .f32⟩
  | .local _ .vmem, ⟨23, _⟩ => ⟨S4x256x288, .bf16⟩
  | .local _ .smem, ⟨0, _⟩ => ⟨S16, .f32⟩
  | _, _ => ⟨S1x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def k0_off1 (i : grid0.Coords) (c0_i32_4 : BitVec 32) (c1_i32_36 : BitVec 32) (c0_i32_44 : BitVec 32) : Fin 3 → Nat :=
  let arg0 : BitVec 32 := BitVec.ofNat 32 (i 0).val
  let v6 : BitVec 1 := Scalar.cmpi .eq arg0 c0_i32_4
  let c0_i32_37 : BitVec 32 := 0#32
  let v84 : BitVec 32 := Scalar.select v6 c1_i32_36 c0_i32_37
  let c16_i32 : BitVec 32 := 16#32
  let v97 : BitVec 32 := Scalar.muli v84 c16_i32
  let v98 : BitVec 32 := Scalar.addi v97 c0_i32_44
  let v99 : Index := Scalar.indexCast v98
  let c0_45 : Index := 0#32
  let c0_46 : Index := 0#32
  ![v99.toNat, 0, 0]
def k0_off1_at (r : Fin 8) : BitVec 32 × BitVec 32 × BitVec 32 :=
  if r.val < 4 then
    if r.val < 2 then
      if r.val < 1 then
        (0#32, 1#32, 0#32)
      else
        (31#32, 2#32, 0#32)
    else
      if r.val < 3 then
        (0#32, 1#32, 4#32)
      else
        (31#32, 2#32, 4#32)
  else
    if r.val < 6 then
      if r.val < 5 then
        (0#32, 1#32, 8#32)
      else
        (31#32, 2#32, 8#32)
    else
      if r.val < 7 then
        (0#32, 1#32, 12#32)
      else
        (31#32, 2#32, 12#32)
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c63_i32 : BitVec 32 := 63#32
  let v2 : BitVec 32 := Scalar.minsi v1 c63_i32
  let c4_i32 : BitVec 32 := 4#32
  let c0_i32 : BitVec 32 := 0#32
  ![v2.toNat, c4_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "slope1" => some ((((-1) * (Real.log 2)⁻¹) * (Real.sqrt 2)⁻¹ : ℝ) : EReal)
  | "slope10" => some (((-1 / 32) * (Real.log 2)⁻¹ : ℝ) : EReal)
  | "slope11" => some ((((-1 / 32) * (Real.log 2)⁻¹) * (Real.sqrt 2)⁻¹ : ℝ) : EReal)
  | "slope12" => some (((-1 / 64) * (Real.log 2)⁻¹ : ℝ) : EReal)
  | "slope13" => some ((((-1 / 64) * (Real.log 2)⁻¹) * (Real.sqrt 2)⁻¹ : ℝ) : EReal)
  | "slope14" => some (((-1 / 128) * (Real.log 2)⁻¹ : ℝ) : EReal)
  | "slope15" => some ((((-1 / 128) * (Real.log 2)⁻¹) * (Real.sqrt 2)⁻¹ : ℝ) : EReal)
  | "slope16" => some (((-1 / 256) * (Real.log 2)⁻¹ : ℝ) : EReal)
  | "slope2" => some (((-1 / 2) * (Real.log 2)⁻¹ : ℝ) : EReal)
  | "slope3" => some ((((-1 / 2) * (Real.log 2)⁻¹) * (Real.sqrt 2)⁻¹ : ℝ) : EReal)
  | "slope4" => some (((-1 / 4) * (Real.log 2)⁻¹ : ℝ) : EReal)
  | "slope5" => some ((((-1 / 4) * (Real.log 2)⁻¹) * (Real.sqrt 2)⁻¹ : ℝ) : EReal)
  | "slope6" => some (((-1 / 8) * (Real.log 2)⁻¹ : ℝ) : EReal)
  | "slope7" => some ((((-1 / 8) * (Real.log 2)⁻¹) * (Real.sqrt 2)⁻¹ : ℝ) : EReal)
  | "slope8" => some (((-1 / 16) * (Real.log 2)⁻¹ : ℝ) : EReal)
  | "slope9" => some ((((-1 / 16) * (Real.log 2)⁻¹) * (Real.sqrt 2)⁻¹ : ℝ) : EReal)
  | _ => none
-- ==== ReferenceIdeal.lean ====
abbrev S1x8192x16x128 : Shape := ⟨4, ![1, 8192, 16, 128]⟩
abbrev S1x8192x4x128 : Shape := ⟨4, ![1, 8192, 4, 128]⟩
abbrev S1x8192x2048 : Shape := ⟨3, ![1, 8192, 2048]⟩
abbrev S16 : Shape := ⟨1, ![16]⟩
abbrev S4x512x512 : Shape := ⟨3, ![4, 512, 512]⟩
abbrev S2048 : Shape := ⟨1, ![2048]⟩
abbrev S4096x4096 : Shape := ⟨2, ![4096, 4096]⟩
abbrev S_ : Shape := ⟨0, ![]⟩
abbrev S1x8448x4x128 : Shape := ⟨4, ![1, 8448, 4, 128]⟩
abbrev S1x66x128x4x128 : Shape := ⟨5, ![1, 66, 128, 4, 128]⟩
abbrev S1x64x128x4x128 : Shape := ⟨5, ![1, 64, 128, 4, 128]⟩
abbrev S1x64x384x4x128 : Shape := ⟨5, ![1, 64, 384, 4, 128]⟩
abbrev S1x64x128x4x4x128 : Shape := ⟨6, ![1, 64, 128, 4, 4, 128]⟩
abbrev S1x64x4x384x128x4 : Shape := ⟨6, ![1, 64, 4, 384, 128, 4]⟩
abbrev S1x64x4x4x128x384 : Shape := ⟨6, ![1, 64, 4, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S4x4x1x1 : Shape := ⟨4, ![4, 4, 1, 1]⟩
abbrev S1x1x128x384 : Shape := ⟨4, ![1, 1, 128, 384]⟩
abbrev S4x4x128x384 : Shape := ⟨4, ![4, 4, 128, 384]⟩
abbrev S1x64x1x1x128x384 : Shape := ⟨6, ![1, 64, 1, 1, 128, 384]⟩
abbrev S1x1x4x4x128x384 : Shape := ⟨6, ![1, 1, 4, 4, 128, 384]⟩
abbrev S1x1x4x4x1x1 : Shape := ⟨6, ![1, 1, 4, 4, 1, 1]⟩
abbrev S1x64x4x4x128 : Shape := ⟨5, ![1, 64, 4, 4, 128]⟩
abbrev S1x64x4x4x128x1 : Shape := ⟨6, ![1, 64, 4, 4, 128, 1]⟩
abbrev S1x64x4x128x4x128 : Shape := ⟨6, ![1, 64, 4, 128, 4, 128]⟩
abbrev S1x8192x4x512 : Shape := ⟨4, ![1, 8192, 4, 512]⟩
abbrev S1x1x4x512 : Shape := ⟨4, ![1, 1, 4, 512]⟩
abbrev S1x8193x4x512 : Shape := ⟨4, ![1, 8193, 4, 512]⟩
abbrev S8192 : Shape := ⟨1, ![8192]⟩
abbrev S1x8193x1x512 : Shape := ⟨4, ![1, 8193, 1, 512]⟩
abbrev S1x8193x512 : Shape := ⟨3, ![1, 8193, 512]⟩
abbrev S8192x1 : Shape := ⟨2, ![8192, 1]⟩
abbrev S1 : Shape := ⟨1, ![1]⟩
abbrev S1x1 : Shape := ⟨2, ![1, 1]⟩
abbrev S1x8192x512 : Shape := ⟨3, ![1, 8192, 512]⟩
abbrev S1x8192x1 : Shape := ⟨3, ![1, 8192, 1]⟩
abbrev S1x8192x1x512 : Shape := ⟨4, ![1, 8192, 1, 512]⟩
abbrev S4x512x1x8192 : Shape := ⟨4, ![4, 512, 1, 8192]⟩
abbrev S1x1x2048 : Shape := ⟨3, ![1, 1, 2048]⟩
abbrev S1x8192x4096 : Shape := ⟨3, ![1, 8192, 4096]⟩
abbrev S8192x4096 : Shape := ⟨2, ![8192, 4096]⟩

abbrev nBuf : Space → Nat
  | .hbm => 478
  | .vmem => 0
  | .smem => 0
  | _ => 0

abbrev hbmTy0_0 (i : Nat) : BufTy := match i % 128 with
  | 0 => ⟨S1x8192x16x128, .f32⟩
  | 1 => ⟨S1x8192x4x128, .f32⟩
  | 2 => ⟨S1x8192x4x128, .f32⟩
  | 3 => ⟨S1x8192x2048, .f32⟩
  | 4 => ⟨S16, .f32⟩
  | 5 => ⟨S4x512x512, .f32⟩
  | 6 => ⟨S2048, .f32⟩
  | 7 => ⟨S4096x4096, .f32⟩
  | 8 => ⟨S_, .i32⟩
  | 9 => ⟨S_, .f32⟩
  | 10 => ⟨S1x8448x4x128, .f32⟩
  | 11 => ⟨S1x66x128x4x128, .f32⟩
  | 12 => ⟨S_, .i32⟩
  | 13 => ⟨S_, .f32⟩
  | 14 => ⟨S1x8448x4x128, .f32⟩
  | 15 => ⟨S1x66x128x4x128, .f32⟩
  | 16 => ⟨S1x64x128x4x128, .f32⟩
  | 17 => ⟨S1x64x128x4x128, .f32⟩
  | 18 => ⟨S1x64x128x4x128, .f32⟩
  | 19 => ⟨S1x64x384x4x128, .f32⟩
  | 20 => ⟨S1x64x128x4x128, .f32⟩
  | 21 => ⟨S1x64x128x4x128, .f32⟩
  | 22 => ⟨S1x64x128x4x128, .f32⟩
  | 23 => ⟨S1x64x384x4x128, .f32⟩
  | 24 => ⟨S1x64x128x4x4x128, .f32⟩
  | 25 => ⟨S1x64x4x384x128x4, .f32⟩
  | 26 => ⟨S1x64x4x4x128x384, .f32⟩
  | 27 => ⟨S128, .i32⟩
  | 28 => ⟨S128x1, .i32⟩
  | 29 => ⟨S384, .i32⟩
  | 30 => ⟨S1x384, .i32⟩
  | 31 => ⟨S_, .i32⟩
  | 32 => ⟨S1x384, .i32⟩
  | 33 => ⟨S1x384, .i32⟩
  | 34 => ⟨S128x384, .i32⟩
  | 35 => ⟨S128x384, .i32⟩
  | 36 => ⟨S128x384, .i32⟩
  | 37 => ⟨S64, .i32⟩
  | 38 => ⟨S64x1, .i32⟩
  | 39 => ⟨S_, .i32⟩
  | 40 => ⟨S64x1, .i32⟩
  | 41 => ⟨S64x1, .i32⟩
  | 42 => ⟨S_, .i32⟩
  | 43 => ⟨S64x1, .i32⟩
  | 44 => ⟨S64x1, .i32⟩
  | 45 => ⟨S384, .i32⟩
  | 46 => ⟨S1x384, .i32⟩
  | 47 => ⟨S64x384, .i32⟩
  | 48 => ⟨S64x384, .i32⟩
  | 49 => ⟨S64x384, .i32⟩
  | 50 => ⟨S128x384, .i32⟩
  | 51 => ⟨S_, .i32⟩
  | 52 => ⟨S128x384, .i32⟩
  | 53 => ⟨S128x384, .i1⟩
  | 54 => ⟨S1x128x384, .i1⟩
  | 55 => ⟨S_, .i32⟩
  | 56 => ⟨S64x384, .i32⟩
  | 57 => ⟨S64x384, .i1⟩
  | 58 => ⟨S_, .i32⟩
  | 59 => ⟨S64x384, .i32⟩
  | 60 => ⟨S64x384, .i1⟩
  | 61 => ⟨S64x384, .i1⟩
  | 62 => ⟨S64x1x384, .i1⟩
  | 63 => ⟨S64x128x384, .i1⟩
  | 64 => ⟨S64x128x384, .i1⟩
  | 65 => ⟨S64x128x384, .i1⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S4x4x1x1, .f32⟩
  | 80 => ⟨S4x4x1x1, .f32⟩
  | 81 => ⟨S128x384, .i32⟩
  | 82 => ⟨S128x384, .f32⟩
  | 83 => ⟨S1x1x128x384, .f32⟩
  | 84 => ⟨S4x4x128x384, .f32⟩
  | 85 => ⟨S4x4x128x384, .f32⟩
  | 86 => ⟨S4x4x128x384, .f32⟩
  | 87 => ⟨S1x64x1x1x128x384, .i1⟩
  | 88 => ⟨S1x1x4x4x128x384, .f32⟩
  | 89 => ⟨S1x64x4x4x128x384, .f32⟩
  | 90 => ⟨S1x64x4x4x128x384, .f32⟩
  | 91 => ⟨S_, .f32⟩
  | 92 => ⟨S_, .f32⟩
  | 93 => ⟨S1x64x4x4x128x384, .i1⟩
  | 94 => ⟨S1x64x4x4x128x384, .f32⟩
  | 95 => ⟨S1x64x4x4x128x384, .f32⟩
  | 96 => ⟨S1x1x4x4x1x1, .f32⟩
  | 97 => ⟨S_, .f32⟩
  | 98 => ⟨S1x64x4x4x128, .f32⟩
  | 99 => ⟨S1x64x4x4x128x1, .f32⟩
  | 100 => ⟨S1x64x4x4x128x384, .f32⟩
  | 101 => ⟨S1x64x4x4x128x384, .f32⟩
  | 102 => ⟨S1x64x4x4x128x384, .f32⟩
  | 103 => ⟨S_, .f32⟩
  | 104 => ⟨S1x64x4x4x128, .f32⟩
  | 105 => ⟨S1x64x4x4x128x1, .f32⟩
  | 106 => ⟨S1x64x4x4x128x1, .f32⟩
  | 107 => ⟨S1x64x4x4x128x1, .f32⟩
  | 108 => ⟨S1x64x4x4x128x1, .f32⟩
  | 109 => ⟨S1x64x4x4x128x1, .f32⟩
  | 110 => ⟨S1x64x4x4x128x1, .f32⟩
  | 111 => ⟨S1x64x4x4x128x1, .f32⟩
  | 112 => ⟨S1x64x4x4x128x1, .i1⟩
  | 113 => ⟨S1x64x4x4x128x1, .f32⟩
  | 114 => ⟨S1x64x4x4x128x1, .f32⟩
  | 115 => ⟨S1x64x4x4x128x1, .f32⟩
  | 116 => ⟨S1x64x4x4x128x1, .f32⟩
  | 117 => ⟨S1x64x4x4x128x1, .f32⟩
  | 118 => ⟨S1x64x4x4x128x1, .f32⟩
  | 119 => ⟨S1x64x4x4x128x1, .f32⟩
  | 120 => ⟨S1x64x4x4x128x1, .f32⟩
  | 121 => ⟨S1x64x4x4x128x384, .f32⟩
  | 122 => ⟨S1x64x4x4x128x384, .f32⟩
  | 123 => ⟨S1x64x4x4x128x384, .f32⟩
  | 124 => ⟨S1x64x4x128x4x128, .f32⟩
  | 125 => ⟨S1x64x128x4x4x128, .f32⟩
  | 126 => ⟨S1x8192x2048, .f32⟩
  | 127 => ⟨S1x8192x4x512, .f32⟩
  | _ => ⟨S1x8192x16x128, .f32⟩

abbrev hbmTy0_1 (i : Nat) : BufTy := match i % 128 with
  | 0 => ⟨S_, .f32⟩
  | 1 => ⟨S1x1x4x512, .f32⟩
  | 2 => ⟨S_, .f32⟩
  | 3 => ⟨S_, .f32⟩
  | 4 => ⟨S1x8192x4x512, .f32⟩
  | 5 => ⟨S1x8193x4x512, .f32⟩
  | 6 => ⟨S8192, .i32⟩
  | 7 => ⟨S_, .i32⟩
  | 8 => ⟨S8192, .i32⟩
  | 9 => ⟨S8192, .i32⟩
  | 10 => ⟨S_, .i32⟩
  | 11 => ⟨S_, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S_, .i32⟩
  | 25 => ⟨S_, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S1x8193x1x512, .f32⟩
  | 33 => ⟨S1x8193x512, .f32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S1, .i32⟩
  | 43 => ⟨S_, .i32⟩
  | 44 => ⟨S8192x1, .i32⟩
  | 45 => ⟨S8192x1, .i1⟩
  | 46 => ⟨S1x1, .i32⟩
  | 47 => ⟨S8192x1, .i32⟩
  | 48 => ⟨S8192x1, .i1⟩
  | 49 => ⟨S8192x1, .i1⟩
  | 50 => ⟨S_, .i1⟩
  | 51 => ⟨S8192, .i1⟩
  | 52 => ⟨S1x8192x512, .f32⟩
  | 53 => ⟨S1x8192x512, .i1⟩
  | 54 => ⟨S_, .f32⟩
  | 55 => ⟨S1x8192x512, .f32⟩
  | 56 => ⟨S1x8192x512, .f32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S1, .i32⟩
  | 66 => ⟨S_, .i32⟩
  | 67 => ⟨S8192x1, .i32⟩
  | 68 => ⟨S8192x1, .i1⟩
  | 69 => ⟨S1x1, .i32⟩
  | 70 => ⟨S8192x1, .i32⟩
  | 71 => ⟨S8192x1, .i1⟩
  | 72 => ⟨S8192x1, .i1⟩
  | 73 => ⟨S_, .i1⟩
  | 74 => ⟨S8192, .i1⟩
  | 75 => ⟨S1x8192x512, .f32⟩
  | 76 => ⟨S1x8192x512, .i1⟩
  | 77 => ⟨S_, .f32⟩
  | 78 => ⟨S1x8192x512, .f32⟩
  | 79 => ⟨S1x8192x512, .f32⟩
  | 80 => ⟨S1x8192x512, .f32⟩
  | 81 => ⟨S8192, .i32⟩
  | 82 => ⟨S8192, .f32⟩
  | 83 => ⟨S1x8192x1, .f32⟩
  | 84 => ⟨S1x8192x512, .f32⟩
  | 85 => ⟨S1x8192x512, .f32⟩
  | 86 => ⟨S1x8192x1x512, .f32⟩
  | 87 => ⟨S1x8192x512, .f32⟩
  | 88 => ⟨S1x8192x512, .f32⟩
  | 89 => ⟨S_, .i32⟩
  | 90 => ⟨S8192, .i32⟩
  | 91 => ⟨S8192, .i32⟩
  | 92 => ⟨S_, .i32⟩
  | 93 => ⟨S_, .i32⟩
  | 94 => ⟨S_, .i32⟩
  | 95 => ⟨S8192, .i32⟩
  | 96 => ⟨S8192, .i32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S_, .i32⟩
  | 107 => ⟨S_, .i32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S1x8193x1x512, .f32⟩
  | 115 => ⟨S1x8193x512, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S1, .i32⟩
  | 125 => ⟨S_, .i32⟩
  | 126 => ⟨S8192x1, .i32⟩
  | 127 => ⟨S8192x1, .i1⟩
  | _ => ⟨S1x8192x16x128, .f32⟩

abbrev hbmTy0_2 (i : Nat) : BufTy := match i % 128 with
  | 0 => ⟨S1x1, .i32⟩
  | 1 => ⟨S8192x1, .i32⟩
  | 2 => ⟨S8192x1, .i1⟩
  | 3 => ⟨S8192x1, .i1⟩
  | 4 => ⟨S_, .i1⟩
  | 5 => ⟨S8192, .i1⟩
  | 6 => ⟨S1x8192x512, .f32⟩
  | 7 => ⟨S1x8192x512, .i1⟩
  | 8 => ⟨S_, .f32⟩
  | 9 => ⟨S1x8192x512, .f32⟩
  | 10 => ⟨S1x8192x512, .f32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S1, .i32⟩
  | 20 => ⟨S_, .i32⟩
  | 21 => ⟨S8192x1, .i32⟩
  | 22 => ⟨S8192x1, .i1⟩
  | 23 => ⟨S1x1, .i32⟩
  | 24 => ⟨S8192x1, .i32⟩
  | 25 => ⟨S8192x1, .i1⟩
  | 26 => ⟨S8192x1, .i1⟩
  | 27 => ⟨S_, .i1⟩
  | 28 => ⟨S8192, .i1⟩
  | 29 => ⟨S1x8192x512, .f32⟩
  | 30 => ⟨S1x8192x512, .i1⟩
  | 31 => ⟨S_, .f32⟩
  | 32 => ⟨S1x8192x512, .f32⟩
  | 33 => ⟨S1x8192x512, .f32⟩
  | 34 => ⟨S1x8192x512, .f32⟩
  | 35 => ⟨S8192, .i32⟩
  | 36 => ⟨S8192, .f32⟩
  | 37 => ⟨S1x8192x1, .f32⟩
  | 38 => ⟨S1x8192x512, .f32⟩
  | 39 => ⟨S1x8192x512, .f32⟩
  | 40 => ⟨S1x8192x1x512, .f32⟩
  | 41 => ⟨S1x8192x512, .f32⟩
  | 42 => ⟨S1x8192x512, .f32⟩
  | 43 => ⟨S_, .i32⟩
  | 44 => ⟨S8192, .i32⟩
  | 45 => ⟨S8192, .i32⟩
  | 46 => ⟨S_, .i32⟩
  | 47 => ⟨S_, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S_, .i32⟩
  | 55 => ⟨S8192, .i32⟩
  | 56 => ⟨S8192, .i32⟩
  | 57 => ⟨S_, .i32⟩
  | 58 => ⟨S8192, .i32⟩
  | 59 => ⟨S8192, .i32⟩
  | 60 => ⟨S_, .i32⟩
  | 61 => ⟨S_, .i32⟩
  | 62 => ⟨S_, .i32⟩
  | 63 => ⟨S8192, .i32⟩
  | 64 => ⟨S8192, .i32⟩
  | 65 => ⟨S_, .i32⟩
  | 66 => ⟨S8192, .i32⟩
  | 67 => ⟨S8192, .i32⟩
  | 68 => ⟨S1x8193x1x512, .f32⟩
  | 69 => ⟨S1x8193x512, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S1, .i32⟩
  | 79 => ⟨S_, .i32⟩
  | 80 => ⟨S8192x1, .i32⟩
  | 81 => ⟨S8192x1, .i1⟩
  | 82 => ⟨S1x1, .i32⟩
  | 83 => ⟨S8192x1, .i32⟩
  | 84 => ⟨S8192x1, .i1⟩
  | 85 => ⟨S8192x1, .i1⟩
  | 86 => ⟨S_, .i1⟩
  | 87 => ⟨S8192, .i1⟩
  | 88 => ⟨S1x8192x512, .f32⟩
  | 89 => ⟨S1x8192x512, .i1⟩
  | 90 => ⟨S_, .f32⟩
  | 91 => ⟨S1x8192x512, .f32⟩
  | 92 => ⟨S1x8192x512, .f32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S8192x1, .i32⟩
  | 101 => ⟨S1, .i32⟩
  | 102 => ⟨S_, .i32⟩
  | 103 => ⟨S8192x1, .i32⟩
  | 104 => ⟨S8192x1, .i1⟩
  | 105 => ⟨S1x1, .i32⟩
  | 106 => ⟨S8192x1, .i32⟩
  | 107 => ⟨S8192x1, .i1⟩
  | 108 => ⟨S8192x1, .i1⟩
  | 109 => ⟨S_, .i1⟩
  | 110 => ⟨S8192, .i1⟩
  | 111 => ⟨S1x8192x512, .f32⟩
  | 112 => ⟨S1x8192x512, .i1⟩
  | 113 => ⟨S_, .f32⟩
  | 114 => ⟨S1x8192x512, .f32⟩
  | 115 => ⟨S1x8192x512, .f32⟩
  | 116 => ⟨S1x8192x512, .f32⟩
  | 117 => ⟨S8192, .i32⟩
  | 118 => ⟨S8192, .f32⟩
  | 119 => ⟨S1x8192x1, .f32⟩
  | 120 => ⟨S1x8192x512, .f32⟩
  | 121 => ⟨S1x8192x512, .f32⟩
  | 122 => ⟨S1x8192x1x512, .f32⟩
  | 123 => ⟨S1x8192x512, .f32⟩
  | 124 => ⟨S1x8192x512, .f32⟩
  | 125 => ⟨S_, .i32⟩
  | 126 => ⟨S8192, .i32⟩
  | 127 => ⟨S8192, .i32⟩
  | _ => ⟨S1x8192x16x128, .f32⟩

abbrev hbmTy0_3 (i : Nat) : BufTy := match i % 128 with
  | 0 => ⟨S_, .i32⟩
  | 1 => ⟨S_, .i32⟩
  | 2 => ⟨S_, .i32⟩
  | 3 => ⟨S8192, .i32⟩
  | 4 => ⟨S8192, .i32⟩
  | 5 => ⟨S_, .i32⟩
  | 6 => ⟨S8192, .i32⟩
  | 7 => ⟨S8192, .i32⟩
  | 8 => ⟨S_, .i32⟩
  | 9 => ⟨S8192, .i32⟩
  | 10 => ⟨S8192, .i32⟩
  | 11 => ⟨S_, .i32⟩
  | 12 => ⟨S8192, .i32⟩
  | 13 => ⟨S8192, .i32⟩
  | 14 => ⟨S_, .i32⟩
  | 15 => ⟨S_, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S1x8193x1x512, .f32⟩
  | 23 => ⟨S1x8193x512, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S1, .i32⟩
  | 33 => ⟨S_, .i32⟩
  | 34 => ⟨S8192x1, .i32⟩
  | 35 => ⟨S8192x1, .i1⟩
  | 36 => ⟨S1x1, .i32⟩
  | 37 => ⟨S8192x1, .i32⟩
  | 38 => ⟨S8192x1, .i1⟩
  | 39 => ⟨S8192x1, .i1⟩
  | 40 => ⟨S_, .i1⟩
  | 41 => ⟨S8192, .i1⟩
  | 42 => ⟨S1x8192x512, .f32⟩
  | 43 => ⟨S1x8192x512, .i1⟩
  | 44 => ⟨S_, .f32⟩
  | 45 => ⟨S1x8192x512, .f32⟩
  | 46 => ⟨S1x8192x512, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S1, .i32⟩
  | 56 => ⟨S_, .i32⟩
  | 57 => ⟨S8192x1, .i32⟩
  | 58 => ⟨S8192x1, .i1⟩
  | 59 => ⟨S1x1, .i32⟩
  | 60 => ⟨S8192x1, .i32⟩
  | 61 => ⟨S8192x1, .i1⟩
  | 62 => ⟨S8192x1, .i1⟩
  | 63 => ⟨S_, .i1⟩
  | 64 => ⟨S8192, .i1⟩
  | 65 => ⟨S1x8192x512, .f32⟩
  | 66 => ⟨S1x8192x512, .i1⟩
  | 67 => ⟨S_, .f32⟩
  | 68 => ⟨S1x8192x512, .f32⟩
  | 69 => ⟨S1x8192x512, .f32⟩
  | 70 => ⟨S1x8192x512, .f32⟩
  | 71 => ⟨S8192, .i32⟩
  | 72 => ⟨S8192, .f32⟩
  | 73 => ⟨S1x8192x1, .f32⟩
  | 74 => ⟨S1x8192x512, .f32⟩
  | 75 => ⟨S1x8192x512, .f32⟩
  | 76 => ⟨S1x8192x1x512, .f32⟩
  | 77 => ⟨S1x8192x512, .f32⟩
  | 78 => ⟨S1x8192x512, .f32⟩
  | 79 => ⟨S1x8192x1x512, .f32⟩
  | 80 => ⟨S1x8192x1x512, .f32⟩
  | 81 => ⟨S1x8192x1x512, .f32⟩
  | 82 => ⟨S1x8192x1x512, .f32⟩
  | 83 => ⟨S1x8192x4x512, .f32⟩
  | 84 => ⟨S4x512x1x8192, .f32⟩
  | 85 => ⟨S1x8192x4x512, .f32⟩
  | 86 => ⟨S1x8192x2048, .f32⟩
  | 87 => ⟨S1x1x2048, .f32⟩
  | 88 => ⟨S1x8192x2048, .f32⟩
  | 89 => ⟨S1x8192x2048, .f32⟩
  | 90 => ⟨S1x8192x4096, .f32⟩
  | 91 => ⟨S8192x4096, .f32⟩
  | 92 => ⟨S8192x4096, .bf16⟩
  | 93 => ⟨S4096x4096, .bf16⟩
  | _ => ⟨S1x8192x16x128, .f32⟩

abbrev hbmTy (i : Nat) : BufTy := match i / 128 with
  | 0 => hbmTy0_0 i
  | 1 => hbmTy0_1 i
  | 2 => hbmTy0_2 i
  | 3 => hbmTy0_3 i
  | _ => ⟨S1x8192x16x128, .f32⟩

abbrev bufTy : (tb : Table) → Fin (tcTables nBuf tb) → BufTy
  | .hbm, ⟨i, _⟩ => hbmTy i
  | _, _ => ⟨S1x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_c_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_13 : Ref sig .tc := ⟨.hbm, 128, rfl⟩
abbrev main_v100 : Ref sig .tc := ⟨.hbm, 129, rfl⟩
abbrev main_call3_call0_cst : Ref sig .tc := ⟨.hbm, 130, rfl⟩
abbrev main_call3_call0_v0 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_14 : Ref sig .tc := ⟨.hbm, 135, rfl⟩
abbrev main_v104 : Ref sig .tc := ⟨.hbm, 136, rfl⟩
abbrev main_v105 : Ref sig .tc := ⟨.hbm, 137, rfl⟩
abbrev main_c_15 : Ref sig .tc := ⟨.hbm, 138, rfl⟩
abbrev main_c_16 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_v106 : Ref sig .tc := ⟨.hbm, 145, rfl⟩
abbrev main_c_17 : Ref sig .tc := ⟨.hbm, 146, rfl⟩
abbrev main_v107 : Ref sig .tc := ⟨.hbm, 147, rfl⟩
abbrev main_v108 : Ref sig .tc := ⟨.hbm, 148, rfl⟩
abbrev main_c_18 : Ref sig .tc := ⟨.hbm, 149, rfl⟩
abbrev main_v109 : Ref sig .tc := ⟨.hbm, 150, rfl⟩
abbrev main_v110 : Ref sig .tc := ⟨.hbm, 151, rfl⟩
abbrev main_c_19 : Ref sig .tc := ⟨.hbm, 152, rfl⟩
abbrev main_c_20 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_call6_c : Ref sig .tc := ⟨.hbm, 162, rfl⟩
abbrev main_call6_v0 : Ref sig .tc := ⟨.hbm, 163, rfl⟩
abbrev main_call6_v1 : Ref sig .tc := ⟨.hbm, 164, rfl⟩
abbrev main_call6_c_0 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_call6_v5 : Ref sig .tc := ⟨.hbm, 169, rfl⟩
abbrev main_call6_c_1 : Ref sig .tc := ⟨.hbm, 170, rfl⟩
abbrev main_call6_c_2 : Ref sig .tc := ⟨.hbm, 171, rfl⟩
abbrev main_call6_v6 : Ref sig .tc := ⟨.hbm, 172, rfl⟩
abbrev main_call6_v7 : Ref sig .tc := ⟨.hbm, 173, rfl⟩
abbrev main_call6_v8 : Ref sig .tc := ⟨.hbm, 174, rfl⟩
abbrev main_call6_v9 : Ref sig .tc := ⟨.hbm, 175, rfl⟩
abbrev main_call6_v10 : Ref sig .tc := ⟨.hbm, 176, rfl⟩
abbrev main_call6_v11 : Ref sig .tc := ⟨.hbm, 177, rfl⟩
abbrev main_call6_c_3 : Ref sig .tc := ⟨.hbm, 178, rfl⟩
abbrev main_call6_v12 : Ref sig .tc := ⟨.hbm, 179, rfl⟩
abbrev main_call6_v13 : Ref sig .tc := ⟨.hbm, 180, rfl⟩
abbrev main_call6_v14 : Ref sig .tc := ⟨.hbm, 181, rfl⟩
abbrev main_call6_cst : Ref sig .tc := ⟨.hbm, 182, rfl⟩
abbrev main_call6_v15 : Ref sig .tc := ⟨.hbm, 183, rfl⟩
abbrev main_v114 : Ref sig .tc := ⟨.hbm, 184, rfl⟩
abbrev main_call7_c : Ref sig .tc := ⟨.hbm, 185, rfl⟩
abbrev main_call7_v0 : Ref sig .tc := ⟨.hbm, 186, rfl⟩
abbrev main_call7_v1 : Ref sig .tc := ⟨.hbm, 187, rfl⟩
abbrev main_call7_c_0 : Ref sig .tc := ⟨.hbm, 188, rfl⟩
abbrev main_call7_v2 : Ref sig .tc := ⟨.hbm, 189, rfl⟩
abbrev main_call7_v3 : Ref sig .tc := ⟨.hbm, 190, rfl⟩
abbrev main_call7_v4 : Ref sig .tc := ⟨.hbm, 191, rfl⟩
abbrev main_call7_v5 : Ref sig .tc := ⟨.hbm, 192, rfl⟩
abbrev main_call7_c_1 : Ref sig .tc := ⟨.hbm, 193, rfl⟩
abbrev main_call7_c_2 : Ref sig .tc := ⟨.hbm, 194, rfl⟩
abbrev main_call7_v6 : Ref sig .tc := ⟨.hbm, 195, rfl⟩
abbrev main_call7_v7 : Ref sig .tc := ⟨.hbm, 196, rfl⟩
abbrev main_call7_v8 : Ref sig .tc := ⟨.hbm, 197, rfl⟩
abbrev main_call7_v9 : Ref sig .tc := ⟨.hbm, 198, rfl⟩
abbrev main_call7_v10 : Ref sig .tc := ⟨.hbm, 199, rfl⟩
abbrev main_call7_v11 : Ref sig .tc := ⟨.hbm, 200, rfl⟩
abbrev main_call7_c_3 : Ref sig .tc := ⟨.hbm, 201, rfl⟩
abbrev main_call7_v12 : Ref sig .tc := ⟨.hbm, 202, rfl⟩
abbrev main_call7_v13 : Ref sig .tc := ⟨.hbm, 203, rfl⟩
abbrev main_call7_v14 : Ref sig .tc := ⟨.hbm, 204, rfl⟩
abbrev main_call7_cst : Ref sig .tc := ⟨.hbm, 205, rfl⟩
abbrev main_call7_v15 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_c_21 : Ref sig .tc := ⟨.hbm, 217, rfl⟩
abbrev main_v125 : Ref sig .tc := ⟨.hbm, 218, rfl⟩
abbrev main_v126 : Ref sig .tc := ⟨.hbm, 219, rfl⟩
abbrev main_c_22 : Ref sig .tc := ⟨.hbm, 220, rfl⟩
abbrev main_c_23 : Ref sig .tc := ⟨.hbm, 221, rfl⟩
abbrev main_call8_v0 : Ref sig .tc := ⟨.hbm, 222, rfl⟩
abbrev main_call8_v1 : Ref sig .tc := ⟨.hbm, 223, rfl⟩
abbrev main_call8_v2 : Ref sig .tc := ⟨.hbm, 224, rfl⟩
abbrev main_call8_v3 : Ref sig .tc := ⟨.hbm, 225, rfl⟩
abbrev main_call8_v4 : Ref sig .tc := ⟨.hbm, 226, rfl⟩
abbrev main_v127 : Ref sig .tc := ⟨.hbm, 227, rfl⟩
abbrev main_c_24 : Ref sig .tc := ⟨.hbm, 228, rfl⟩
abbrev main_v128 : Ref sig .tc := ⟨.hbm, 229, rfl⟩
abbrev main_v129 : Ref sig .tc := ⟨.hbm, 230, rfl⟩
abbrev main_c_25 : Ref sig .tc := ⟨.hbm, 231, rfl⟩
abbrev main_v130 : Ref sig .tc := ⟨.hbm, 232, rfl⟩
abbrev main_v131 : Ref sig .tc := ⟨.hbm, 233, rfl⟩
abbrev main_c_26 : Ref sig .tc := ⟨.hbm, 234, rfl⟩
abbrev main_c_27 : Ref sig .tc := ⟨.hbm, 235, rfl⟩
abbrev main_call9_v0 : Ref sig .tc := ⟨.hbm, 236, rfl⟩
abbrev main_call9_v1 : Ref sig .tc := ⟨.hbm, 237, rfl⟩
abbrev main_call9_v2 : Ref sig .tc := ⟨.hbm, 238, rfl⟩
abbrev main_call9_v3 : Ref sig .tc := ⟨.hbm, 239, rfl⟩
abbrev main_call9_v4 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_call10_c : Ref sig .tc := ⟨.hbm, 244, rfl⟩
abbrev main_call10_v0 : Ref sig .tc := ⟨.hbm, 245, rfl⟩
abbrev main_call10_v1 : Ref sig .tc := ⟨.hbm, 246, rfl⟩
abbrev main_call10_c_0 : Ref sig .tc := ⟨.hbm, 247, rfl⟩
abbrev main_call10_v2 : Ref sig .tc := ⟨.hbm, 248, rfl⟩
abbrev main_call10_v3 : Ref sig .tc := ⟨.hbm, 249, rfl⟩
abbrev main_call10_v4 : Ref sig .tc := ⟨.hbm, 250, rfl⟩
abbrev main_call10_v5 : Ref sig .tc := ⟨.hbm, 251, rfl⟩
abbrev main_call10_c_1 : Ref sig .tc := ⟨.hbm, 252, rfl⟩
abbrev main_call10_c_2 : Ref sig .tc := ⟨.hbm, 253, rfl⟩
abbrev main_call10_v6 : Ref sig .tc := ⟨.hbm, 254, rfl⟩
abbrev main_call10_v7 : Ref sig .tc := ⟨.hbm, 255, rfl⟩
abbrev main_call10_v8 : Ref sig .tc := ⟨.hbm, 256, rfl⟩
abbrev main_call10_v9 : Ref sig .tc := ⟨.hbm, 257, rfl⟩
abbrev main_call10_v10 : Ref sig .tc := ⟨.hbm, 258, rfl⟩
abbrev main_call10_v11 : Ref sig .tc := ⟨.hbm, 259, rfl⟩
abbrev main_call10_c_3 : Ref sig .tc := ⟨.hbm, 260, rfl⟩
abbrev main_call10_v12 : Ref sig .tc := ⟨.hbm, 261, rfl⟩
abbrev main_call10_v13 : Ref sig .tc := ⟨.hbm, 262, rfl⟩
abbrev main_call10_v14 : Ref sig .tc := ⟨.hbm, 263, rfl⟩
abbrev main_call10_cst : Ref sig .tc := ⟨.hbm, 264, rfl⟩
abbrev main_call10_v15 : Ref sig .tc := ⟨.hbm, 265, rfl⟩
abbrev main_v135 : Ref sig .tc := ⟨.hbm, 266, rfl⟩
abbrev main_call11_c : Ref sig .tc := ⟨.hbm, 267, rfl⟩
abbrev main_call11_v0 : Ref sig .tc := ⟨.hbm, 268, rfl⟩
abbrev main_call11_v1 : Ref sig .tc := ⟨.hbm, 269, rfl⟩
abbrev main_call11_c_0 : Ref sig .tc := ⟨.hbm, 270, rfl⟩
abbrev main_call11_v2 : Ref sig .tc := ⟨.hbm, 271, rfl⟩
abbrev main_call11_v3 : Ref sig .tc := ⟨.hbm, 272, rfl⟩
abbrev main_call11_v4 : Ref sig .tc := ⟨.hbm, 273, rfl⟩
abbrev main_call11_v5 : Ref sig .tc := ⟨.hbm, 274, rfl⟩
abbrev main_call11_c_1 : Ref sig .tc := ⟨.hbm, 275, rfl⟩
abbrev main_call11_c_2 : Ref sig .tc := ⟨.hbm, 276, rfl⟩
abbrev main_call11_v6 : Ref sig .tc := ⟨.hbm, 277, rfl⟩
abbrev main_call11_v7 : Ref sig .tc := ⟨.hbm, 278, rfl⟩
abbrev main_call11_v8 : Ref sig .tc := ⟨.hbm, 279, rfl⟩
abbrev main_call11_v9 : Ref sig .tc := ⟨.hbm, 280, rfl⟩
abbrev main_call11_v10 : Ref sig .tc := ⟨.hbm, 281, rfl⟩
abbrev main_call11_v11 : Ref sig .tc := ⟨.hbm, 282, rfl⟩
abbrev main_call11_c_3 : Ref sig .tc := ⟨.hbm, 283, rfl⟩
abbrev main_call11_v12 : Ref sig .tc := ⟨.hbm, 284, rfl⟩
abbrev main_call11_v13 : Ref sig .tc := ⟨.hbm, 285, rfl⟩
abbrev main_call11_v14 : Ref sig .tc := ⟨.hbm, 286, rfl⟩
abbrev main_call11_cst : Ref sig .tc := ⟨.hbm, 287, rfl⟩
abbrev main_call11_v15 : Ref sig .tc := ⟨.hbm, 288, rfl⟩
abbrev main_v136 : Ref sig .tc := ⟨.hbm, 289, rfl⟩
abbrev main_v137 : Ref sig .tc := ⟨.hbm, 290, rfl⟩
abbrev main_v138 : Ref sig .tc := ⟨.hbm, 291, rfl⟩
abbrev main_v139 : Ref sig .tc := ⟨.hbm, 292, rfl⟩
abbrev main_v140 : Ref sig .tc := ⟨.hbm, 293, rfl⟩
abbrev main_v141 : Ref sig .tc := ⟨.hbm, 294, rfl⟩
abbrev main_v142 : Ref sig .tc := ⟨.hbm, 295, rfl⟩
abbrev main_v143 : Ref sig .tc := ⟨.hbm, 296, rfl⟩
abbrev main_v144 : Ref sig .tc := ⟨.hbm, 297, rfl⟩
abbrev main_v145 : Ref sig .tc := ⟨.hbm, 298, rfl⟩
abbrev main_c_28 : Ref sig .tc := ⟨.hbm, 299, rfl⟩
abbrev main_v146 : Ref sig .tc := ⟨.hbm, 300, rfl⟩
abbrev main_v147 : Ref sig .tc := ⟨.hbm, 301, rfl⟩
abbrev main_c_29 : Ref sig .tc := ⟨.hbm, 302, rfl⟩
abbrev main_c_30 : Ref sig .tc := ⟨.hbm, 303, rfl⟩
abbrev main_call12_v0 : Ref sig .tc := ⟨.hbm, 304, rfl⟩
abbrev main_call12_v1 : Ref sig .tc := ⟨.hbm, 305, rfl⟩
abbrev main_call12_v2 : Ref sig .tc := ⟨.hbm, 306, rfl⟩
abbrev main_call12_v3 : Ref sig .tc := ⟨.hbm, 307, rfl⟩
abbrev main_call12_v4 : Ref sig .tc := ⟨.hbm, 308, rfl⟩
abbrev main_v148 : Ref sig .tc := ⟨.hbm, 309, rfl⟩
abbrev main_c_31 : Ref sig .tc := ⟨.hbm, 310, rfl⟩
abbrev main_v149 : Ref sig .tc := ⟨.hbm, 311, rfl⟩
abbrev main_v150 : Ref sig .tc := ⟨.hbm, 312, rfl⟩
abbrev main_c_32 : Ref sig .tc := ⟨.hbm, 313, rfl⟩
abbrev main_v151 : Ref sig .tc := ⟨.hbm, 314, rfl⟩
abbrev main_v152 : Ref sig .tc := ⟨.hbm, 315, rfl⟩
abbrev main_c_33 : Ref sig .tc := ⟨.hbm, 316, rfl⟩
abbrev main_c_34 : Ref sig .tc := ⟨.hbm, 317, rfl⟩
abbrev main_call13_v0 : Ref sig .tc := ⟨.hbm, 318, rfl⟩
abbrev main_call13_v1 : Ref sig .tc := ⟨.hbm, 319, rfl⟩
abbrev main_call13_v2 : Ref sig .tc := ⟨.hbm, 320, rfl⟩
abbrev main_call13_v3 : Ref sig .tc := ⟨.hbm, 321, rfl⟩
abbrev main_call13_v4 : Ref sig .tc := ⟨.hbm, 322, rfl⟩
abbrev main_v153 : Ref sig .tc := ⟨.hbm, 323, rfl⟩
abbrev main_v154 : Ref sig .tc := ⟨.hbm, 324, rfl⟩
abbrev main_v155 : Ref sig .tc := ⟨.hbm, 325, rfl⟩
abbrev main_call14_c : Ref sig .tc := ⟨.hbm, 326, rfl⟩
abbrev main_call14_v0 : Ref sig .tc := ⟨.hbm, 327, rfl⟩
abbrev main_call14_v1 : Ref sig .tc := ⟨.hbm, 328, rfl⟩
abbrev main_call14_c_0 : Ref sig .tc := ⟨.hbm, 329, rfl⟩
abbrev main_call14_v2 : Ref sig .tc := ⟨.hbm, 330, rfl⟩
abbrev main_call14_v3 : Ref sig .tc := ⟨.hbm, 331, rfl⟩
abbrev main_call14_v4 : Ref sig .tc := ⟨.hbm, 332, rfl⟩
abbrev main_call14_v5 : Ref sig .tc := ⟨.hbm, 333, rfl⟩
abbrev main_call14_c_1 : Ref sig .tc := ⟨.hbm, 334, rfl⟩
abbrev main_call14_c_2 : Ref sig .tc := ⟨.hbm, 335, rfl⟩
abbrev main_call14_v6 : Ref sig .tc := ⟨.hbm, 336, rfl⟩
abbrev main_call14_v7 : Ref sig .tc := ⟨.hbm, 337, rfl⟩
abbrev main_call14_v8 : Ref sig .tc := ⟨.hbm, 338, rfl⟩
abbrev main_call14_v9 : Ref sig .tc := ⟨.hbm, 339, rfl⟩
abbrev main_call14_v10 : Ref sig .tc := ⟨.hbm, 340, rfl⟩
abbrev main_call14_v11 : Ref sig .tc := ⟨.hbm, 341, rfl⟩
abbrev main_call14_c_3 : Ref sig .tc := ⟨.hbm, 342, rfl⟩
abbrev main_call14_v12 : Ref sig .tc := ⟨.hbm, 343, rfl⟩
abbrev main_call14_v13 : Ref sig .tc := ⟨.hbm, 344, rfl⟩
abbrev main_call14_v14 : Ref sig .tc := ⟨.hbm, 345, rfl⟩
abbrev main_call14_cst : Ref sig .tc := ⟨.hbm, 346, rfl⟩
abbrev main_call14_v15 : Ref sig .tc := ⟨.hbm, 347, rfl⟩
abbrev main_v156 : Ref sig .tc := ⟨.hbm, 348, rfl⟩
abbrev main_call15_c : Ref sig .tc := ⟨.hbm, 349, rfl⟩
abbrev main_call15_v0 : Ref sig .tc := ⟨.hbm, 350, rfl⟩
abbrev main_call15_v1 : Ref sig .tc := ⟨.hbm, 351, rfl⟩
abbrev main_call15_c_0 : Ref sig .tc := ⟨.hbm, 352, rfl⟩
abbrev main_call15_v2 : Ref sig .tc := ⟨.hbm, 353, rfl⟩
abbrev main_call15_v3 : Ref sig .tc := ⟨.hbm, 354, rfl⟩
abbrev main_call15_v4 : Ref sig .tc := ⟨.hbm, 355, rfl⟩
abbrev main_call15_v5 : Ref sig .tc := ⟨.hbm, 356, rfl⟩
abbrev main_call15_c_1 : Ref sig .tc := ⟨.hbm, 357, rfl⟩
abbrev main_call15_c_2 : Ref sig .tc := ⟨.hbm, 358, rfl⟩
abbrev main_call15_v6 : Ref sig .tc := ⟨.hbm, 359, rfl⟩
abbrev main_call15_v7 : Ref sig .tc := ⟨.hbm, 360, rfl⟩
abbrev main_call15_v8 : Ref sig .tc := ⟨.hbm, 361, rfl⟩
abbrev main_call15_v9 : Ref sig .tc := ⟨.hbm, 362, rfl⟩
abbrev main_call15_v10 : Ref sig .tc := ⟨.hbm, 363, rfl⟩
abbrev main_call15_v11 : Ref sig .tc := ⟨.hbm, 364, rfl⟩
abbrev main_call15_c_3 : Ref sig .tc := ⟨.hbm, 365, rfl⟩
abbrev main_call15_v12 : Ref sig .tc := ⟨.hbm, 366, rfl⟩
abbrev main_call15_v13 : Ref sig .tc := ⟨.hbm, 367, rfl⟩
abbrev main_call15_v14 : Ref sig .tc := ⟨.hbm, 368, rfl⟩
abbrev main_call15_cst : Ref sig .tc := ⟨.hbm, 369, rfl⟩
abbrev main_call15_v15 : Ref sig .tc := ⟨.hbm, 370, rfl⟩
abbrev main_v157 : Ref sig .tc := ⟨.hbm, 371, rfl⟩
abbrev main_v158 : Ref sig .tc := ⟨.hbm, 372, rfl⟩
abbrev main_v159 : Ref sig .tc := ⟨.hbm, 373, rfl⟩
abbrev main_v160 : Ref sig .tc := ⟨.hbm, 374, rfl⟩
abbrev main_v161 : Ref sig .tc := ⟨.hbm, 375, rfl⟩
abbrev main_v162 : Ref sig .tc := ⟨.hbm, 376, rfl⟩
abbrev main_v163 : Ref sig .tc := ⟨.hbm, 377, rfl⟩
abbrev main_v164 : Ref sig .tc := ⟨.hbm, 378, rfl⟩
abbrev main_v165 : Ref sig .tc := ⟨.hbm, 379, rfl⟩
abbrev main_v166 : Ref sig .tc := ⟨.hbm, 380, rfl⟩
abbrev main_c_35 : Ref sig .tc := ⟨.hbm, 381, rfl⟩
abbrev main_v167 : Ref sig .tc := ⟨.hbm, 382, rfl⟩
abbrev main_v168 : Ref sig .tc := ⟨.hbm, 383, rfl⟩
abbrev main_c_36 : Ref sig .tc := ⟨.hbm, 384, rfl⟩
abbrev main_c_37 : Ref sig .tc := ⟨.hbm, 385, rfl⟩
abbrev main_call16_v0 : Ref sig .tc := ⟨.hbm, 386, rfl⟩
abbrev main_call16_v1 : Ref sig .tc := ⟨.hbm, 387, rfl⟩
abbrev main_call16_v2 : Ref sig .tc := ⟨.hbm, 388, rfl⟩
abbrev main_call16_v3 : Ref sig .tc := ⟨.hbm, 389, rfl⟩
abbrev main_call16_v4 : Ref sig .tc := ⟨.hbm, 390, rfl⟩
abbrev main_v169 : Ref sig .tc := ⟨.hbm, 391, rfl⟩
abbrev main_c_38 : Ref sig .tc := ⟨.hbm, 392, rfl⟩
abbrev main_v170 : Ref sig .tc := ⟨.hbm, 393, rfl⟩
abbrev main_v171 : Ref sig .tc := ⟨.hbm, 394, rfl⟩
abbrev main_c_39 : Ref sig .tc := ⟨.hbm, 395, rfl⟩
abbrev main_v172 : Ref sig .tc := ⟨.hbm, 396, rfl⟩
abbrev main_v173 : Ref sig .tc := ⟨.hbm, 397, rfl⟩
abbrev main_c_40 : Ref sig .tc := ⟨.hbm, 398, rfl⟩
abbrev main_c_41 : Ref sig .tc := ⟨.hbm, 399, rfl⟩
abbrev main_call17_v0 : Ref sig .tc := ⟨.hbm, 400, rfl⟩
abbrev main_call17_v1 : Ref sig .tc := ⟨.hbm, 401, rfl⟩
abbrev main_call17_v2 : Ref sig .tc := ⟨.hbm, 402, rfl⟩
abbrev main_call17_v3 : Ref sig .tc := ⟨.hbm, 403, rfl⟩
abbrev main_call17_v4 : Ref sig .tc := ⟨.hbm, 404, rfl⟩
abbrev main_v174 : Ref sig .tc := ⟨.hbm, 405, rfl⟩
abbrev main_v175 : Ref sig .tc := ⟨.hbm, 406, rfl⟩
abbrev main_v176 : Ref sig .tc := ⟨.hbm, 407, rfl⟩
abbrev main_call18_c : Ref sig .tc := ⟨.hbm, 408, rfl⟩
abbrev main_call18_v0 : Ref sig .tc := ⟨.hbm, 409, rfl⟩
abbrev main_call18_v1 : Ref sig .tc := ⟨.hbm, 410, rfl⟩
abbrev main_call18_c_0 : Ref sig .tc := ⟨.hbm, 411, rfl⟩
abbrev main_call18_v2 : Ref sig .tc := ⟨.hbm, 412, rfl⟩
abbrev main_call18_v3 : Ref sig .tc := ⟨.hbm, 413, rfl⟩
abbrev main_call18_v4 : Ref sig .tc := ⟨.hbm, 414, rfl⟩
abbrev main_call18_v5 : Ref sig .tc := ⟨.hbm, 415, rfl⟩
abbrev main_call18_c_1 : Ref sig .tc := ⟨.hbm, 416, rfl⟩
abbrev main_call18_c_2 : Ref sig .tc := ⟨.hbm, 417, rfl⟩
abbrev main_call18_v6 : Ref sig .tc := ⟨.hbm, 418, rfl⟩
abbrev main_call18_v7 : Ref sig .tc := ⟨.hbm, 419, rfl⟩
abbrev main_call18_v8 : Ref sig .tc := ⟨.hbm, 420, rfl⟩
abbrev main_call18_v9 : Ref sig .tc := ⟨.hbm, 421, rfl⟩
abbrev main_call18_v10 : Ref sig .tc := ⟨.hbm, 422, rfl⟩
abbrev main_call18_v11 : Ref sig .tc := ⟨.hbm, 423, rfl⟩
abbrev main_call18_c_3 : Ref sig .tc := ⟨.hbm, 424, rfl⟩
abbrev main_call18_v12 : Ref sig .tc := ⟨.hbm, 425, rfl⟩
abbrev main_call18_v13 : Ref sig .tc := ⟨.hbm, 426, rfl⟩
abbrev main_call18_v14 : Ref sig .tc := ⟨.hbm, 427, rfl⟩
abbrev main_call18_cst : Ref sig .tc := ⟨.hbm, 428, rfl⟩
abbrev main_call18_v15 : Ref sig .tc := ⟨.hbm, 429, rfl⟩
abbrev main_v177 : Ref sig .tc := ⟨.hbm, 430, rfl⟩
abbrev main_call19_c : Ref sig .tc := ⟨.hbm, 431, rfl⟩
abbrev main_call19_v0 : Ref sig .tc := ⟨.hbm, 432, rfl⟩
abbrev main_call19_v1 : Ref sig .tc := ⟨.hbm, 433, rfl⟩
abbrev main_call19_c_0 : Ref sig .tc := ⟨.hbm, 434, rfl⟩
abbrev main_call19_v2 : Ref sig .tc := ⟨.hbm, 435, rfl⟩
abbrev main_call19_v3 : Ref sig .tc := ⟨.hbm, 436, rfl⟩
abbrev main_call19_v4 : Ref sig .tc := ⟨.hbm, 437, rfl⟩
abbrev main_call19_v5 : Ref sig .tc := ⟨.hbm, 438, rfl⟩
abbrev main_call19_c_1 : Ref sig .tc := ⟨.hbm, 439, rfl⟩
abbrev main_call19_c_2 : Ref sig .tc := ⟨.hbm, 440, rfl⟩
abbrev main_call19_v6 : Ref sig .tc := ⟨.hbm, 441, rfl⟩
abbrev main_call19_v7 : Ref sig .tc := ⟨.hbm, 442, rfl⟩
abbrev main_call19_v8 : Ref sig .tc := ⟨.hbm, 443, rfl⟩
abbrev main_call19_v9 : Ref sig .tc := ⟨.hbm, 444, rfl⟩
abbrev main_call19_v10 : Ref sig .tc := ⟨.hbm, 445, rfl⟩
abbrev main_call19_v11 : Ref sig .tc := ⟨.hbm, 446, rfl⟩
abbrev main_call19_c_3 : Ref sig .tc := ⟨.hbm, 447, rfl⟩
abbrev main_call19_v12 : Ref sig .tc := ⟨.hbm, 448, rfl⟩
abbrev main_call19_v13 : Ref sig .tc := ⟨.hbm, 449, rfl⟩
abbrev main_call19_v14 : Ref sig .tc := ⟨.hbm, 450, rfl⟩
abbrev main_call19_cst : Ref sig .tc := ⟨.hbm, 451, rfl⟩
abbrev main_call19_v15 : Ref sig .tc := ⟨.hbm, 452, rfl⟩
abbrev main_v178 : Ref sig .tc := ⟨.hbm, 453, rfl⟩
abbrev main_v179 : Ref sig .tc := ⟨.hbm, 454, rfl⟩
abbrev main_v180 : Ref sig .tc := ⟨.hbm, 455, rfl⟩
abbrev main_v181 : Ref sig .tc := ⟨.hbm, 456, rfl⟩
abbrev main_v182 : Ref sig .tc := ⟨.hbm, 457, rfl⟩
abbrev main_v183 : Ref sig .tc := ⟨.hbm, 458, rfl⟩
abbrev main_v184 : Ref sig .tc := ⟨.hbm, 459, rfl⟩
abbrev main_v185 : Ref sig .tc := ⟨.hbm, 460, rfl⟩
abbrev main_v186 : Ref sig .tc := ⟨.hbm, 461, rfl⟩
abbrev main_v187 : Ref sig .tc := ⟨.hbm, 462, rfl⟩
abbrev main_v188 : Ref sig .tc := ⟨.hbm, 463, rfl⟩
abbrev main_v189 : Ref sig .tc := ⟨.hbm, 464, rfl⟩
abbrev main_v190 : Ref sig .tc := ⟨.hbm, 465, rfl⟩
abbrev main_v191 : Ref sig .tc := ⟨.hbm, 466, rfl⟩
abbrev main_v192 : Ref sig .tc := ⟨.hbm, 467, rfl⟩
abbrev main_v193 : Ref sig .tc := ⟨.hbm, 468, rfl⟩
abbrev main_v194 : Ref sig .tc := ⟨.hbm, 469, rfl⟩
abbrev main_v195 : Ref sig .tc := ⟨.hbm, 470, rfl⟩
abbrev main_v196 : Ref sig .tc := ⟨.hbm, 471, rfl⟩
abbrev main_v197 : Ref sig .tc := ⟨.hbm, 472, rfl⟩
abbrev main_v198 : Ref sig .tc := ⟨.hbm, 473, rfl⟩
abbrev main_v199 : Ref sig .tc := ⟨.hbm, 474, rfl⟩
abbrev main_v200 : Ref sig .tc := ⟨.hbm, 475, rfl⟩
abbrev main_v201 : Ref sig .tc := ⟨.hbm, 476, rfl⟩
abbrev main_v202 : Ref sig .tc := ⟨.hbm, 477, rfl⟩

abbrev nD : Nat := 1
abbrev τ : Topo := Topo.v7x

variable {F : FTy → Type} [FloatOps F]
-- ==== Kernel2.lean ====
abbrev S1x8192x4096 : Shape := ⟨3, ![1, 8192, 4096]⟩
abbrev S4096 : Shape := ⟨1, ![4096]⟩
abbrev S4096x11008 : Shape := ⟨2, ![4096, 11008]⟩
abbrev S11008x4096 : Shape := ⟨2, ![11008, 4096]⟩
abbrev S8192x4096 : Shape := ⟨2, ![8192, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S8192x11008 : Shape := ⟨2, ![8192, 11008]⟩
abbrev S2048x4096 : Shape := ⟨2, ![2048, 4096]⟩
abbrev S2048x1 : Shape := ⟨2, ![2048, 1]⟩
abbrev S4096x256 : Shape := ⟨2, ![4096, 256]⟩
abbrev S256x4096 : Shape := ⟨2, ![256, 4096]⟩
abbrev S2048x256 : Shape := ⟨2, ![2048, 256]⟩
abbrev S1024x4096 : Shape := ⟨2, ![1024, 4096]⟩
abbrev S1024x1 : Shape := ⟨2, ![1024, 1]⟩
abbrev S1024x256 : Shape := ⟨2, ![1024, 256]⟩

abbrev nBuf : Space → Nat
  | .hbm => 23
  | .vmem => 14
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x11008, .bf16⟩
  | .hbm, ⟨22, _⟩ => ⟨S11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S2048x1, .f32⟩
  | .local _ .vmem, ⟨3, _⟩ => ⟨S2048x1, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S256x4096, .f32⟩
  | .local _ .vmem, ⟨9, _⟩ => ⟨S256x4096, .f32⟩
  | .local _ .vmem, ⟨10, _⟩ => ⟨S2048x256, .bf16⟩
  | .local _ .vmem, ⟨11, _⟩ => ⟨S2048x256, .bf16⟩
  | .local _ .vmem, ⟨12, _⟩ => ⟨S256x4096, .bf16⟩
  | .local _ .vmem, ⟨13, _⟩ => ⟨S256x4096, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 43], ![false, false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c42_i32 : BitVec 32 := 42#32
  let v1 : BitVec 32 := Scalar.select v0 arg1 c42_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c42_i32 : BitVec 32 := 42#32
  let v1 : BitVec 32 := Scalar.select v0 arg1 c42_i32
  let c0_i32_0 : BitVec 32 := 0#32
  let c0_i32_1 : BitVec 32 := 0#32
  ![v1.toNat, c0_i32_0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S1x8192x4096 : Shape := ⟨3, ![1, 8192, 4096]⟩
abbrev S4096 : Shape := ⟨1, ![4096]⟩
abbrev S4096x11008 : Shape := ⟨2, ![4096, 11008]⟩
abbrev S11008x4096 : Shape := ⟨2, ![11008, 4096]⟩
abbrev S_ : Shape := ⟨0, ![]⟩
abbrev S1x8192 : Shape := ⟨2, ![1, 8192]⟩
abbrev S1x8192x1 : Shape := ⟨3, ![1, 8192, 1]⟩
abbrev S1x1x4096 : Shape := ⟨3, ![1, 1, 4096]⟩
abbrev S1x8192x11008 : Shape := ⟨3, ![1, 8192, 11008]⟩
abbrev S8192x11008 : Shape := ⟨2, ![8192, 11008]⟩

abbrev nBuf : Space → Nat
  | .hbm => 36
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S1x8192x4096, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x4096, .f32⟩
  | .hbm, ⟨17, _⟩ => ⟨S1x8192x4096, .f32⟩
  | .hbm, ⟨18, _⟩ => ⟨S1x1x4096, .f32⟩
  | .hbm, ⟨19, _⟩ => ⟨S1x8192x4096, .f32⟩
  | .hbm, ⟨20, _⟩ => ⟨S1x8192x4096, .f32⟩
  | .hbm, ⟨21, _⟩ => ⟨S1x8192x11008, .f32⟩
  | .hbm, ⟨22, _⟩ => ⟨S1x8192x11008, .f32⟩
  | .hbm, ⟨23, _⟩ => ⟨S1x8192x11008, .f32⟩
  | .hbm, ⟨24, _⟩ => ⟨S_, .f32⟩
  | .hbm, ⟨25, _⟩ => ⟨S1x8192x11008, .f32⟩
  | .hbm, ⟨26, _⟩ => ⟨S1x8192x11008, .f32⟩
  | .hbm, ⟨27, _⟩ => ⟨S_, .f32⟩
  | .hbm, ⟨28, _⟩ => ⟨S1x8192x11008, .f32⟩
  | .hbm, ⟨29, _⟩ => ⟨S1x8192x11008, .f32⟩
  | .hbm, ⟨30, _⟩ => ⟨S1x8192x11008, .f32⟩
  | .hbm, ⟨31, _⟩ => ⟨S1x8192x11008, .f32⟩
  | .hbm, ⟨32, _⟩ => ⟨S1x8192x11008, .f32⟩
  | .hbm, ⟨33, _⟩ => ⟨S8192x11008, .f32⟩
  | .hbm, ⟨34, _⟩ => ⟨S8192x11008, .bf16⟩
  | .hbm, ⟨35, _⟩ => ⟨S11008x4096, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Proof.Cut.lean ====
module

public import proofs.«01_k».proof.Proof.Gen.KernelIdeal.Frame
public import proofs.«01_k».proof.Proof.Gen.KernelIdeal.Skeleton
public import Idealize.ShloMosaic.Lib.Tactic.Stretches

@[expose] public section
set_option maxRecDepth 16384
noncomputable section
namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

cut_chain mixTop := cc0_mixers_skel at 2
cut_chain mixHead := cc0_mixers_skel / 1 at 4, 5
end Cert.KernelIdeal.Gen
end
-- ==== Proof.RestRun.lean ====
module

public import proofs.«01_k».proof.Proof.Cut

@[expose] public section
set_option maxRecDepth 16384
noncomputable section
namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 2000000 in
/-- What the body does after its first point's tables stand: on the input blocks `x1 … x10`, the bias table `B` and the
band table `Bd`, it leaves in the output block the pieces that the run finds, and everything else as it was. -/
def restRun (c : Dev nD) (i : grid0.Coords)
    (arg1 : Memref sig .tc .smem S16 .f32) (harg1 : arg1.IsWhole)
    (arg2 : Memref sig .tc .vmem S256x2048 .bf16) (harg2 : arg2.IsWhole)
    (arg3 : Memref sig .tc .vmem S128x1024 .bf16) (harg3 : arg3.IsWhole)
    (arg4 : Memref sig .tc .vmem S256x1024 .bf16) (harg4 : arg4.IsWhole)
    (arg5 : Memref sig .tc .vmem S128x1024 .bf16) (harg5 : arg5.IsWhole)
    (arg6 : Memref sig .tc .vmem S16x2048 .bf16) (harg6 : arg6.IsWhole)
    (arg7 : Memref sig .tc .vmem S256x2048 .bf16) (harg7 : arg7.IsWhole)
    (arg8 : Memref sig .tc .vmem S16x2048 .bf16) (harg8 : arg8.IsWhole)
    (arg9 : Memref sig .tc .vmem S4x512x512 .bf16) (harg9 : arg9.IsWhole)
    (arg10 : Memref sig .tc .vmem S1x2048 .f32) (harg10 : arg10.IsWhole)
    (arg11 : Memref sig .tc .vmem S128x4096 .f32) (harg11 : arg11.IsWhole)
    (arg12 : Memref sig .tc .vmem S256x4096 .bf16) (harg12 : arg12.IsWhole)
    (arg13 : Memref sig .tc .vmem S128x4096 .bf16) (harg13 : arg13.IsWhole)
    (arg14 : Memref sig .tc .vmem S48x128x384 .f32) (harg14 : arg14.IsWhole)
    (arg15 : Memref sig .tc .vmem S4x256x288 .bf16) (harg15 : arg15.IsWhole)
    (x1 : Vec F S16 .f32) (x2 : Vec F S256x2048 .bf16) (x3 : Vec F S128x1024 .bf16) (x4 : Vec F S256x1024 .bf16) (x5 : Vec F S128x1024 .bf16) (x6 : Vec F S16x2048 .bf16) (x7 : Vec F S256x2048 .bf16) (x8 : Vec F S16x2048 .bf16) (x9 : Vec F S4x512x512 .bf16) (x10 : Vec F S1x2048 .f32) (B : Vec F S48x128x384 .f32) (Bd : Vec F S4x256x288 .bf16) :
    { L : List (View.Piece (Elt F) S256x4096 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg12 fullShare d) ∗ owns (c : Thread nD τ) arg14 fullShare B ∗ owns (c : Thread nD τ) arg15 fullShare Bd
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare (View.canon L) ∗ owns (c : Thread nD τ) arg14 fullShare B ∗ owns (c : Thread nD τ) arg15 fullShare Bd) -∗ K ⟨⟩))
          ⊢ wp frame (wpE (defs₀ (F := F)) Variants.none c none) E
            (mixTop1.tail i arg1 harg1 arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (Scalar.cmpi .eq (BitVec.ofNat 32 (i 0).val) 0#32)
              (Scalar.cmpi .eq (BitVec.ofNat 32 (i 0).val) 31#32) k0_pay74 (k0_pay75 (F := F)) (k0_pay76 x7) (k0_pay77 (F := F))) K } := by
  refine ⟨?_, fun E K => ?run⟩
  case run =>
    unfold mixTop1.tail
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d12, %f12, -, H12⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H12]
    · iexists _; isplitr; swap; · iexact H12
      ipureintro
      refine View.read_writes_eq_canon (Val := Elt F) arg12.view f12 _ ?_
      exact View.cover_of_tiledBy _ ![128, 128] (by sl_kernel_rfl)
    isplitl [H14]
    · iexists _; isplitr; · ipureintro; exact harg14.read_unread _
      iexact H14
    iexists _; isplitr; · ipureintro; exact harg15.read_unread _
    iexact H15

end Cert.KernelIdeal.Gen
end
-- ==== Proof.HeadRun.lean ====
module

public import Idealize.ShloMosaic.Lib.VecWindow

public import proofs.«01_k».proof.Proof.Cut

@[expose] public section
set_option maxRecDepth 16384
noncomputable section
namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the start of a point hands on: the point's number, whether it is the first or the last one, each row's head
within its group, a block of ones, the point's own pool rows and a block of zeros. -/
def started (i : grid0.Coords) (x7 : Vec F S256x2048 .bf16) : (_ : BitVec 32) ×' (_ : BitVec 1) ×' (_ : BitVec 1) ×' (_ : IVec S512x1 32) ×' (_ : FVec F S384x128 .bf16) ×' (_ : FVec F S256x2048 .bf16) ×' FVec F S16x2048 .bf16 :=
  ⟨BitVec.ofNat 32 (i 0).val, Scalar.cmpi .eq (BitVec.ofNat 32 (i 0).val) 0#32, Scalar.cmpi .eq (BitVec.ofNat 32 (i 0).val) 31#32, k0_pay74, k0_pay75 (F := F), k0_pay76 x7, k0_pay77 (F := F)⟩

set_option maxHeartbeats 2000000 in
/-- The first point's start: it casts its slab of the output weights and writes the bias table and the band table, as the
two lists of pieces that the run finds. -/
def firstRun :
    { L : List (View.Piece (Elt F) S48x128x384 .f32) × List (View.Piece (Elt F) S4x256x288 .bf16) //
      ∀ (c : Dev nD) (i : grid0.Coords)
        (arg1 : Memref sig .tc .smem S16 .f32) (harg1 : arg1.IsWhole)
    (arg2 : Memref sig .tc .vmem S256x2048 .bf16) (harg2 : arg2.IsWhole)
    (arg3 : Memref sig .tc .vmem S128x1024 .bf16) (harg3 : arg3.IsWhole)
    (arg4 : Memref sig .tc .vmem S256x1024 .bf16) (harg4 : arg4.IsWhole)
    (arg5 : Memref sig .tc .vmem S128x1024 .bf16) (harg5 : arg5.IsWhole)
    (arg6 : Memref sig .tc .vmem S16x2048 .bf16) (harg6 : arg6.IsWhole)
    (arg7 : Memref sig .tc .vmem S256x2048 .bf16) (harg7 : arg7.IsWhole)
    (arg8 : Memref sig .tc .vmem S16x2048 .bf16) (harg8 : arg8.IsWhole)
    (arg9 : Memref sig .tc .vmem S4x512x512 .bf16) (harg9 : arg9.IsWhole)
    (arg10 : Memref sig .tc .vmem S1x2048 .f32) (harg10 : arg10.IsWhole)
    (arg11 : Memref sig .tc .vmem S128x4096 .f32) (harg11 : arg11.IsWhole)
    (arg12 : Memref sig .tc .vmem S256x4096 .bf16) (harg12 : arg12.IsWhole)
    (arg13 : Memref sig .tc .vmem S128x4096 .bf16) (harg13 : arg13.IsWhole)
    (arg14 : Memref sig .tc .vmem S48x128x384 .f32) (harg14 : arg14.IsWhole)
    (arg15 : Memref sig .tc .vmem S4x256x288 .bf16) (harg15 : arg15.IsWhole)
        (x7 : Vec F S256x2048 .bf16) (x11 : Vec F S128x4096 .f32) (hc0 : Scalar.cmpi .ne (Scalar.extui (Scalar.cmpi .eq (BitVec.ofNat 32 (i 0).val) 0#32)) 0#32 = 1#1) (E : Set ℕ)
        (K : (_ : BitVec 32) ×' (_ : BitVec 1) ×' (_ : BitVec 1) ×' (_ : IVec S512x1 32) ×' (_ : FVec F S384x128 .bf16) ×' (_ : FVec F S256x2048 .bf16) ×' FVec F S16x2048 .bf16 → sProp 𝕄),
        iprop(owns (c : Thread nD τ) arg7 fullShare x7 ∗ owns (c : Thread nD τ) arg11 fullShare x11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg7 fullShare x7 ∗ owns (c : Thread nD τ) arg11 fullShare x11 ∗ owns (c : Thread nD τ) arg13 fullShare (k0_pay72 x11) ∗ owns (c : Thread nD τ) arg14 fullShare (View.canon L.1) ∗ owns (c : Thread nD τ) arg15 fullShare (View.canon L.2)) -∗ K (started i x7)))
          ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_⟩, fun c i arg1 harg1 arg2 harg2 arg3 harg3 arg4 harg4 arg5 harg5 arg6 harg6 arg7 harg7 arg8 harg8 arg9 harg9 arg10 harg10 arg11 harg11 arg12 harg12 arg13 harg13 arg14 harg14 arg15 harg15 x7 x11 hc0 E K => ?run⟩
  case run =>
    rw [k0_part13_eq_skeleton]
    unfold k0_part13_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns started
    iintro ⟨⟨%f7, %hf7, H7⟩, ⟨%f11, %hf11, H11⟩, ⟨%d13, %f13, -, H13⟩, ⟨%d14, %f14, -, H14⟩, ⟨%d15, %f15, -, H15⟩, Hk⟩
    obtain rfl := harg7.eq_unread hf7; obtain rfl := harg11.eq_unread hf11
    sl_exec (disch := first | sl_exact hc0)
    sl_step
    sl_unfold_words
    erw [View.readAt_full arg7.view, harg7.read_unread]
    iapply Hk
    isplitl [H7]
    · iexists _; isplitr; · ipureintro; exact harg7.read_unread _
      iexact H7
    isplitl [H11]
    · iexists _; isplitr; · ipureintro; exact harg11.read_unread _
      iexact H11
    isplitl [H13]
    · iexists _; isplitr; swap; · iexact H13
      ipureintro
      erw [View.read_writes_full, View.readAt_full arg11.view, harg11.read_unread]
    isplitl [H14]
    · iexists _; isplitr; swap; · iexact H14
      ipureintro
      refine View.read_writes_eq_canon (Val := Elt F) arg14.view f14 _ ?_
      exact View.cover_of_tiledBy _ ![1, 128, 384] (by sl_kernel_rfl)
    · iexists _; isplitr; swap; · iexact H15
      ipureintro
      refine View.read_writes_eq_canon (Val := Elt F) arg15.view f15 _ ?_
      exact View.cover_of_tiledBy _ ![1, 256, 288] (by sl_kernel_rfl)

/-- The bias table that the first point leaves, and the band table. -/
def biasTab : Vec F S48x128x384 .f32 := View.canon (firstRun (F := F)).1.1
@[inherit_doc biasTab] def bandTab : Vec F S4x256x288 .bf16 := View.canon (firstRun (F := F)).1.2

set_option maxHeartbeats 2000000 in
/-- A later point's start: it casts its slab of the output weights and leaves both tables as they are. -/
theorem laterRun (c : Dev nD) (i : grid0.Coords)
    (arg1 : Memref sig .tc .smem S16 .f32) (harg1 : arg1.IsWhole)
    (arg2 : Memref sig .tc .vmem S256x2048 .bf16) (harg2 : arg2.IsWhole)
    (arg3 : Memref sig .tc .vmem S128x1024 .bf16) (harg3 : arg3.IsWhole)
    (arg4 : Memref sig .tc .vmem S256x1024 .bf16) (harg4 : arg4.IsWhole)
    (arg5 : Memref sig .tc .vmem S128x1024 .bf16) (harg5 : arg5.IsWhole)
    (arg6 : Memref sig .tc .vmem S16x2048 .bf16) (harg6 : arg6.IsWhole)
    (arg7 : Memref sig .tc .vmem S256x2048 .bf16) (harg7 : arg7.IsWhole)
    (arg8 : Memref sig .tc .vmem S16x2048 .bf16) (harg8 : arg8.IsWhole)
    (arg9 : Memref sig .tc .vmem S4x512x512 .bf16) (harg9 : arg9.IsWhole)
    (arg10 : Memref sig .tc .vmem S1x2048 .f32) (harg10 : arg10.IsWhole)
    (arg11 : Memref sig .tc .vmem S128x4096 .f32) (harg11 : arg11.IsWhole)
    (arg12 : Memref sig .tc .vmem S256x4096 .bf16) (harg12 : arg12.IsWhole)
    (arg13 : Memref sig .tc .vmem S128x4096 .bf16) (harg13 : arg13.IsWhole)
    (arg14 : Memref sig .tc .vmem S48x128x384 .f32) (harg14 : arg14.IsWhole)
    (arg15 : Memref sig .tc .vmem S4x256x288 .bf16) (harg15 : arg15.IsWhole)
    (x7 : Vec F S256x2048 .bf16) (x11 : Vec F S128x4096 .f32) (hc0 : ¬ (Scalar.cmpi .ne (Scalar.extui (Scalar.cmpi .eq (BitVec.ofNat 32 (i 0).val) 0#32)) 0#32 = 1#1)) (E : Set ℕ)
    (K : (_ : BitVec 32) ×' (_ : BitVec 1) ×' (_ : BitVec 1) ×' (_ : IVec S512x1 32) ×' (_ : FVec F S384x128 .bf16) ×' (_ : FVec F S256x2048 .bf16) ×' FVec F S16x2048 .bf16 → sProp 𝕄) :
    iprop(owns (c : Thread nD τ) arg7 fullShare x7 ∗ owns (c : Thread nD τ) arg11 fullShare x11 ∗ (∃ d, owns (c : Thread nD τ) arg13 fullShare d) ∗ (iprop(owns (c : Thread nD τ) arg7 fullShare x7 ∗ owns (c : Thread nD τ) arg11 fullShare x11 ∗ owns (c : Thread nD τ) arg13 fullShare (k0_pay72 x11)) -∗ K (started i x7)))
      ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [k0_part13_eq_skeleton]
  unfold k0_part13_skel
  unfold owns started
  iintro ⟨⟨%f7, %hf7, H7⟩, ⟨%f11, %hf11, H11⟩, ⟨%d13, %f13, -, H13⟩, Hk⟩
  obtain rfl := harg7.eq_unread hf7; obtain rfl := harg11.eq_unread hf11
  sl_exec (disch := first | sl_exact hc0)
  sl_step
  sl_unfold_words
  erw [View.readAt_full arg7.view, harg7.read_unread]
  iapply Hk
  isplitl [H7]
  · iexists _; isplitr; · ipureintro; exact harg7.read_unread _
    iexact H7
  isplitl [H11]
  · iexists _; isplitr; · ipureintro; exact harg11.read_unread _
    iexact H11
  · iexists _; isplitr; swap; · iexact H13
    ipureintro
    erw [View.read_writes_full, View.readAt_full arg11.view, harg11.read_unread]

end Cert.KernelIdeal.Gen
end
-- ==== Proof.BodyRun.lean ====
module

public import proofs.«01_k».proof.Proof.RestRun
public import proofs.«01_k».proof.Proof.HeadRun

@[expose] public section
set_option maxRecDepth 16384
noncomputable section
namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What a point leaves in its block of the mixed columns, from its input blocks and the first point's tables. -/
def mixOut (c : Dev nD) (i : grid0.Coords)
    (arg1 : Memref sig .tc .smem S16 .f32) (harg1 : arg1.IsWhole)
    (arg2 : Memref sig .tc .vmem S256x2048 .bf16) (harg2 : arg2.IsWhole)
    (arg3 : Memref sig .tc .vmem S128x1024 .bf16) (harg3 : arg3.IsWhole)
    (arg4 : Memref sig .tc .vmem S256x1024 .bf16) (harg4 : arg4.IsWhole)
    (arg5 : Memref sig .tc .vmem S128x1024 .bf16) (harg5 : arg5.IsWhole)
    (arg6 : Memref sig .tc .vmem S16x2048 .bf16) (harg6 : arg6.IsWhole)
    (arg7 : Memref sig .tc .vmem S256x2048 .bf16) (harg7 : arg7.IsWhole)
    (arg8 : Memref sig .tc .vmem S16x2048 .bf16) (harg8 : arg8.IsWhole)
    (arg9 : Memref sig .tc .vmem S4x512x512 .bf16) (harg9 : arg9.IsWhole)
    (arg10 : Memref sig .tc .vmem S1x2048 .f32) (harg10 : arg10.IsWhole)
    (arg11 : Memref sig .tc .vmem S128x4096 .f32) (harg11 : arg11.IsWhole)
    (arg12 : Memref sig .tc .vmem S256x4096 .bf16) (harg12 : arg12.IsWhole)
    (arg13 : Memref sig .tc .vmem S128x4096 .bf16) (harg13 : arg13.IsWhole)
    (arg14 : Memref sig .tc .vmem S48x128x384 .f32) (harg14 : arg14.IsWhole)
    (arg15 : Memref sig .tc .vmem S4x256x288 .bf16) (harg15 : arg15.IsWhole)
    (x1 : Vec F S16 .f32) (x2 : Vec F S256x2048 .bf16) (x3 : Vec F S128x1024 .bf16) (x4 : Vec F S256x1024 .bf16) (x5 : Vec F S128x1024 .bf16) (x6 : Vec F S16x2048 .bf16) (x7 : Vec F S256x2048 .bf16) (x8 : Vec F S16x2048 .bf16) (x9 : Vec F S4x512x512 .bf16) (x10 : Vec F S1x2048 .f32) : Vec F S256x4096 .bf16 :=
  View.canon (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 biasTab bandTab).1

/-- The whole body at the first point, whatever the tables' buffers hold. -/
theorem bodyRun_first (c : Dev nD) (i : grid0.Coords)
    (arg1 : Memref sig .tc .smem S16 .f32) (harg1 : arg1.IsWhole)
    (arg2 : Memref sig .tc .vmem S256x2048 .bf16) (harg2 : arg2.IsWhole)
    (arg3 : Memref sig .tc .vmem S128x1024 .bf16) (harg3 : arg3.IsWhole)
    (arg4 : Memref sig .tc .vmem S256x1024 .bf16) (harg4 : arg4.IsWhole)
    (arg5 : Memref sig .tc .vmem S128x1024 .bf16) (harg5 : arg5.IsWhole)
    (arg6 : Memref sig .tc .vmem S16x2048 .bf16) (harg6 : arg6.IsWhole)
    (arg7 : Memref sig .tc .vmem S256x2048 .bf16) (harg7 : arg7.IsWhole)
    (arg8 : Memref sig .tc .vmem S16x2048 .bf16) (harg8 : arg8.IsWhole)
    (arg9 : Memref sig .tc .vmem S4x512x512 .bf16) (harg9 : arg9.IsWhole)
    (arg10 : Memref sig .tc .vmem S1x2048 .f32) (harg10 : arg10.IsWhole)
    (arg11 : Memref sig .tc .vmem S128x4096 .f32) (harg11 : arg11.IsWhole)
    (arg12 : Memref sig .tc .vmem S256x4096 .bf16) (harg12 : arg12.IsWhole)
    (arg13 : Memref sig .tc .vmem S128x4096 .bf16) (harg13 : arg13.IsWhole)
    (arg14 : Memref sig .tc .vmem S48x128x384 .f32) (harg14 : arg14.IsWhole)
    (arg15 : Memref sig .tc .vmem S4x256x288 .bf16) (harg15 : arg15.IsWhole)
    (x1 : Vec F S16 .f32) (x2 : Vec F S256x2048 .bf16) (x3 : Vec F S128x1024 .bf16) (x4 : Vec F S256x1024 .bf16) (x5 : Vec F S128x1024 .bf16) (x6 : Vec F S16x2048 .bf16) (x7 : Vec F S256x2048 .bf16) (x8 : Vec F S16x2048 .bf16) (x9 : Vec F S4x512x512 .bf16) (x10 : Vec F S1x2048 .f32) (x11 : Vec F S128x4096 .f32) (hc0 : Scalar.cmpi .ne (Scalar.extui (Scalar.cmpi .eq (BitVec.ofNat 32 (i 0).val) 0#32)) 0#32 = 1#1) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (mixOut c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10) ∗ owns (c : Thread nD τ) arg13 fullShare (k0_pay72 x11) ∗ owns (c : Thread nD τ) arg14 fullShare biasTab ∗ owns (c : Thread nD τ) arg15 fullShare bandTab) -∗ K ⟨⟩))
      ⊢ wp frame (wpE (defs₀ (F := F)) Variants.none c none) E (cc0_mixers i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [cc0_mixers_eq_skeleton, mixTop1.eq]
  unfold mixTop1
  rw [wp_bind]
  iintro ⟨H1, H2, H3, H4, H5, H6, H7, H8, H9, H10, H11, H12, H13, H14, H15, Hk⟩
  iapply (firstRun.2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x7 x11 hc0 E _)
  isplitl [H7]; · iexact H7
  isplitl [H11]; · iexact H11
  isplitl [H13]; · iexact H13
  isplitl [H14]; · iexact H14
  isplitl [H15]; · iexact H15
  iintro ⟨H7, H11, H13, H14, H15⟩
  unfold started
  dsimp only
  iapply ((restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 biasTab bandTab).2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H14]; · iexact H14
  isplitl [H15]; · iexact H15
  iintro ⟨H1, H2, H3, H4, H5, H6, H7, H8, H9, H10, H12, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The whole body at a later point, where the tables stand. -/
theorem bodyRun_later (c : Dev nD) (i : grid0.Coords)
    (arg1 : Memref sig .tc .smem S16 .f32) (harg1 : arg1.IsWhole)
    (arg2 : Memref sig .tc .vmem S256x2048 .bf16) (harg2 : arg2.IsWhole)
    (arg3 : Memref sig .tc .vmem S128x1024 .bf16) (harg3 : arg3.IsWhole)
    (arg4 : Memref sig .tc .vmem S256x1024 .bf16) (harg4 : arg4.IsWhole)
    (arg5 : Memref sig .tc .vmem S128x1024 .bf16) (harg5 : arg5.IsWhole)
    (arg6 : Memref sig .tc .vmem S16x2048 .bf16) (harg6 : arg6.IsWhole)
    (arg7 : Memref sig .tc .vmem S256x2048 .bf16) (harg7 : arg7.IsWhole)
    (arg8 : Memref sig .tc .vmem S16x2048 .bf16) (harg8 : arg8.IsWhole)
    (arg9 : Memref sig .tc .vmem S4x512x512 .bf16) (harg9 : arg9.IsWhole)
    (arg10 : Memref sig .tc .vmem S1x2048 .f32) (harg10 : arg10.IsWhole)
    (arg11 : Memref sig .tc .vmem S128x4096 .f32) (harg11 : arg11.IsWhole)
    (arg12 : Memref sig .tc .vmem S256x4096 .bf16) (harg12 : arg12.IsWhole)
    (arg13 : Memref sig .tc .vmem S128x4096 .bf16) (harg13 : arg13.IsWhole)
    (arg14 : Memref sig .tc .vmem S48x128x384 .f32) (harg14 : arg14.IsWhole)
    (arg15 : Memref sig .tc .vmem S4x256x288 .bf16) (harg15 : arg15.IsWhole)
    (x1 : Vec F S16 .f32) (x2 : Vec F S256x2048 .bf16) (x3 : Vec F S128x1024 .bf16) (x4 : Vec F S256x1024 .bf16) (x5 : Vec F S128x1024 .bf16) (x6 : Vec F S16x2048 .bf16) (x7 : Vec F S256x2048 .bf16) (x8 : Vec F S16x2048 .bf16) (x9 : Vec F S4x512x512 .bf16) (x10 : Vec F S1x2048 .f32) (x11 : Vec F S128x4096 .f32) (hc0 : ¬ (Scalar.cmpi .ne (Scalar.extui (Scalar.cmpi .eq (BitVec.ofNat 32 (i 0).val) 0#32)) 0#32 = 1#1)) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ owns (c : Thread nD τ) arg14 fullShare biasTab ∗ owns (c : Thread nD τ) arg15 fullShare bandTab
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (mixOut c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10) ∗ owns (c : Thread nD τ) arg13 fullShare (k0_pay72 x11) ∗ owns (c : Thread nD τ) arg14 fullShare biasTab ∗ owns (c : Thread nD τ) arg15 fullShare bandTab) -∗ K ⟨⟩))
      ⊢ wp frame (wpE (defs₀ (F := F)) Variants.none c none) E (cc0_mixers i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [cc0_mixers_eq_skeleton, mixTop1.eq]
  unfold mixTop1
  rw [wp_bind]
  iintro ⟨H1, H2, H3, H4, H5, H6, H7, H8, H9, H10, H11, H12, H13, H14, H15, Hk⟩
  iapply (laterRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x7 x11 hc0 E _)
  isplitl [H7]; · iexact H7
  isplitl [H11]; · iexact H11
  isplitl [H13]; · iexact H13
  iintro ⟨H7, H11, H13⟩
  unfold started
  dsimp only
  iapply ((restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 biasTab bandTab).2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H14]; · iexact H14
  isplitl [H15]; · iexact H15
  iintro ⟨H1, H2, H3, H4, H5, H6, H7, H8, H9, H10, H12, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.KernelIdeal.Gen
end
-- ==== Proof.Launched.lean ====
module

public import Idealize.ShloMosaic.Lib.Claim
public import proofs.«01_k».proof.Proof.BodyRun

@[expose] public section
set_option maxRecDepth 16384
noncomputable section
namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The condition under which a point writes the tables holds at the first point alone. -/
theorem first_iff (t : Fin cfg0.N) :
    (Scalar.cmpi .ne (Scalar.extui (Scalar.cmpi .eq (BitVec.ofNat 32 (grid0.coords t 0).val) 0#32)) 0#32 = 1#1) ↔ t.val = 0 := by
  have ht : t.val < 32 := Nat.lt_of_lt_of_eq t.isLt N_0
  have e0 : (grid0.coords t 0).val = t.val := by
    have h : (grid0.coords t 0).val = t.val / 1 % 32 := Pipeline.Grid.coords_val t 0 (by decide) rfl
    omega
  simp only [e0]
  word_cmp

/-! The staging buffers a point works in, and the two tables' buffers. -/
abbrev st0 (t : Fin cfg0.N) : Memref sig .tc .smem S16 .f32 := win0_0.stage (cfg0.slots t 0)
abbrev stw0 (t : Fin cfg0.N) : (st0 t).IsWhole := hstage0_0 ((cfg0.slots t 0).cast nbuf0_0)
abbrev st1 (t : Fin cfg0.N) : Memref sig .tc .vmem S256x2048 .bf16 := win0_1.stage (cfg0.slots t 1)
abbrev stw1 (t : Fin cfg0.N) : (st1 t).IsWhole := hstage0_1 ((cfg0.slots t 1).cast nbuf0_1)
abbrev st2 (t : Fin cfg0.N) : Memref sig .tc .vmem S128x1024 .bf16 := win0_2.stage (cfg0.slots t 2)
abbrev stw2 (t : Fin cfg0.N) : (st2 t).IsWhole := hstage0_2 ((cfg0.slots t 2).cast nbuf0_2)
abbrev st3 (t : Fin cfg0.N) : Memref sig .tc .vmem S256x1024 .bf16 := win0_3.stage (cfg0.slots t 3)
abbrev stw3 (t : Fin cfg0.N) : (st3 t).IsWhole := hstage0_3 ((cfg0.slots t 3).cast nbuf0_3)
abbrev st4 (t : Fin cfg0.N) : Memref sig .tc .vmem S128x1024 .bf16 := win0_4.stage (cfg0.slots t 4)
abbrev stw4 (t : Fin cfg0.N) : (st4 t).IsWhole := hstage0_4 ((cfg0.slots t 4).cast nbuf0_4)
abbrev st5 (t : Fin cfg0.N) : Memref sig .tc .vmem S16x2048 .bf16 := win0_5.stage (cfg0.slots t 5)
abbrev stw5 (t : Fin cfg0.N) : (st5 t).IsWhole := hstage0_5 ((cfg0.slots t 5).cast nbuf0_5)
abbrev st6 (t : Fin cfg0.N) : Memref sig .tc .vmem S256x2048 .bf16 := win0_6.stage (cfg0.slots t 6)
abbrev stw6 (t : Fin cfg0.N) : (st6 t).IsWhole := hstage0_6 ((cfg0.slots t 6).cast nbuf0_6)
abbrev st7 (t : Fin cfg0.N) : Memref sig .tc .vmem S16x2048 .bf16 := win0_7.stage (cfg0.slots t 7)
abbrev stw7 (t : Fin cfg0.N) : (st7 t).IsWhole := hstage0_7 ((cfg0.slots t 7).cast nbuf0_7)
abbrev st8 (t : Fin cfg0.N) : Memref sig .tc .vmem S4x512x512 .bf16 := win0_8.stage (cfg0.slots t 8)
abbrev stw8 (t : Fin cfg0.N) : (st8 t).IsWhole := hstage0_8 ((cfg0.slots t 8).cast nbuf0_8)
abbrev st9 (t : Fin cfg0.N) : Memref sig .tc .vmem S1x2048 .f32 := win0_9.stage (cfg0.slots t 9)
abbrev stw9 (t : Fin cfg0.N) : (st9 t).IsWhole := hstage0_9 ((cfg0.slots t 9).cast nbuf0_9)
abbrev st10 (t : Fin cfg0.N) : Memref sig .tc .vmem S128x4096 .f32 := win0_10.stage (cfg0.slots t 10)
abbrev stw10 (t : Fin cfg0.N) : (st10 t).IsWhole := hstage0_10 ((cfg0.slots t 10).cast nbuf0_10)
abbrev st11 (t : Fin cfg0.N) : Memref sig .tc .vmem S256x4096 .bf16 := win0_11.stage (cfg0.slots t 11)
abbrev stw11 (t : Fin cfg0.N) : (st11 t).IsWhole := hstage0_11 ((cfg0.slots t 11).cast nbuf0_11)
abbrev st12 (t : Fin cfg0.N) : Memref sig .tc .vmem S128x4096 .bf16 := win0_12.stage (cfg0.slots t 12)
abbrev stw12 (t : Fin cfg0.N) : (st12 t).IsWhole := hstage0_12 ((cfg0.slots t 12).cast nbuf0_12)
abbrev tab0 : Memref sig .tc .vmem S48x128x384 .f32 := Memref.whole cc0_scratch0
abbrev tab1 : Memref sig .tc .vmem S4x256x288 .bf16 := Memref.whole cc0_scratch1

/-- What the tables' buffers hold between points, beside the generator's register: anything before the first one, the
tables after it. -/
def between (c : Dev nD) (n : ℕ) : sProp 𝕄 :=
  if n = 0 then iprop(iprop((∃ d, owns (c : Thread nD τ) tab0 fullShare d) ∗ (∃ d, owns (c : Thread nD τ) tab1 fullShare d)) ∗ (∃ r, prngReg c r))
  else iprop(iprop(owns (c : Thread nD τ) tab0 fullShare biasTab ∗ owns (c : Thread nD τ) tab1 fullShare bandTab) ∗ (∃ r, prngReg c r))

/-- The launch's invariant at the scoped buffers is what stands before the first point. -/
theorem scoped_eq (c : Dev nD) : (Pipeline.ΦA spec0 c : sProp 𝕄) = between c 0 := by
  unfold Pipeline.ΦA between
  rw [scopedRest0_eq, if_pos rfl]; simp only [tab0, tab1, owns_whole]; try rfl

/-- The block of mixed columns that point `t` leaves. -/
def mixBlk (c : Dev nD) (t : Fin cfg0.N) : Vec F S256x4096 .bf16 :=
  mixOut c (grid0.coords t) (st0 t) (stw0 t) (st1 t) (stw1 t) (st2 t) (stw2 t) (st3 t) (stw3 t) (st4 t) (stw4 t) (st5 t) (stw5 t) (st6 t) (stw6 t) (st7 t) (stw7 t) (st8 t) (stw8 t) (st9 t) (stw9 t) (st10 t) (stw10 t) (st11 t) (stw11 t) (st12 t) (stw12 t) tab0 (Memref.isWhole_whole _) tab1 (Memref.isWhole_whole _)
    (iblk m c 0 t) (X0_1 m c t) (iblk m c 2 t) (iblk m c 3 t) (iblk m c 4 t) (X0_5 m c t) (X0_6 m c t) (X0_7 m c t) (iblk m c 8 t) (iblk m c 9 t)

/-- The pipeline's data: the arrays as the region finds them; every input block in place after the body, the mixed block
and the cast slab of weights in the two outputs; the tables between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => X0_5 m c t
    | ⟨6, _⟩ => X0_6 m c t
    | ⟨7, _⟩ => X0_7 m c t
    | ⟨8, _⟩ => iblk m c 8 t
    | ⟨9, _⟩ => iblk m c 9 t
    | ⟨10, _⟩ => iblk m c 10 t
    | ⟨11, _⟩ => mixBlk m c t
    | ⟨12, _⟩ => k0_pay72 (iblk m c 10 t)
  Φ t := between c t.val
  q w := Pipeline.shareOf spec0 w
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = X0_5 m c t := by dsimp only [dats]
theorem after_6 (c : Dev nD) (t : Fin cfg0.N) : (dats m 0 c).after 6 t = X0_6 m c t := by dsimp only [dats]
theorem after_7 (c : Dev nD) (t : Fin cfg0.N) : (dats m 0 c).after 7 t = X0_7 m c t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = mixBlk m c t := by dsimp only [dats]
theorem after_12 (c : Dev nD) (t : Fin cfg0.N) : (dats m 0 c).after 12 t = k0_pay72 (iblk m c 10 t) := by dsimp only [dats]

theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = X0_1 m c t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d
theorem before_5 (c : Dev nD) (t : Fin cfg0.N) (d) : (dats m 0 c).before 5 t d = X0_5 m c t :=
  before0_5_of m (dats m 0 c) (arrays_eq m c 5) (after_5 m c) t d
theorem before_6 (c : Dev nD) (t : Fin cfg0.N) (d) : (dats m 0 c).before 6 t d = X0_6 m c t :=
  before0_6_of m (dats m 0 c) (arrays_eq m c 6) (after_6 m c) t d
theorem before_7 (c : Dev nD) (t : Fin cfg0.N) (d) : (dats m 0 c).before 7 t d = X0_7 m c t :=
  before0_7_of m (dats m 0 c) (arrays_eq m c 7) (after_7 m c) t d
theorem before_8 (c : Dev nD) (t : Fin cfg0.N) (d) : (dats m 0 c).before 8 t d = iblk m c 8 t :=
  before0_8_of m (dats m 0 c) (arrays_eq m c 8) (after_8 m c) t d
theorem before_9 (c : Dev nD) (t : Fin cfg0.N) (d) : (dats m 0 c).before 9 t d = iblk m c 9 t :=
  before0_9_of m (dats m 0 c) (arrays_eq m c 9) (after_9 m c) t d
theorem before_10 (c : Dev nD) (t : Fin cfg0.N) (d) : (dats m 0 c).before 10 t d = iblk m c 10 t :=
  before0_10_of m (dats m 0 c) (arrays_eq m c 10) (after_10 m c) t d

/-- What a point's body is given, window by window, -/
def givenAt (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d)))

/-- and what it gives back. -/
def givesAt (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t))

set_option maxHeartbeats 2400000 in
/-- The body at any point, by the first run or the later one. -/
theorem body_at (c : Dev nD) (t : Fin cfg0.N) :
    givenAt m c t ⊢ wp frame (wpE (defs₀ (F := F)) Variants.none c none) Set.univ (bodyAt0 t) (fun _ => givesAt m c t) := by
  unfold givenAt givesAt bodyAt0
  simp only [before_0, before_1, before_2, before_3, before_4, before_5, before_6, before_7, before_8, before_9, before_10]
  rw [show (dats m 0 c).owesAt () t.succ = (dats m 0 c).owesAt () t.castSucc from rfl,
    after_0, after_1, after_2, after_3, after_4, after_5, after_6, after_7, after_8, after_9, after_10, after_11, after_12]
  rw [show (dats m 0 c).Φ t.castSucc = between c t.val from rfl, show (dats m 0 c).Φ t.succ = between c (t.val + 1) from rfl]
  unfold mixBlk between
  rw [if_neg (Nat.succ_ne_zero _)]
  by_cases h0 : t.val = 0
  · rw [if_pos h0]
    iintro ⟨⟨⟨HT0, HT1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyRun_first c (grid0.coords t) (st0 t) (stw0 t) (st1 t) (stw1 t) (st2 t) (stw2 t) (st3 t) (stw3 t) (st4 t) (stw4 t) (st5 t) (stw5 t) (st6 t) (stw6 t) (st7 t) (stw7 t) (st8 t) (stw8 t) (st9 t) (stw9 t) (st10 t) (stw10 t) (st11 t) (stw11 t) (st12 t) (stw12 t) tab0 (Memref.isWhole_whole _) tab1 (Memref.isWhole_whole _)
      (iblk m c 0 t) (X0_1 m c t) (iblk m c 2 t) (iblk m c 3 t) (iblk m c 4 t) (X0_5 m c t) (X0_6 m c t) (X0_7 m c t) (iblk m c 8 t) (iblk m c 9 t) (iblk m c 10 t) ((first_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HT0]; · iexact HT0
    isplitl [HT1]; · iexact HT1
    iintro ⟨H0, H1, H2, H3, H4, H5, H6, H7, H8, H9, H10, H11, H12, HT0, HT1⟩
    isplitl [HT0 HT1 Hg]
    · isplitl [HT0 HT1]
      · isplitl [HT0]
        · iexact HT0
        iexact HT1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [if_neg h0]
    iintro ⟨⟨⟨HT0, HT1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyRun_later c (grid0.coords t) (st0 t) (stw0 t) (st1 t) (stw1 t) (st2 t) (stw2 t) (st3 t) (stw3 t) (st4 t) (stw4 t) (st5 t) (stw5 t) (st6 t) (stw6 t) (st7 t) (stw7 t) (st8 t) (stw8 t) (st9 t) (stw9 t) (st10 t) (stw10 t) (st11 t) (stw11 t) (st12 t) (stw12 t) tab0 (Memref.isWhole_whole _) tab1 (Memref.isWhole_whole _)
      (iblk m c 0 t) (X0_1 m c t) (iblk m c 2 t) (iblk m c 3 t) (iblk m c 4 t) (X0_5 m c t) (X0_6 m c t) (X0_7 m c t) (iblk m c 8 t) (iblk m c 9 t) (iblk m c 10 t) (fun h => h0 ((first_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HT0]; · iexact HT0
    isplitl [HT1]; · iexact HT1
    iintro ⟨H0, H1, H2, H3, H4, H5, H6, H7, H8, H9, H10, H11, H12, HT0, HT1⟩
    isplitl [HT0 HT1 Hg]
    · isplitl [HT0 HT1]
      · isplitl [HT0]
        · iexact HT0
        iexact HT1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The library's obligation on the body. -/
theorem body_owed (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

theorem between_out (c : Dev nD) : (between c 32 : sProp 𝕄) ⊢ between c 0 := by
  unfold between
  rw [if_neg (by decide), if_pos rfl]
  iintro ⟨⟨HT0, HT1⟩, Hg⟩
  isplitl [HT0 HT1]
  · isplitl [HT0]
    · iexists _; iexact HT0
    iexists _; iexact HT1
  iexact Hg

-- the launch theorem's implicit arguments are found by unfolding plain definitions in a type
set_option backward.isDefEq.respectTransparency.types false in
/-- The launch: it ends, with every array at what the points left and every counter at zero. -/
theorem runs : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_owed m c).loose) (hq := fun _ _ _ => rfl)
    (howed := fun _ _ => rfl) (V := V m) (hmain := hmain m Variants.none) (hA := arrays_eq m)
    (hin := fun c => by rw [scoped_eq]; exact .rfl)
    (hout := fun c => by rw [scoped_eq]; exact between_out c)

/-- The frame: the arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (arrays_eq m) ((θ_run defs _ _).mono (fun _ h => h.1) (runs m ρ)))
    ((θ_run defs _ _).mono (fun _ h => h.2) (runs m ρ))

end Cert.KernelIdeal.Gen
end
-- ==== Proof.Twin.lean ====
module

public import proofs.«01_k».proof.Proof.Launched
public import proofs.«01_k».proof.Proof.Gen.Kernel

@[expose] public section
set_option maxRecDepth 100000
noncomputable section

/-! The kernel is the idealized program read with each named constant at its own bits, so what the idealized program's
run shows at every float instance, it shows of the kernel. -/
namespace Cert.Proof.Twin

open Idealize.ShloMosaic Idealize.ShloMosaic.TcCoe Idealize.SL.Sem Cert.Kernel

variable {F : FTy → Type} [FloatOps F]

/-- Every named constant at the float its bits spell. -/
@[reducible] def byBits : Named F := ⟨fun _ _ _ b => FloatOps.ofBits _ b⟩

/-- The two kernel functions are one. -/
theorem body_eq : @cc0_mixers F _ Gen.facts = @Cert.KernelIdeal.cc0_mixers F _ byBits Cert.KernelIdeal.Gen.facts := rfl

/-- So are the labels' definitions, before and after the pipeline's, -/
theorem defs₀_eq : @defs₀ F _ Gen.facts = @Cert.KernelIdeal.defs₀ F _ byBits Cert.KernelIdeal.Gen.facts := by
  unfold defs₀ Cert.KernelIdeal.defs₀
  refine congrArg Defs.onTc (funext fun l => ?_)
  match l with
  | 0 => exact funext fun x => match x with
    | (t, s) => (by
      dsimp only
      rw [body_eq]
      rfl)

theorem defs_eq : @defs F _ Gen.facts = @Cert.KernelIdeal.defs F _ byBits Cert.KernelIdeal.Gen.facts :=
  congrArg (Pipeline.defs (pcfgs (F := F))) defs₀_eq

/-- and the two entry functions. -/
theorem main_eq : @main F _ Gen.facts = @Cert.KernelIdeal.main F _ Cert.KernelIdeal.Gen.facts := by
  sl_kernel_rfl

/-- The kernel ends, its arguments keep their contents and every counter ends at zero. -/
theorem quiet (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq, main_eq]
  exact @Cert.KernelIdeal.Gen.quiet F _ byBits m ρ

end Cert.Proof.Twin

end
-- ==== Proof.Frames.lean ====
module

public import proofs.«01_k».proof.Defs
public import proofs.«01_k».proof.Proof.Launched
public import proofs.«01_k».proof.Proof.Twin
public import proofs.«01_k».proof.Proof.Gen.ReferenceIdeal.Run

@[expose] public section
noncomputable section

/-! The claims about each program alone: it ends, its arguments keep their contents and every counter ends at zero;
and the table's entry for each named constant. -/
namespace Cert.Proof

open Idealize.ShloMosaic Idealize.SL.Sem

theorem frame_kernel : Cert.quiescent_Kernel := fun m ρ _ => Twin.quiet m ρ

theorem frame_ideal : Cert.quiescent_KernelIdeal := fun m ρ _ => Cert.KernelIdeal.Gen.quiet m ρ

/-- The reference declares no semaphore, so its counters are zero in any state. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Each named constant has the value the table gives it: the sixteen slopes over ln 2, the mask at −∞, and 1 / ln 2. -/
theorem preserves : Cert.preserves_Kernel_KernelIdeal :=
  ⟨IdealRules.named_const.statement Cert.KernelIdeal.κ "slope1" .f32 0xBF8293EE#32 ((((-1) * (Real.log 2)⁻¹) * (Real.sqrt 2)⁻¹ : ℝ) : EReal) rfl,
  IdealRules.named_const.statement Cert.KernelIdeal.κ "mask" .f32 0xF149F2CA#32 ⊥ rfl,
  IdealRules.named_const.statement Cert.KernelIdeal.κ "slope2" .f32 0xBF38AA3B#32 (((-1 / 2) * (Real.log 2)⁻¹ : ℝ) : EReal) rfl,
  IdealRules.named_const.statement Cert.KernelIdeal.κ "slope3" .f32 0xBF0293EE#32 ((((-1 / 2) * (Real.log 2)⁻¹) * (Real.sqrt 2)⁻¹ : ℝ) : EReal) rfl,
  IdealRules.named_const.statement Cert.KernelIdeal.κ "slope4" .f32 0xBEB8AA3B#32 (((-1 / 4) * (Real.log 2)⁻¹ : ℝ) : EReal) rfl,
  IdealRules.named_const.statement Cert.KernelIdeal.κ "slope5" .f32 0xBE8293EE#32 ((((-1 / 4) * (Real.log 2)⁻¹) * (Real.sqrt 2)⁻¹ : ℝ) : EReal) rfl,
  IdealRules.named_const.statement Cert.KernelIdeal.κ "slope6" .f32 0xBE38AA3B#32 (((-1 / 8) * (Real.log 2)⁻¹ : ℝ) : EReal) rfl,
  IdealRules.named_const.statement Cert.KernelIdeal.κ "slope7" .f32 0xBE0293EE#32 ((((-1 / 8) * (Real.log 2)⁻¹) * (Real.sqrt 2)⁻¹ : ℝ) : EReal) rfl,
  IdealRules.named_const.statement Cert.KernelIdeal.κ "slope8" .f32 0xBDB8AA3B#32 (((-1 / 16) * (Real.log 2)⁻¹ : ℝ) : EReal) rfl,
  IdealRules.named_const.statement Cert.KernelIdeal.κ "slope9" .f32 0xBD8293EE#32 ((((-1 / 16) * (Real.log 2)⁻¹) * (Real.sqrt 2)⁻¹ : ℝ) : EReal) rfl,
  IdealRules.named_const.statement Cert.KernelIdeal.κ "slope10" .f32 0xBD38AA3B#32 (((-1 / 32) * (Real.log 2)⁻¹ : ℝ) : EReal) rfl,
  IdealRules.named_const.statement Cert.KernelIdeal.κ "slope11" .f32 0xBD0293EE#32 ((((-1 / 32) * (Real.log 2)⁻¹) * (Real.sqrt 2)⁻¹ : ℝ) : EReal) rfl,
  IdealRules.named_const.statement Cert.KernelIdeal.κ "slope12" .f32 0xBCB8AA3B#32 (((-1 / 64) * (Real.log 2)⁻¹ : ℝ) : EReal) rfl,
  IdealRules.named_const.statement Cert.KernelIdeal.κ "slope13" .f32 0xBC8293EE#32 ((((-1 / 64) * (Real.log 2)⁻¹) * (Real.sqrt 2)⁻¹ : ℝ) : EReal) rfl,
  IdealRules.named_const.statement Cert.KernelIdeal.κ "slope14" .f32 0xBC38AA3B#32 (((-1 / 128) * (Real.log 2)⁻¹ : ℝ) : EReal) rfl,
  IdealRules.named_const.statement Cert.KernelIdeal.κ "slope15" .f32 0xBC0293EE#32 ((((-1 / 128) * (Real.log 2)⁻¹) * (Real.sqrt 2)⁻¹ : ℝ) : EReal) rfl,
  IdealRules.named_const.statement Cert.KernelIdeal.κ "slope16" .f32 0xBBB8AA3B#32 (((-1 / 256) * (Real.log 2)⁻¹ : ℝ) : EReal) rfl,
  IdealRules.named_const.statement Cert.KernelIdeal.κ "log2e" .f32 0x3FB8AA3B#32 (((Real.log 2)⁻¹ : ℝ) : EReal) rfl⟩

end Cert.Proof

end
-- ==== Proof.UpRun.lean ====
module

public import Idealize.ShloMosaic.Lib.VecWindow
public import proofs.«01_k».proof.Proof.Gen.Kernel2Ideal.Frame
public import proofs.«01_k».proof.Proof.Gen.Kernel2Ideal.Skeleton

@[expose] public section
set_option maxRecDepth 16384
noncomputable section
namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of a whole slab of weights reads the slab. -/
theorem ld_slab (x : Vec F S4096x256 .f32) (inb : ∀ a, (![0, 0] : Fin 2 → ℕ) a + S4096x256.size a ≤ S4096x256.size a) :
    View.ld x (Rect.unit (s := S4096x256) ![0, 0] S4096x256.size inb) = x :=
  funext fun y => congrArg x (funext fun a => Fin.ext (by
    show (![0, 0] : Fin 2 → ℕ) a + 1 * (y a).val = (y a).val
    have := inb a; omega))

/-- The block of gated activations that a point leaves: its two halves of rows, the later one written last. -/
def actOut (x2 : Vec F S2048x4096 .bf16) (x3 : Vec F S2048x1 .f32) (x4 x5 : Vec F S4096x256 .f32) : Vec F S2048x256 .bf16 :=
  View.canon (Val := Elt F) [
    ⟨Rect.unit (s := S2048x256) ![1024, 0] S1024x256.size inb_S2048x256_S1024x256_1024_0,
      k0_pay5 x4 x5 (View.ld x2 (Rect.unit (s := S2048x4096) ![1024, 0] S1024x4096.size inb_S2048x4096_S1024x4096_1024_0))
        (View.ld x3 (Rect.unit (s := S2048x1) ![1024, 0] S1024x1.size inb_S2048x1_S1024x1_1024_0))⟩,
    ⟨Rect.unit (s := S2048x256) ![0, 0] S1024x256.size inb_S2048x256_S1024x256_0_0,
      k0_pay4 x4 x5 (View.ld x2 (Rect.unit (s := S2048x4096) ![0, 0] S1024x4096.size inb_S2048x4096_S1024x4096_0_0))
        (View.ld x3 (Rect.unit (s := S2048x1) ![0, 0] S1024x1.size inb_S2048x1_S1024x1_0_0))⟩]

set_option maxHeartbeats 2000000 in
/-- A point of the first rows: it leaves its block of activations, and the cast slab of the down weights. -/
theorem upRun_casts (c : Dev nD) (i : grid0.Coords)
    (arg2 : Memref sig .tc .vmem S2048x4096 .bf16) (harg2 : arg2.IsWhole)
    (arg3 : Memref sig .tc .vmem S2048x1 .f32) (harg3 : arg3.IsWhole)
    (arg4 : Memref sig .tc .vmem S4096x256 .f32) (harg4 : arg4.IsWhole)
    (arg5 : Memref sig .tc .vmem S4096x256 .f32) (harg5 : arg5.IsWhole)
    (arg6 : Memref sig .tc .vmem S256x4096 .f32) (harg6 : arg6.IsWhole)
    (arg7 : Memref sig .tc .vmem S2048x256 .bf16) (harg7 : arg7.IsWhole)
    (arg8 : Memref sig .tc .vmem S256x4096 .bf16) (harg8 : arg8.IsWhole)
    (x2 : Vec F S2048x4096 .bf16) (x3 : Vec F S2048x1 .f32) (x4 x5 : Vec F S4096x256 .f32) (x6 : Vec F S256x4096 .f32)
    (hc : k0_cond1 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (actOut x2 x3 x4 x5) ∗ owns (c : Thread nD τ) arg8 fullShare (k0_pay1 x6)) -∗ K ⟨⟩))
      ⊢ wp frame (wpE (defs₀ (F := F)) Variants.none c none) E (cc0_ffn_up i arg2 harg2 arg3 harg3 arg4 harg4 arg5 harg5 arg6 harg6 arg7 harg7 arg8 harg8) K := by
  rw [cc0_ffn_up_eq_skeleton]
  unfold cc0_ffn_up_skel
  rw [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hc)
  sl_step
  sl_unfold_words
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    refine (View.read_writes_eq_canon (Val := Elt F) arg7.view f7 _ ?_).trans ?_
    · exact View.cover_of_tiledBy _ ![1024, 256] (by sl_kernel_rfl)
    · unfold actOut
      simp only [View.readAt_eq_ld, harg2.read_unread, harg3.read_unread, harg4.read_unread, harg5.read_unread]
      rw [ld_slab x4, ld_slab x5]
  · iexists _; isplitr; swap; · iexact H8
    ipureintro
    erw [View.read_writes_full, View.readAt_full arg6.view, harg6.read_unread]

set_option maxHeartbeats 2000000 in
/-- A point of later rows: it leaves its block of activations, and the slab as it finds it. -/
theorem upRun_keeps (c : Dev nD) (i : grid0.Coords)
    (arg2 : Memref sig .tc .vmem S2048x4096 .bf16) (harg2 : arg2.IsWhole)
    (arg3 : Memref sig .tc .vmem S2048x1 .f32) (harg3 : arg3.IsWhole)
    (arg4 : Memref sig .tc .vmem S4096x256 .f32) (harg4 : arg4.IsWhole)
    (arg5 : Memref sig .tc .vmem S4096x256 .f32) (harg5 : arg5.IsWhole)
    (arg6 : Memref sig .tc .vmem S256x4096 .f32) (harg6 : arg6.IsWhole)
    (arg7 : Memref sig .tc .vmem S2048x256 .bf16) (harg7 : arg7.IsWhole)
    (arg8 : Memref sig .tc .vmem S256x4096 .bf16) (harg8 : arg8.IsWhole)
    (x2 : Vec F S2048x4096 .bf16) (x3 : Vec F S2048x1 .f32) (x4 x5 : Vec F S4096x256 .f32) (x6 : Vec F S256x4096 .f32) (x8 : Vec F S256x4096 .bf16)
    (hc : ¬ (k0_cond1 i = 1#1)) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare x8
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (actOut x2 x3 x4 x5) ∗ owns (c : Thread nD τ) arg8 fullShare x8) -∗ K ⟨⟩))
      ⊢ wp frame (wpE (defs₀ (F := F)) Variants.none c none) E (cc0_ffn_up i arg2 harg2 arg3 harg3 arg4 harg4 arg5 harg5 arg6 harg6 arg7 harg7 arg8 harg8) K := by
  rw [cc0_ffn_up_eq_skeleton]
  unfold cc0_ffn_up_skel
  rw [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, H8, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hc)
  sl_step
  sl_unfold_words
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    refine (View.read_writes_eq_canon (Val := Elt F) arg7.view f7 _ ?_).trans ?_
    · exact View.cover_of_tiledBy _ ![1024, 256] (by sl_kernel_rfl)
    · unfold actOut
      simp only [View.readAt_eq_ld, harg2.read_unread, harg3.read_unread, harg4.read_unread, harg5.read_unread]
      rw [ld_slab x4, ld_slab x5]
  iexact H8

end Cert.Kernel2Ideal.Gen
end
-- ==== Proof.UpLaunched.lean ====
module

public import Idealize.ShloMosaic.Lib.Claim
public import Idealize.ShloMosaic.Lib.Pipeline.TableIdle
public import proofs.«01_k».proof.Proof.UpRun

@[expose] public section
set_option maxRecDepth 16384
noncomputable section
namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point casts its slab of the down weights exactly when it is one of the first 43, those of the first rows. -/
theorem casts_iff (t : Fin cfg0.N) : k0_cond1 (grid0.coords t) = 1#1 ↔ t.val < 43 := by
  have ht : t.val < 172 := Nat.lt_of_lt_of_eq t.isLt N_0
  have e0 : (grid0.coords t 0).val = t.val / 43 := by
    have h : (grid0.coords t 0).val = t.val / 43 % 4 := Pipeline.Grid.coords_val t 0 (by decide) rfl
    omega
  have h4 : t.val / 43 < 4 := by omega
  show (Scalar.cmpi .ne (Scalar.extui (Scalar.cmpi .eq (BitVec.ofNat 32 (grid0.coords t 0).val) 0#32)) 0#32 = 1#1) ↔ _
  rw [e0]
  have h : (Scalar.cmpi .ne (Scalar.extui (Scalar.cmpi .eq (BitVec.ofNat 32 (t.val / 43)) 0#32)) 0#32 = 1#1) ↔ t.val / 43 = 0 := by
    generalize t.val / 43 = n at h4
    word_cmp
  rw [h]; omega

/-- The points at which the buffer for the cast slab holds nothing: the first 43; -/
theorem fresh_tab_6 (t : Fin cfg0.N) : cfg0.fresh 6 t.val = decide (t.val < 43 ∨ t.val = 172) :=
  cfg0.fresh_tab 6 (fun n => decide (n < 43 ∨ n = 172)) rfl (by decide +kernel) t.val (Nat.le_of_lt t.isLt)

/-- so no later one. -/
theorem fresh_6 (t : Fin cfg0.N) (ht : 43 ≤ t.val) : cfg0.fresh 6 t.val = false := by
  rw [fresh_tab_6]
  have : t.val < 172 := Nat.lt_of_lt_of_eq t.isLt N_0
  exact decide_eq_false (by omega)

/-! The staging buffers a point works in. -/
abbrev st0 (t : Fin cfg0.N) : Memref sig .tc .vmem S2048x4096 .bf16 := win0_0.stage (cfg0.slots t 0)
abbrev stw0 (t : Fin cfg0.N) : (st0 t).IsWhole := hstage0_0 ((cfg0.slots t 0).cast nbuf0_0)
abbrev st1 (t : Fin cfg0.N) : Memref sig .tc .vmem S2048x1 .f32 := win0_1.stage (cfg0.slots t 1)
abbrev stw1 (t : Fin cfg0.N) : (st1 t).IsWhole := hstage0_1 ((cfg0.slots t 1).cast nbuf0_1)
abbrev st2 (t : Fin cfg0.N) : Memref sig .tc .vmem S4096x256 .f32 := win0_2.stage (cfg0.slots t 2)
abbrev stw2 (t : Fin cfg0.N) : (st2 t).IsWhole := hstage0_2 ((cfg0.slots t 2).cast nbuf0_2)
abbrev st3 (t : Fin cfg0.N) : Memref sig .tc .vmem S4096x256 .f32 := win0_3.stage (cfg0.slots t 3)
abbrev stw3 (t : Fin cfg0.N) : (st3 t).IsWhole := hstage0_3 ((cfg0.slots t 3).cast nbuf0_3)
abbrev st4 (t : Fin cfg0.N) : Memref sig .tc .vmem S256x4096 .f32 := win0_4.stage (cfg0.slots t 4)
abbrev stw4 (t : Fin cfg0.N) : (st4 t).IsWhole := hstage0_4 ((cfg0.slots t 4).cast nbuf0_4)
abbrev st5 (t : Fin cfg0.N) : Memref sig .tc .vmem S2048x256 .bf16 := win0_5.stage (cfg0.slots t 5)
abbrev stw5 (t : Fin cfg0.N) : (st5 t).IsWhole := hstage0_5 ((cfg0.slots t 5).cast nbuf0_5)
abbrev st6 (t : Fin cfg0.N) : Memref sig .tc .vmem S256x4096 .bf16 := win0_6.stage (cfg0.slots t 6)
abbrev stw6 (t : Fin cfg0.N) : (st6 t).IsWhole := hstage0_6 ((cfg0.slots t 6).cast nbuf0_6)

/-- The point whose slab stands in the slab's buffer after point `t`: the last of the first 43 up to it. -/
def slabPt (t : Fin cfg0.N) : Fin cfg0.N := if t.val < 43 then t else ⟨42, (by rw [N_0]; decide : 42 < grid0.N)⟩

/-- The pipeline's data: the arrays as the region finds them; every input block in place after the body, the gated
activations and the cast slab of down weights in the two outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => actOut (iblk m c 0 t) (iblk m c 1 t) (iblk m c 2 t) (iblk m c 3 t)
    | ⟨6, _⟩ => k0_pay1 (iblk m c 4 (slabPt t))
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = actOut (iblk m c 0 t) (iblk m c 1 t) (iblk m c 2 t) (iblk m c 3 t) := by dsimp only [dats]
theorem after_6 (c : Dev nD) (t : Fin cfg0.N) : (dats m 0 c).after 6 t = k0_pay1 (iblk m c 4 (slabPt t)) := by dsimp only [dats]

theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = iblk m c 1 t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d

/-- A later point finds the last slab in the slab's buffer, which is what it leaves there. -/
theorem before_6 (c : Dev nD) (t : Fin cfg0.N) (ht : 43 ≤ t.val) (d) :
    (dats m 0 c).before 6 t d = (dats m 0 c).after 6 t := by
  have carry : ∀ t : Fin cfg0.N, 43 ≤ t.val →
      (dats m 0 c).after 6 t = (dats m 0 c).after 6 ⟨t.val - 1, Nat.lt_of_le_of_lt (Nat.sub_le _ _) t.isLt⟩ := fun t ht => by
    rw [after_6, after_6]
    have e : slabPt t = slabPt ⟨t.val - 1, Nat.lt_of_le_of_lt (Nat.sub_le _ _) t.isLt⟩ := by
      unfold slabPt
      rw [if_neg (by omega)]
      by_cases h : t.val - 1 < 43
      · rw [if_pos h]; exact Fin.ext (by show 42 = t.val - 1; omega)
      · rw [if_neg h]
    rw [e]
  have late : ∀ t : Fin cfg0.N, cfg0.fresh 6 t.val = false → 43 ≤ t.val := fun t hf => by
    rw [fresh_tab_6 t] at hf
    by_contra h
    exact of_decide_eq_false hf (Or.inl (Nat.lt_of_not_le h))
  have e := (dats m 0 c).before_out_traj 6 rfl (fun _ _ => rfl) (fun t _ _ hf => carry t (late t hf)) t.val t rfl d
  rw [fresh_6 t ht, if_neg Bool.false_ne_true] at e
  exact e.trans (carry t ht).symm

/-- What a point's body is given, window by window, -/
def givenAt (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- and what it gives back. -/
def givesAt (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

set_option maxHeartbeats 2400000 in
/-- The body at any point: one of the first rows, or a later one. -/
theorem body_at (c : Dev nD) (t : Fin cfg0.N) :
    givenAt m c t ⊢ wp frame (wpE (defs₀ (F := F)) Variants.none c none) Set.univ (bodyAt0 t) (fun _ => givesAt m c t) := by
  unfold givenAt givesAt bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.castSucc = Pipeline.ΦA spec0 c from rfl, show (dats m 0 c).Φ t.succ = Pipeline.ΦA spec0 c from rfl]
  by_cases h0 : t.val < 43
  · rw [after_6, show slabPt t = t from if_pos h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (upRun_casts c (grid0.coords t) (st0 t) (stw0 t) (st1 t) (stw1 t) (st2 t) (stw2 t) (st3 t) (stw3 t) (st4 t) (stw4 t) (st5 t) (stw5 t) (st6 t) (stw6 t)
      (iblk m c 0 t) (iblk m c 1 t) (iblk m c 2 t) (iblk m c 3 t) (iblk m c 4 t) ((casts_iff t).mpr h0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before_6 m c t (Nat.le_of_not_lt h0)]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (upRun_keeps c (grid0.coords t) (st0 t) (stw0 t) (st1 t) (stw1 t) (st2 t) (stw2 t) (st3 t) (stw3 t) (st4 t) (stw4 t) (st5 t) (stw5 t) (st6 t) (stw6 t)
      (iblk m c 0 t) (iblk m c 1 t) (iblk m c 2 t) (iblk m c 3 t) (iblk m c 4 t) ((dats m 0 c).after 6 t) (fun h => h0 ((casts_iff t).mp h)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The slab's buffer as the pipeline takes it back: at a point that casts no slab and writes none back, as found. -/
theorem slab_back (c : Dev nD) (t : Fin cfg0.N) :
    (owns (c : Thread nD τ) (st6 t) fullShare ((dats m 0 c).after 6 t) : sProp 𝕄)
      ⊢ match cfg0.idle 6 (cfg0.grid.coords t) with
        | true =>
          match (cfg0.win 6).flush t with
          | false => iprop(∃ d, owns (c : Thread nD τ) (st6 t) fullShare ((dats m 0 c).before 6 t d))
          | true => owns (c : Thread nD τ) (st6 t) fullShare ((dats m 0 c).after 6 t)
        | false => owns (c : Thread nD τ) (st6 t) fullShare ((dats m 0 c).after 6 t) := by
  cases hi : cfg0.idle 6 (cfg0.grid.coords t)
  · exact .rfl
  cases hf : (cfg0.win 6).flush t
  · have ht : 43 ≤ t.val := by
      by_contra h
      have hc : k0_cond1 (grid0.coords t) = 1#1 := (casts_iff t).mpr (by omega)
      have hi' : (!(k0_cond1 (grid0.coords t) == 1#1)) = true := hi
      rw [hc] at hi'
      exact absurd hi' (by decide)
    simp only [before_6 m c t ht]
    iintro H
    iexists ((dats m 0 c).after 6 t)
    iexact H
  · exact .rfl

/-- The library's obligation on the body. -/
theorem body_owed (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ =>
    sep_mono .rfl (sep_mono .rfl (sep_mono .rfl (sep_mono .rfl (sep_mono .rfl (sep_mono .rfl (sep_mono .rfl (sep_mono .rfl (slab_back m c t))))))))

-- the launch theorem's implicit arguments are found by unfolding plain definitions in a type
set_option backward.isDefEq.respectTransparency.types false in
/-- The launch: it ends, with every array at what the points left and every counter at zero. -/
theorem runs : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_owed m c).loose) (hshare := fun c w => by unfold Dat.share; split <;> rfl)
    (howed := fun _ _ => rfl) (V := V m) (hmain := hmain m Variants.none) (hA := arrays_eq m)
    (hin := fun c => .rfl) (hout := fun c => .rfl)

/-- The frame: the arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arrays_eq m) ((θ_run defs _ _).mono (fun _ h => h.1) (runs m ρ)))
    ((θ_run defs _ _).mono (fun _ h => h.2) (runs m ρ))

end Cert.Kernel2Ideal.Gen
end
-- ==== Proof.UpTwin.lean ====
module

public import proofs.«01_k».proof.Proof.UpLaunched
public import proofs.«01_k».proof.Proof.Gen.Kernel2

@[expose] public section
set_option maxRecDepth 100000
noncomputable section

/-! The feed-forward kernel names no constant, so it is its idealized program's text: what the one's run shows at every
float instance, it shows of the other. -/
namespace Cert.Proof.UpTwin

open Idealize.ShloMosaic Idealize.ShloMosaic.TcCoe Idealize.SL.Sem Cert.Kernel2

variable {F : FTy → Type} [FloatOps F]

/-- The two kernel functions are one. -/
theorem body_eq : @cc0_ffn_up F _ Gen.facts = @Cert.Kernel2Ideal.cc0_ffn_up F _ Cert.Kernel2Ideal.Gen.facts := rfl

/-- So are the labels' definitions, before and after the pipeline's, -/
theorem defs₀_eq : @defs₀ F _ Gen.facts = @Cert.Kernel2Ideal.defs₀ F _ Cert.Kernel2Ideal.Gen.facts := by
  unfold defs₀ Cert.Kernel2Ideal.defs₀
  refine congrArg Defs.onTc (funext fun l => ?_)
  match l with
  | 0 => exact funext fun x => match x with
    | (t, s) => (by
      dsimp only
      rw [body_eq]
      rfl)

theorem defs_eq : @defs F _ Gen.facts = @Cert.Kernel2Ideal.defs F _ Cert.Kernel2Ideal.Gen.facts :=
  congrArg (Pipeline.defs (pcfgs (F := F))) defs₀_eq

/-- and the two entry functions. -/
theorem main_eq : @main F _ Gen.facts = @Cert.Kernel2Ideal.main F _ Cert.Kernel2Ideal.Gen.facts := by
  sl_kernel_rfl

/-- The kernel ends, its arguments keep their contents and every counter ends at zero. -/
theorem quiet (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact @Cert.Kernel2Ideal.Gen.quiet F _ m ρ

end Cert.Proof.UpTwin

end
-- ==== Proof.UpFrames.lean ====
module

public import proofs.«01_k».proof.Defs
public import proofs.«01_k».proof.Proof.UpTwin
public import proofs.«01_k».proof.Proof.Gen.Reference2Ideal.Run

@[expose] public section
noncomputable section

/-! The claims about each program of the feed-forward call alone: it ends, its arguments keep their contents and every
counter ends at zero. -/
namespace Cert.Proof.Up

open Idealize.ShloMosaic Idealize.SL.Sem

theorem frame_kernel : Cert.quiescent_Kernel2 := fun m ρ _ => UpTwin.quiet m ρ

theorem frame_ideal : Cert.quiescent_Kernel2Ideal := fun m ρ _ => Cert.Kernel2Ideal.Gen.quiet m ρ

/-- The reference declares no semaphore, so its counters are zero in any state. -/
theorem frame_reference : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

end Cert.Proof.Up

end
-- ==== Proof.UpBlock.lean ====
module

public import Idealize.ShloMosaic.Lib.ValueIdx
public import Idealize.ShloMosaic.Lib.Pointwise
public import Idealize.ShloMosaic.Lib.Pipeline.ValueKit
public import proofs.«01_k».proof.Proof.UpLaunched

@[expose] public section
set_option maxRecDepth 16384
noncomputable section
namespace Cert.Kernel2Ideal.Gen

open Idealize.ShloMosaic Idealize.ShloMosaic.TcCoe Idealize.ShloMosaic.Tactic

/-- One gated activation: of the gate's product `p`, the up product `q` and the row's scale `r`. -/
def gate (p q r : EReal) : EReal := (p * r) * Ideal.logistic (p * r) * (q * r)

/-- A block of gated activations, element by element. -/
def actBlk (x2 : Vec Ideal S2048x4096 .bf16) (x3 : Vec Ideal S2048x1 .f32) (x4 x5 : Vec Ideal S4096x256 .f32) : Vec Ideal S2048x256 .bf16 :=
  fun y => gate (∑ k : Fin 4096, x2 (ix2 (y 0) k) * x4 (ix2 k (y 1))) (∑ k : Fin 4096, x2 (ix2 (y 0) k) * x5 (ix2 k (y 1))) (x3 (ix2 (y 0) 0))

/-- Each half's payload, element by element. -/
theorem pay4_apply (x4 x5 : Vec Ideal S4096x256 .f32) (a : Vec Ideal S1024x4096 .bf16) (b : Vec Ideal S1024x1 .f32) (y : S1024x256.Idx) :
    k0_pay4 x4 x5 a b y
      = gate (∑ k : Fin 4096, a (ix2 (y 0) k) * x4 (ix2 k (y 1))) (∑ k : Fin 4096, a (ix2 (y 0) k) * x5 (ix2 k (y 1))) (b (ix2 (y 0) 0)) := by
  unfold k0_pay4 k0_pay2 k0_pay3
  pointwise
  rfl
@[inherit_doc pay4_apply]
theorem pay5_apply (x4 x5 : Vec Ideal S4096x256 .f32) (a : Vec Ideal S1024x4096 .bf16) (b : Vec Ideal S1024x1 .f32) (y : S1024x256.Idx) :
    k0_pay5 x4 x5 a b y
      = gate (∑ k : Fin 4096, a (ix2 (y 0) k) * x4 (ix2 k (y 1))) (∑ k : Fin 4096, a (ix2 (y 0) k) * x5 (ix2 k (y 1))) (b (ix2 (y 0) 0)) :=
  pay4_apply x4 x5 a b y

/-- What a load of rows `o` onward reads of a block of activations, and of a column of scales. -/
theorem ld_rows {o : ℕ} (x : Vec Ideal S2048x4096 .bf16) (inb : ∀ a, (![o, 0] : Fin 2 → ℕ) a + S1024x4096.size a ≤ S2048x4096.size a)
    (r : Fin 1024) (r' : Fin 2048) (h : o + r.val = r'.val) (k : Fin 4096) :
    View.ld x (Rect.unit (s := S2048x4096) ![o, 0] S1024x4096.size inb) (ix2 r k) = x (ix2 r' k) :=
  congrArg x (funext fun a => match a with
    | ⟨0, _⟩ => Fin.ext (by show o + 1 * r.val = r'.val; omega)
    | ⟨1, _⟩ => Fin.ext (by show 0 + 1 * k.val = k.val; omega))
@[inherit_doc ld_rows]
theorem ld_scale {o : ℕ} (x : Vec Ideal S2048x1 .f32) (inb : ∀ a, (![o, 0] : Fin 2 → ℕ) a + S1024x1.size a ≤ S2048x1.size a)
    (r : Fin 1024) (r' : Fin 2048) (h : o + r.val = r'.val) :
    View.ld x (Rect.unit (s := S2048x1) ![o, 0] S1024x1.size inb) (ix2 r 0) = x (ix2 r' 0) :=
  congrArg x (funext fun a => match a with
    | ⟨0, _⟩ => Fin.ext (by show o + 1 * r.val = r'.val; omega)
    | ⟨1, _⟩ => Fin.ext (by show 0 + 1 * 0 = 0; omega))

/-- Both halves together are the block. -/
theorem actOut_eq (x2 : Vec Ideal S2048x4096 .bf16) (x3 : Vec Ideal S2048x1 .f32) (x4 x5 : Vec Ideal S4096x256 .f32) :
    actOut x2 x3 x4 x5 = actBlk x2 x3 x4 x5 := by
  funext y
  unfold actOut
  refine View.canon_apply_of_pieces (actBlk x2 x3 x4 x5) _ ?_ y (View.cover_of_tiledBy _ ![1024, 256] (by sl_kernel_rfl) y)
  intro p hp x
  simp only [List.mem_cons, List.not_mem_nil, or_false] at hp
  rcases hp with rfl | rfl
  · show k0_pay5 _ _ _ _ x = _
    rw [pay5_apply]
    unfold actBlk
    have e : ∀ k, _ := fun k => ld_rows x2 inb_S2048x4096_S1024x4096_1024_0 (x 0)
      ((Rect.unit (s := S2048x256) ![1024, 0] S1024x256.size inb_S2048x256_S1024x256_1024_0).emb x 0) (by show 1024 + (x 0).val = 1024 + 1 * (x 0).val; omega) k
    have e1 : (Rect.unit (s := S2048x256) ![1024, 0] S1024x256.size inb_S2048x256_S1024x256_1024_0).emb x 1 = x 1 :=
      Fin.ext (by show 0 + 1 * (x 1).val = (x 1).val; omega)
    simp only [e, e1]
    rw [ld_scale x3 _ (x 0) ((Rect.unit (s := S2048x256) ![1024, 0] S1024x256.size inb_S2048x256_S1024x256_1024_0).emb x 0) (by show 1024 + (x 0).val = 1024 + 1 * (x 0).val; omega)]
  · show k0_pay4 _ _ _ _ x = _
    rw [pay4_apply]
    unfold actBlk
    have e : ∀ k, _ := fun k => ld_rows x2 inb_S2048x4096_S1024x4096_0_0 (x 0)
      ((Rect.unit (s := S2048x256) ![0, 0] S1024x256.size inb_S2048x256_S1024x256_0_0).emb x 0) (by show 0 + (x 0).val = 0 + 1 * (x 0).val; omega) k
    have e1 : (Rect.unit (s := S2048x256) ![0, 0] S1024x256.size inb_S2048x256_S1024x256_0_0).emb x 1 = x 1 :=
      Fin.ext (by show 0 + 1 * (x 1).val = (x 1).val; omega)
    simp only [e, e1]
    rw [ld_scale x3 _ (x 0) ((Rect.unit (s := S2048x256) ![0, 0] S1024x256.size inb_S2048x256_S1024x256_0_0).emb x 0) (by show 0 + (x 0).val = 0 + 1 * (x 0).val; omega)]

variable (m : (ℓ : Loc nD τ sig) → Buf (Elt Ideal) ℓ)

/-- The gated activations, whole: of the scaled rows, the rows' scales and both slabs of weights. -/
def actArr (xg : Vec Ideal S8192x4096 .bf16) (rs : Vec Ideal S8192x1 .f32) (wg wu : Vec Ideal S4096x11008 .f32) : Vec Ideal S8192x11008 .bf16 :=
  fun j => gate (∑ k : Fin 4096, xg (ix2 (j 0) k) * wg (ix2 k (j 1))) (∑ k : Fin 4096, xg (ix2 (j 0) k) * wu (ix2 k (j 1))) (rs (ix2 (j 0) 0))

theorem index_0 : ∀ t : Fin cfg0.N, win0_0.index t = ![(grid0.coords t 0).val, 0] := (by decide +kernel : ∀ t : Fin grid0.N, _)
theorem index_1 : ∀ t : Fin cfg0.N, win0_1.index t = ![(grid0.coords t 0).val, 0] := (by decide +kernel : ∀ t : Fin grid0.N, _)
theorem index_2 : ∀ t : Fin cfg0.N, win0_2.index t = ![0, (grid0.coords t 1).val] := (by decide +kernel : ∀ t : Fin grid0.N, _)
theorem index_3 : ∀ t : Fin cfg0.N, win0_3.index t = ![0, (grid0.coords t 1).val] := (by decide +kernel : ∀ t : Fin grid0.N, _)
theorem index_5 : ∀ t : Fin cfg0.N, win0_5.index t = ![(grid0.coords t 0).val, (grid0.coords t 1).val] := (by decide +kernel : ∀ t : Fin grid0.N, _)

/-! A point's blocks of the operands lie where its block of the result does. -/
theorem at_0 (t : Fin cfg0.N) (y : S2048x256.Idx) (k : Fin 4096) :
    (win0_0.blk t).view.emb (ix2 (y 0) k) = ix2 ((win0_5.blk t).view.emb y 0) k := by blk_ext [index_0, index_5]
theorem at_1 (t : Fin cfg0.N) (y : S2048x256.Idx) :
    (win0_1.blk t).view.emb (ix2 (y 0) 0) = ix2 ((win0_5.blk t).view.emb y 0) 0 := by blk_ext [index_1, index_5]
theorem at_2 (t : Fin cfg0.N) (y : S2048x256.Idx) (k : Fin 4096) :
    (win0_2.blk t).view.emb (ix2 k (y 1)) = ix2 k ((win0_5.blk t).view.emb y 1) := by blk_ext [index_2, index_5]
theorem at_3 (t : Fin cfg0.N) (y : S2048x256.Idx) (k : Fin 4096) :
    (win0_3.blk t).view.emb (ix2 k (y 1)) = ix2 k ((win0_5.blk t).view.emb y 1) := by blk_ext [index_3, index_5]

/-- The array of gated activations at the end. -/
theorem final_5 (c : Dev nD) : (dats m 0 c).arrAt 5 cfg0.N
    = actArr (V m c main_v4) (V m c main_v12) (V m c main_arg2) (V m c main_arg3) := by
  refine (dats m 0 c).arrAt_eq_of_covers 5 _ (by decide +kernel) fun t hf y => ?_
  blk_simp
  rw [after_5, actOut_eq]
  unfold actBlk actArr
  blk_simp [iblk]
  have h0 : ∀ k : Fin 4096, V m c main_v4 ((win0_0.blk t).view.emb (ix2 (y 0) k)) = V m c main_v4 (ix2 ((win0_5.blk t).view.emb y 0) k) :=
    fun k => congrArg (V m c main_v4) (at_0 t y k)
  have h1 : V m c main_v12 ((win0_1.blk t).view.emb (ix2 (y 0) 0)) = V m c main_v12 (ix2 ((win0_5.blk t).view.emb y 0) 0) :=
    congrArg (V m c main_v12) (at_1 t y)
  have h2 : ∀ k : Fin 4096, V m c main_arg2 ((win0_2.blk t).view.emb (ix2 k (y 1))) = V m c main_arg2 (ix2 k ((win0_5.blk t).view.emb y 1)) :=
    fun k => congrArg (V m c main_arg2) (at_2 t y k)
  have h3 : ∀ k : Fin 4096, V m c main_arg3 ((win0_3.blk t).view.emb (ix2 k (y 1))) = V m c main_arg3 (ix2 k ((win0_5.blk t).view.emb y 1)) :=
    fun k => congrArg (V m c main_arg3) (at_3 t y k)
  exact congr (congr (congrArg gate (Finset.sum_congr rfl fun k _ => congrArg₂ (fun a b : EReal => a * b) (h0 k) (h2 k)))
    (Finset.sum_congr rfl fun k _ => congrArg₂ (fun a b : EReal => a * b) (h0 k) (h3 k))) h1

/-- A slab is written back where it was read. -/
theorem slab_index : ∀ t : Fin cfg0.N, (cfg0.win 6).flush t = true → win0_4.index (slabPt t) = win0_6.index t :=
  (by decide +kernel : ∀ t : Fin grid0.N, (cfg0.win 6).flush t = true → win0_4.index (slabPt t) = win0_6.index t)

/-- The array of cast down weights at the end. -/
theorem final_6 (c : Dev nD) : (dats m 0 c).arrAt 6 cfg0.N = fun j => V m c main_arg4 j := by
  refine (dats m 0 c).arrAt_eq_of_covers 6 _ (by decide +kernel) fun t hf y => ?_
  blk_simp
  rw [after_6]
  show V m c main_arg4 ((win0_4.blk (slabPt t)).view.emb y) = _
  rw [show (win0_4.blk (slabPt t)).view.emb y = (win0_6.blk t).view.emb y from by blk_ext [slab_index t hf]]

end Cert.Kernel2Ideal.Gen
end
-- ==== Proof.UpValue.lean ====
module

public import Idealize.ShloMosaic.Lib.Claim
public import proofs.«01_k».proof.Defs
public import proofs.«01_k».proof.Proof.UpBlock
public import proofs.«01_k».proof.Proof.Gen.Reference2Ideal.Run

@[expose] public section
set_option maxRecDepth 16384
noncomputable section
namespace Cert.Proof.Up

open Idealize.ShloMosaic Idealize.ShloMosaic.TcCoe Idealize.ShloMosaic.Tactic
open Cert.Kernel2Ideal (main_arg0 main_arg1 main_arg2 main_arg3 main_arg4)
open Cert.Kernel2Ideal.Gen (V gate)

/-- A row's scale: one over the root of its mean square, with the small constant added. -/
def rowScale (x : Vec Ideal Cert.Kernel2Ideal.S1x8192x4096 .f32) (i : Fin 8192) : EReal :=
  Ideal.rsqrt (Ideal.div (∑ k : Fin 4096, x (ix3 0 i k) * x (ix3 0 i k)) (Ideal.ofBits .f32 0x45800000#32) + Ideal.ofBits .f32 0x358637BD#32)

/-- A row's element times its column's gain. -/
def scaled (x : Vec Ideal Cert.Kernel2Ideal.S1x8192x4096 .f32) (g : Vec Ideal Cert.Kernel2Ideal.S4096 .f32) (i : Fin 8192) (k : Fin 4096) : EReal :=
  x (ix3 0 i k) * g (ix1 k)

section Kernel
open Cert.Kernel2Ideal Cert.Kernel2Ideal.Gen
variable (m : (ℓ : Loc nD τ sig) → Buf (Elt Ideal) ℓ)

/-- The rows as the launch finds them: each element times its column's gain. -/
theorem rows_apply (c : Dev nD) (i : Fin 8192) (k : Fin 4096) :
    V m c main_v4 (ix2 i k) = scaled (m ((c : Thread nD τ).loc main_arg0)) (m ((c : Thread nD τ).loc main_arg1)) i k := by
  unfold scaled
  simp only [V, hostOps0]
  after_results_simp
  pointwise

/-- The rows' scales as the launch finds them. -/
theorem scale_apply (c : Dev nD) (i : Fin 8192) :
    V m c main_v12 (ix2 i 0) = rowScale (m ((c : Thread nD τ).loc main_arg0)) i := by
  unfold rowScale
  simp only [V, hostOps0]
  after_results_simp
  pointwise

end Kernel

section Reference
open Cert.Reference2Ideal Cert.Reference2Ideal.Gen
variable (x : FVec Ideal S1x8192x4096 .f32) (g : FVec Ideal S4096 .f32) (wg wu : FVec Ideal S4096x11008 .f32)

/-- The reference's normalised rows. -/
def normed : FVec Ideal S1x8192x4096 .f32 := mulf (mulf x (broadcastInDim S1x8192x4096 ![0, 1, 2] bcast_S1x8192x1_S1x8192x4096_0_1_2 (Host.rsqrt (addf (Host.divf (broadcastInDim S1x8192x1 ![0, 1] bcast_S1x8192_S1x8192x1_0_1 (Host.reduceAdd (mulf x x) (constant S_ .f32 0x00000000#32) reducesTo_S1x8192x4096_S1x8192_d2 h_S_)) (broadcastInDim S1x8192x1 ![] bcast_S_S1x8192x1 (constant S_ .f32 0x45800000#32))) (broadcastInDim S1x8192x1 ![] bcast_S_S1x8192x1 (constant S_ .f32 0x358637BD#32)))))) (broadcastInDim S1x8192x4096 ![0, 1, 2] bcast_S1x1x4096_S1x8192x4096_0_1_2 (broadcastInDim S1x1x4096 ![2] bcast_S4096_S1x1x4096_2 g))

/-- The reference's gated activations. -/
def refAct : FVec Ideal S8192x11008 .bf16 := truncf .bf16 (shapeCast _ (mulf (mulf (Host.dotGeneral dot_S1x8192x4096_S4096x11008_S1x8192x11008_2_0_01_1_n_n none (normed x g) wg) (Host.divf (broadcastInDim S1x8192x11008 ![] bcast_S_S1x8192x11008 (constant S_ .f32 0x3F800000#32)) (addf (broadcastInDim S1x8192x11008 ![] bcast_S_S1x8192x11008 (constant S_ .f32 0x3F800000#32)) (Host.exp (Host.negf (Host.dotGeneral dot_S1x8192x4096_S4096x11008_S1x8192x11008_2_0_01_1_n_n none (normed x g) wg)))))) (Host.dotGeneral dot_S1x8192x4096_S4096x11008_S1x8192x11008_2_0_01_1_n_n none (normed x g) wu)) shapeCasts_S1x8192x11008_S8192x11008) bitsLt_bf16_f32

theorem normed_apply (i : Fin 8192) (k : Fin 4096) : normed x g (ix3 0 i k) = x (ix3 0 i k) * rowScale x i * g (ix1 k) := by
  unfold normed rowScale
  pointwise

theorem refAct_apply (i : Fin 8192) (f : Fin 11008) : refAct x g wg wu (ix2 i f)
    = (∑ k : Fin 4096, normed x g (ix3 0 i k) * wg (ix2 k f)) * Ideal.logistic (∑ k : Fin 4096, normed x g (ix3 0 i k) * wg (ix2 k f))
      * ∑ k : Fin 4096, normed x g (ix3 0 i k) * wu (ix2 k f) := by
  unfold refAct
  pointwise
  rfl

end Reference

/-- A factor that is neither negative nor infinite comes out of a sum. -/
theorem sum_scaled {n : ℕ} (a : Fin n → EReal) {r : EReal} (h0 : 0 ≤ r) (ht : r ≠ ⊤) : ∑ k, a k * r = (∑ k, a k) * r := by
  classical
  induction (Finset.univ : Finset (Fin n)) using Finset.induction_on with
  | empty => simp
  | insert b s hb ih => rw [Finset.sum_insert hb, Finset.sum_insert hb, ih, EReal.right_distrib_of_nonneg_of_ne_top h0 ht]

theorem square_nonneg (x : EReal) : 0 ≤ x * x := by
  induction x with
  | bot => simp
  | top => simp
  | coe r => rw [← EReal.coe_mul]; exact_mod_cast mul_self_nonneg r

/-- One over the root of a positive number is neither negative nor infinite. -/
theorem rsqrt_bounds {x : EReal} (h : 0 < x) : 0 ≤ Ideal.rsqrt x ∧ Ideal.rsqrt x ≠ ⊤ := by
  induction x with
  | bot => simp at h
  | top => simp
  | coe r =>
    have hr : 0 < r := by exact_mod_cast h
    rw [Ideal.rsqrt_coe, if_neg (not_lt.mpr hr.le), if_neg hr.ne']
    exact ⟨by exact_mod_cast (inv_nonneg.mpr (Real.sqrt_nonneg r)), EReal.coe_ne_top _⟩

/-- The row length's pattern, and the small constant's. -/
theorem len_bits : Ideal.ofBits .f32 0x45800000#32 = ((4096 : ℝ) : EReal) := by
  simp [Ideal.ofBits, Ideal.ieee, -EReal.coe_mul]; norm_num
theorem eps_bits : 0 < Ideal.ofBits .f32 0x358637BD#32 := by
  simp [Ideal.ofBits, Ideal.ieee, -EReal.coe_mul]

theorem rowScale_bounds (x : Vec Ideal Cert.Kernel2Ideal.S1x8192x4096 .f32) (i : Fin 8192) : 0 ≤ rowScale x i ∧ rowScale x i ≠ ⊤ := by
  unfold rowScale
  refine rsqrt_bounds ?_
  rw [len_bits, Ideal.div_coe (by norm_num : (4096 : ℝ) ≠ 0)]
  refine lt_of_lt_of_le eps_bits (le_add_of_nonneg_left ?_)
  exact mul_nonneg (Finset.sum_nonneg fun k _ => square_nonneg _) (by exact_mod_cast (by norm_num : (0 : ℝ) ≤ 1 / 4096))

/-- A product of normalised rows with a column of weights is the product of the scaled rows, times the row's scale. -/
theorem product_eq (x : Vec Ideal Cert.Kernel2Ideal.S1x8192x4096 .f32) (g : Vec Ideal Cert.Kernel2Ideal.S4096 .f32)
    (w : Fin 4096 → EReal) (i : Fin 8192) :
    ∑ k : Fin 4096, normed x g (ix3 0 i k) * w k = (∑ k : Fin 4096, scaled x g i k * w k) * rowScale x i := by
  rw [← sum_scaled _ (rowScale_bounds x i).1 (rowScale_bounds x i).2]
  refine Finset.sum_congr rfl fun k _ => ?_
  rw [normed_apply]
  unfold scaled
  rw [mul_right_comm _ _ (g (ix1 k)), mul_right_comm]

/-- Two matrices are equal when their entries are. -/
theorem funext_ix2 {a b : ℕ} {α : Type} {u v : Shape.Idx ⟨2, ![a, b]⟩ → α} (h : ∀ (i : Fin a) (j : Fin b), u (ix2 i j) = v (ix2 i j)) : u = v := by
  funext j
  rw [ValueIdx.eq_ix2 j]
  exact h (j 0) (j 1)

theorem actArr_apply (xg : Vec Ideal Cert.Kernel2Ideal.S8192x4096 .bf16) (rs : Vec Ideal Cert.Kernel2Ideal.S8192x1 .f32)
    (wg wu : Vec Ideal Cert.Kernel2Ideal.S4096x11008 .f32) (i : Fin 8192) (f : Fin 11008) :
    Cert.Kernel2Ideal.Gen.actArr xg rs wg wu (ix2 i f)
      = Cert.Kernel2Ideal.Gen.gate (∑ k : Fin 4096, xg (ix2 i k) * wg (ix2 k f)) (∑ k : Fin 4096, xg (ix2 i k) * wu (ix2 k f)) (rs (ix2 i 0)) := rfl

/-- Activations made of scaled rows and row scales are the reference's. -/
theorem actArr_eq (xg : Vec Ideal Cert.Kernel2Ideal.S8192x4096 .bf16) (rs : Vec Ideal Cert.Kernel2Ideal.S8192x1 .f32)
    (wg wu : Vec Ideal Cert.Kernel2Ideal.S4096x11008 .f32) (x : Vec Ideal Cert.Kernel2Ideal.S1x8192x4096 .f32) (g : Vec Ideal Cert.Kernel2Ideal.S4096 .f32)
    (hx : ∀ i k, xg (ix2 i k) = scaled x g i k) (hr : ∀ i, rs (ix2 i 0) = rowScale x i) :
    Cert.Kernel2Ideal.Gen.actArr xg rs wg wu = refAct x g wg wu := by
  refine funext_ix2 fun i f => ?_
  refine (actArr_apply _ _ _ _ i f).trans (Eq.trans ?_ (refAct_apply _ _ _ _ i f).symm)
  rw [product_eq x g (fun k => wg (ix2 k f)), product_eq x g (fun k => wu (ix2 k f)), hr]
  simp only [hx]
  rfl

/-- The launch's gated activations are the reference's. -/
theorem act_eq (m : (ℓ : Loc Cert.Kernel2Ideal.nD Cert.Kernel2Ideal.τ Cert.Kernel2Ideal.sig) → Buf (Elt Ideal) ℓ) (c : Dev Cert.Kernel2Ideal.nD) :
    (Cert.Kernel2Ideal.Gen.dats m 0 c).arrAt 5 Cert.Kernel2Ideal.cfg0.N
      = refAct (m ((c.tc : Thread Cert.Kernel2Ideal.nD Cert.Kernel2Ideal.τ).loc main_arg0)) (m ((c.tc : Thread Cert.Kernel2Ideal.nD Cert.Kernel2Ideal.τ).loc main_arg1))
          (m ((c.tc : Thread Cert.Kernel2Ideal.nD Cert.Kernel2Ideal.τ).loc main_arg2)) (m ((c.tc : Thread Cert.Kernel2Ideal.nD Cert.Kernel2Ideal.τ).loc main_arg3)) := by
  rw [Cert.Kernel2Ideal.Gen.final_5, Cert.Kernel2Ideal.Gen.V_main_arg2, Cert.Kernel2Ideal.Gen.V_main_arg3]
  exact actArr_eq _ _ _ _ _ _ (rows_apply m c) (scale_apply m c)

open Idealize.SL.Sem in
/-- Both programs end, with equal results. -/
theorem algebraic : Cert.algebraic_Kernel2Ideal_Reference2Ideal := by
  intro m ρ m' ρ' _ hm
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N, ?_, ?_⟩
  · refine (θ_run Cert.Kernel2Ideal.defs _ _).mono (fun r h c => ?_)
      (θ_run_and ((θ_run Cert.Kernel2Ideal.defs _ _).mono (fun _ h => h.1) (Cert.Kernel2Ideal.Gen.runs m ρ)) (Cert.Kernel2Ideal.Gen.quiet m ρ))
    exact ⟨(h.1 c).1 5, (h.1 c).1 6, h.2.1 c⟩
  · refine (θ_run Cert.Reference2Ideal.defs _ _).mono (fun r h c => ?_) (Cert.Reference2Ideal.Value.run (F := Ideal) m' ρ')
    obtain ⟨h0, h1, h2, h3, h4⟩ := hm c
    refine ⟨(h c).1.trans ?_, (h c).2.1.trans ?_, (h c).2.2⟩
    · rw [h0, h1, h2, h3]
      exact (act_eq m c).symm
    · rw [h4]
      refine Eq.trans ?_ (Cert.Kernel2Ideal.Gen.final_6 m c).symm
      rw [Cert.Kernel2Ideal.Gen.V_main_arg4]
      rfl

end Cert.Proof.Up
end
-- ==== Proof.MixMath.lean ====
module

public import proofs.«01_k».proof.Proof.UpValue

/-! The attention of one row over real logits and any sink: the base-two form with the sink as one more key, and the form through
the logarithm of the sum of exponentials, are one value. -/

@[expose] public section
noncomputable section
namespace Cert.Proof.Mix

open Idealize.ShloMosaic

/-- One row of attention in base two: logits `L`, sink `s`, values `v`. -/
def kerForm (L : Fin 384 → EReal) (s : EReal) (v : Fin 384 → EReal) : EReal :=
  (∑ k, Ideal.exp2 (L k - max (Finset.univ.fold max ⊥ L) s) * v k)
    * Ideal.div 1 (∑ k, Ideal.exp2 (L k - max (Finset.univ.fold max ⊥ L) s) + Ideal.exp2 (s - max (Finset.univ.fold max ⊥ L) s))

/-- The logarithm of the sum of the exponentials of the logits `L`. -/
def lseForm (L : Fin 384 → EReal) : EReal :=
  Finset.univ.fold max ⊥ L + Ideal.log (∑ k, Ideal.exp (L k - Finset.univ.fold max ⊥ L))

/-- One row of attention through the logarithm: logits `L`, sink `s`, values `v`. -/
def refForm (L : Fin 384 → EReal) (s : EReal) (v : Fin 384 → EReal) : EReal :=
  ∑ k, v k * Ideal.exp (L k - (max (lseForm L) s + Ideal.log1p (Ideal.exp (-(max (lseForm L - s) (-(lseForm L - s)))))))

/-- The weight of a real logit, none of a masked one. -/
def wt (l : ℝ) (m : Bool) : ℝ := if m then 0 else Real.exp l

/-- A logit that is masked or real. -/
def lg (l : ℝ) (m : Bool) : EReal := if m then ⊥ else (l : EReal)

/-- The largest of logits, one of them real, is real. -/
theorem top_real (l : Fin 384 → ℝ) (m : Fin 384 → Bool) (k₀ : Fin 384) (h : m k₀ = false) :
    ∃ M : ℝ, Finset.univ.fold max ⊥ (fun k => lg (l k) (m k)) = (M : EReal) := by
  have hb : Finset.univ.fold max ⊥ (fun k => lg (l k) (m k)) ≠ ⊥ := by
    intro e
    have : lg (l k₀) (m k₀) ≤ Finset.univ.fold max ⊥ (fun k => lg (l k) (m k)) :=
      (Finset.le_fold_max _).2 (Or.inr ⟨k₀, Finset.mem_univ _, le_rfl⟩)
    rw [e, lg, h] at this
    exact absurd this (by simp)
  have ht : Finset.univ.fold max ⊥ (fun k => lg (l k) (m k)) ≠ ⊤ := by
    refine (ne_of_lt ((Finset.fold_max_lt _).2 ⟨bot_lt_top, fun k _ => ?_⟩))
    unfold lg; split
    · exact bot_lt_top
    · exact EReal.coe_lt_top _
  exact ⟨_, (EReal.coe_toReal ht hb).symm⟩

theorem exp_lg (l : ℝ) (m : Bool) (x : ℝ) : Ideal.exp (lg l m - (x : EReal)) = ((wt l m * Real.exp (-x) : ℝ) : EReal) := by
  unfold lg wt
  cases m
  · simp only [Bool.false_eq_true, if_false, ← EReal.coe_sub]
    show ((Real.exp (l - x) : ℝ) : EReal) = _
    rw [← Real.exp_add, sub_eq_add_neg]
  · simp only [if_true, zero_mul]
    rw [EReal.bot_sub]; rfl

/-- The base-two form of a masked or real logit. -/
theorem exp2_lg (l : ℝ) (m : Bool) (x : ℝ) :
    Ideal.exp2 (lg (l * (Real.log 2)⁻¹) m - ((x * (Real.log 2)⁻¹ : ℝ) : EReal)) = ((wt l m * Real.exp (-x) : ℝ) : EReal) := by
  have h2 : Real.log 2 ≠ 0 := (Real.log_pos (by norm_num)).ne'
  unfold lg wt
  cases m
  · simp only [Bool.false_eq_true, if_false, ← EReal.coe_sub]
    show ((Real.rpow 2 _ : ℝ) : EReal) = _
    rw [Real.rpow_eq_pow, Real.rpow_def_of_pos (by norm_num : (0:ℝ) < 2), ← Real.exp_add]
    congr 2
    field_simp
    ring
  · simp only [if_true, zero_mul]
    rw [EReal.bot_sub]; rfl

theorem coe_sum (f : Fin 384 → ℝ) : ((∑ k, f k : ℝ) : EReal) = ∑ k, ((f k : ℝ) : EReal) :=
  map_sum (⟨⟨Real.toEReal, rfl⟩, EReal.coe_add⟩ : ℝ →+ EReal) f _

theorem wt_nonneg (l : ℝ) (m : Bool) : 0 ≤ wt l m := by
  unfold wt; split
  · exact le_rfl
  · exact (Real.exp_pos _).le

/-- The sum of the weights is positive when one logit is real. -/
theorem sum_pos (l : Fin 384 → ℝ) (m : Fin 384 → Bool) (k₀ : Fin 384) (h : m k₀ = false) : 0 < ∑ k, wt (l k) (m k) :=
  Finset.sum_pos' (fun k _ => wt_nonneg _ _) ⟨k₀, Finset.mem_univ _, by simp [wt, h, Real.exp_pos]⟩

theorem lse_real (l : Fin 384 → ℝ) (m : Fin 384 → Bool) (k₀ : Fin 384) (h : m k₀ = false) :
    lseForm (fun k => lg (l k) (m k)) = ((Real.log (∑ k, wt (l k) (m k)) : ℝ) : EReal) := by
  obtain ⟨M, hM⟩ := top_real l m k₀ h
  have hp := sum_pos l m k₀ h
  unfold lseForm
  rw [hM]
  simp only [exp_lg]
  rw [← coe_sum, ← Finset.sum_mul]
  have hq : 0 < (∑ k, wt (l k) (m k)) * Real.exp (-M) := mul_pos hp (Real.exp_pos _)
  show (M : EReal) + (if _ ≤ (0:ℝ) then ⊥ else ((Real.log _ : ℝ) : EReal)) = _
  rw [if_neg (not_le.2 hq), ← EReal.coe_add, Real.log_mul hp.ne' (Real.exp_pos _).ne', Real.log_exp]
  congr 1; ring

/-- The reference's combination of a logarithm of a sum with the sink is the logarithm of the larger sum. -/
theorem logadd (a s : ℝ) :
    max (a : EReal) s + Ideal.log1p (Ideal.exp (-(max ((a : EReal) - s) (-((a : EReal) - s))))) = ((Real.log (Real.exp a + Real.exp s) : ℝ) : EReal) := by
  have e : Ideal.exp (-(max ((a : EReal) - s) (-((a : EReal) - s)))) = ((Real.exp (-|a - s|) : ℝ) : EReal) := by
    rw [← EReal.coe_sub, ← EReal.coe_neg, ← EReal.coe_strictMono.monotone.map_max, ← EReal.coe_neg]
    rfl
  rw [e]
  unfold Ideal.log1p
  rw [show (1 : EReal) + ((Real.exp (-|a - s|) : ℝ) : EReal) = ((1 + Real.exp (-|a - s|) : ℝ) : EReal) by push_cast; rfl]
  have hq : 0 < 1 + Real.exp (-|a - s|) := by positivity
  show max (a : EReal) s + (if _ ≤ (0:ℝ) then ⊥ else ((Real.log _ : ℝ) : EReal)) = _
  rw [if_neg (not_le.2 hq), ← EReal.coe_strictMono.monotone.map_max, ← EReal.coe_add]
  congr 1
  have : Real.exp a + Real.exp s = Real.exp (max a s) * (1 + Real.exp (-|a - s|)) := by
    rw [mul_add, mul_one, ← Real.exp_add]
    rcases le_total a s with h | h
    · rw [max_eq_right h, abs_of_nonpos (by linarith), add_comm]; congr 2; ring
    · rw [max_eq_left h, abs_of_nonneg (by linarith)]; congr 2; ring
  rw [this, Real.log_mul (Real.exp_pos _).ne' hq.ne', Real.log_exp]

/-- The two forms of a row of attention: the logits real or masked at the same keys, the values equal where not masked. -/
theorem ker_eq_ref (l : Fin 384 → ℝ) (m : Fin 384 → Bool) (σ : ℝ) (u v : Fin 384 → EReal) (k₀ : Fin 384) (h : m k₀ = false)
    (huv : ∀ k, m k = false → u k = v k) :
    kerForm (fun k => lg (l k * (Real.log 2)⁻¹) (m k)) ((σ * (Real.log 2)⁻¹ : ℝ) : EReal) u
      = refForm (fun k => lg (l k) (m k)) (σ : EReal) v := by
  have h2 : Real.log 2 ≠ 0 := (Real.log_pos (by norm_num)).ne'
  have hp := sum_pos l m k₀ h
  have hS : 0 < ∑ k, wt (l k) (m k) + Real.exp σ := by positivity
  obtain ⟨M, hM⟩ := top_real (fun k => l k * (Real.log 2)⁻¹) m k₀ h
  obtain ⟨x, hx⟩ : ∃ x : ℝ, max (Finset.univ.fold max ⊥ (fun k => lg (l k * (Real.log 2)⁻¹) (m k))) ((σ * (Real.log 2)⁻¹ : ℝ) : EReal)
      = ((x * (Real.log 2)⁻¹ : ℝ) : EReal) :=
    ⟨max M (σ * (Real.log 2)⁻¹) * Real.log 2, by
      rw [hM, ← EReal.coe_strictMono.monotone.map_max, mul_assoc, mul_inv_cancel₀ h2, mul_one]⟩
  unfold kerForm refForm
  rw [lse_real l m k₀ h, logadd, Real.exp_log hp]
  simp only [hx, exp2_lg, exp_lg, mul_one]
  have hs : Ideal.exp2 (((σ * (Real.log 2)⁻¹ : ℝ) : EReal) - ((x * (Real.log 2)⁻¹ : ℝ) : EReal)) = ((Real.exp σ * Real.exp (-x) : ℝ) : EReal) := by
    have := exp2_lg σ false x
    simpa [lg, wt] using this
  rw [hs, ← coe_sum, ← EReal.coe_add, ← Finset.sum_mul, ← add_mul]
  have hd : Ideal.div 1 ((((∑ k, wt (l k) (m k)) + Real.exp σ) * Real.exp (-x) : ℝ) : EReal)
      = (((((∑ k, wt (l k) (m k)) + Real.exp σ) * Real.exp (-x))⁻¹ : ℝ) : EReal) := by
    unfold Ideal.div
    rw [if_neg (by
      rw [← EReal.coe_zero, EReal.coe_eq_coe_iff]
      exact (mul_pos hS (Real.exp_pos _)).ne'), one_mul, EReal.coe_inv]
  rw [hd]
  refine (Cert.Proof.Up.sum_scaled (fun k => ((wt (l k) (m k) * Real.exp (-x) : ℝ) : EReal) * u k) (by
    rw [← EReal.coe_zero, EReal.coe_le_coe_iff]
    exact inv_nonneg.2 (mul_pos hS (Real.exp_pos _)).le) (EReal.coe_ne_top _)).symm.trans ?_
  refine Finset.sum_congr rfl fun k _ => ?_
  cases hm : m k
  · rw [huv k hm, mul_comm, ← mul_assoc, mul_comm, ← EReal.coe_mul]
    congr 2
    rw [Real.exp_neg (Real.log _), Real.exp_log hS]
    have := (Real.exp_pos (-x)).ne'
    field_simp
  · simp [wt]

/-- The two forms of a row of attention for any sink: an infinite one takes all the weight or none. -/
theorem ker_eq_ref_any (l : Fin 384 → ℝ) (m : Fin 384 → Bool) (s : EReal) (u v : Fin 384 → EReal) (k₀ : Fin 384) (h : m k₀ = false)
    (huv : ∀ k, m k = false → u k = v k) :
    kerForm (fun k => lg (l k * (Real.log 2)⁻¹) (m k)) (s * (((Real.log 2)⁻¹ : ℝ) : EReal)) u
      = refForm (fun k => lg (l k) (m k)) s v := by
  have h2 : 0 < (Real.log 2)⁻¹ := inv_pos.2 (Real.log_pos (by norm_num))
  have hp := sum_pos l m k₀ h
  have e0 : Ideal.exp ⊥ = 0 := rfl
  have e2 : Ideal.exp2 ⊥ = 0 := rfl
  have l0 : Ideal.log1p 0 = 0 := by
    unfold Ideal.log1p
    rw [add_zero]
    show (if (1:ℝ) ≤ 0 then ⊥ else ((Real.log 1 : ℝ) : EReal)) = 0
    rw [if_neg (by norm_num), Real.log_one]; rfl
  induction s with
  | coe σ =>
    rw [← EReal.coe_mul]
    exact ker_eq_ref l m σ u v k₀ h huv
  | top =>
    rw [EReal.top_mul_coe_of_pos h2]
    unfold kerForm refForm
    have hx : ∀ x : EReal, x - ⊤ = ⊥ := fun x => by
      rw [sub_eq_add_neg, EReal.neg_top, EReal.add_bot]
    simp only [max_top_right, hx, e0, e2, l0, zero_mul, Finset.sum_const_zero, EReal.neg_bot, EReal.neg_top, add_zero, mul_zero]
  | bot =>
    rw [EReal.bot_mul_coe_of_pos h2]
    obtain ⟨M, hM⟩ := top_real (fun k => l k * (Real.log 2)⁻¹) m k₀ h
    obtain ⟨x, hx⟩ : ∃ x : ℝ, M = x * (Real.log 2)⁻¹ := ⟨M / (Real.log 2)⁻¹, (div_mul_cancel₀ M h2.ne').symm⟩
    unfold kerForm refForm
    rw [lse_real l m k₀ h]
    have hb : ((Real.log (∑ k, wt (l k) (m k)) : ℝ) : EReal) - ⊥ = ⊤ := by
      rw [sub_eq_add_neg, EReal.neg_bot]; rfl
    rw [hb, EReal.neg_top, max_bot_right, max_bot_right, max_bot_right, EReal.neg_top, e0, l0, add_zero, hM, hx, EReal.bot_sub, e2, add_zero]
    simp only [exp2_lg, exp_lg]
    rw [← coe_sum, ← Finset.sum_mul]
    have hS : 0 < (∑ k, wt (l k) (m k)) * Real.exp (-x) := mul_pos hp (Real.exp_pos _)
    have hd : Ideal.div 1 (((∑ k, wt (l k) (m k)) * Real.exp (-x) : ℝ) : EReal) = ((((∑ k, wt (l k) (m k)) * Real.exp (-x))⁻¹ : ℝ) : EReal) := by
      unfold Ideal.div
      rw [if_neg (by
        rw [← EReal.coe_zero, EReal.coe_eq_coe_iff]
        exact hS.ne'), one_mul, EReal.coe_inv]
    rw [hd]
    refine (Cert.Proof.Up.sum_scaled (fun k => ((wt (l k) (m k) * Real.exp (-x) : ℝ) : EReal) * u k) (by
      rw [← EReal.coe_zero, EReal.coe_le_coe_iff]
      exact inv_nonneg.2 hS.le) (EReal.coe_ne_top _)).symm.trans ?_
    refine Finset.sum_congr rfl fun k _ => ?_
    cases hm : m k
    · rw [huv k hm, mul_comm, ← mul_assoc, mul_comm, ← EReal.coe_mul]
      congr 2
      rw [Real.exp_neg (Real.log _), Real.exp_log hp]
      have := (Real.exp_pos (-x)).ne'
      have := hp.ne'
      field_simp
    · simp [wt]

end Cert.Proof.Mix
-- ==== Proof.MixPiece.lean ====
module

public import proofs.«01_k».proof.Proof.BodyRun
public import proofs.«01_k».proof.Proof.MixMath

/-! What the mixing kernel computes for the four heads of a group on a block of queries, as one function of its tiles. -/

@[expose] public section
set_option maxRecDepth 16384
noncomputable section
namespace Cert.KernelIdeal.Gen

open Idealize.ShloMosaic Idealize.ShloMosaic.TcCoe Idealize.ShloMosaic.Tactic
open Cert.Proof.Mix
variable {F : FTy → Type} [FloatOps F] [Named F]

/-- The sinks of the four heads, scaled to base two, down the 512 rows of stacked queries. -/
def sinkCol (s0 s1 s2 s3 : Elt F .f32) : FVec F S512x1 .f32 :=
  k0_pay84 k0_pay74 (k0_pay82 k0_pay74 s3 s0) (k0_pay83 k0_pay74) s1 s2

/-- The attention of 512 stacked queries over a window of 384 keys and values. -/
def mixed (qs : FVec F S512x128 .bf16) (kw vw : FVec F S384x128 .bf16) (b : Vec F S4x128x384 .f32) (sk : FVec F S512x1 .f32) :
    FVec F S512x128 .f32 :=
  k0_pay95 k0_pay75 sk vw (matmul dot_S512x128_S384x128_S512x384_1_1_0_0_n_n none qs kw (constant S512x384 .f32 0x00000000#32)) b

/-- The stacked queries of four heads. -/
def stack4 (a b c d : Vec F S128x128 .bf16) : FVec F S512x128 .bf16 :=
  concatenate S512x128 0 [⟨S128x128, shapeCast S128x128 a shapeCasts_S128x128_S128x128⟩, ⟨S128x128, shapeCast S128x128 b shapeCasts_S128x128_S128x128⟩, ⟨S128x128, shapeCast S128x128 c shapeCasts_S128x128_S128x128⟩, ⟨S128x128, shapeCast S128x128 d shapeCasts_S128x128_S128x128⟩] concatenates_S128x128_S128x128_S128x128_S128x128_S512x128_d0

/-- The head's number that the kernel reads off a row of the stacked queries is the row over 128. -/
theorem headWord (r : Fin 512) : (k0_pay74 (ix2 r 0) : BitVec 32) = BitVec.ofNat 32 (r.val / 128) := by
  unfold k0_pay74
  pointwise
  revert r
  decide +kernel

/-- The row's sink in base two. -/
theorem sinkCol_apply (s : Fin 4 → EReal) (r : Fin 512) :
    sinkCol (F := Ideal) (s 0) (s 1) (s 2) (s 3) (ix2 r 0) = s ⟨r.val / 128, by omega⟩ * Named.named κ "log2e" 0x3FB8AA3B#32 := by
  unfold sinkCol k0_pay84 k0_pay82 k0_pay83
  pointwise
  simp only [headWord]
  have h4 : r.val / 128 < 4 := by omega
  generalize hq : (⟨r.val / 128, h4⟩ : Fin 4) = q
  have hq' : r.val / 128 = q.val := by rw [← hq]
  simp only [hq']
  fin_cases q <;> rfl

/-- The attention of a row of stacked queries, read at an element. -/
theorem mixed_apply (qs : FVec Ideal S512x128 .bf16) (kw vw : FVec Ideal S384x128 .bf16) (b : Vec Ideal S4x128x384 .f32)
    (sk : FVec Ideal S512x1 .f32) (r : Fin 512) (d : Fin 128) :
    mixed qs kw vw b sk (ix2 r d)
      = kerForm (fun k => (∑ e : Fin 128, (qs (ix2 r e) : EReal) * kw (ix2 k e)) + b (ix3 ⟨r.val / 128, by omega⟩ ⟨r.val % 128, by omega⟩ k))
          (sk (ix2 r 0)) (fun k => vw (ix2 k d)) := by
  unfold mixed k0_pay95 k0_pay75
  pointwise
  rw [show Ideal.ofBits FTy.f32 4286578688#32 = ⊥ by simp [Ideal.ofBits, Ideal.ieee]]
  rfl

end Cert.KernelIdeal.Gen
-- ==== Proof.MixList.lean ====
module

public import proofs.«01_k».proof.Proof.MixPiece
public import Idealize.ShloMosaic.Lib.WholeRead

/-! Each of the tiles that a point writes in the attention columns is a block of rows of the attention of its group of heads. -/

@[expose] public section
set_option maxRecDepth 16384
noncomputable section
namespace Cert.KernelIdeal.Gen

open Idealize.ShloMosaic Idealize.ShloMosaic.TcCoe Idealize.ShloMosaic.Tactic
variable {F : FTy → Type} [FloatOps F] [Named F]

theorem inb2 {R C r c a b : ℕ} (h : a + r ≤ R) (h' : b + c ≤ C) :
    ∀ x, (![a, b] : Fin 2 → ℕ) x + (![r, c] : Fin 2 → ℕ) x ≤ (![R, C] : Fin 2 → ℕ) x := by
  intro x; fin_cases x <;> assumption

theorem inb3 {R C D r c d a b e : ℕ} (h : a + r ≤ R) (h' : b + c ≤ C) (h'' : e + d ≤ D) :
    ∀ x, (![a, b, e] : Fin 3 → ℕ) x + (![r, c, d] : Fin 3 → ℕ) x ≤ (![R, C, D] : Fin 3 → ℕ) x := by
  intro x; fin_cases x <;> assumption

/-- A load of a part of a buffer that holds `x` reads that part of `x`. -/
theorem readAt_ld {sp : Space} {s : Shape} {e : EltTy} (m : Memref sig .tc sp s e) (h : m.IsWhole) (x : Vec F s e) (R : Rect s) :
    View.readAt (Elt F) m.view R.toLoadRect (h.unread x) = View.ld x R :=
  funext fun y => h.readAt_unread x R.toLoadRect y

/-- The tile of queries of head `h` in rows `a` to `a + 128`. -/
def queryTile (x2 : Vec F S256x2048 .bf16) (qb : Fin 2) (h : Fin 16) : Vec F S128x128 .bf16 :=
  View.ld x2 (Rect.unit (s := S256x2048) ![128 * qb.val, 128 * h.val] S128x128.size (inb2 (by omega) (by omega)))

/-- The 512 rows of keys or values around the block, columns from `128 * j`. -/
def around (x3 : Vec F S128x1024 .bf16) (x4 : Vec F S256x1024 .bf16) (x5 : Vec F S128x1024 .bf16) (j : Fin 8) : FVec F S512x128 .bf16 :=
  k0_pay80 (View.ld x3 (Rect.unit (s := S128x1024) ![0, 128 * j.val] S128x128.size (inb2 (by omega) (by omega))))
    (View.ld x4 (Rect.unit (s := S256x1024) ![0, 128 * j.val] S256x128.size (inb2 (by omega) (by omega))))
    (View.ld x5 (Rect.unit (s := S128x1024) ![0, 128 * j.val] S128x128.size (inb2 (by omega) (by omega))))

/-- The 384 rows that the queries of half `qb` see. -/
def window (qb : Fin 2) (w : FVec F S512x128 .bf16) : FVec F S384x128 .bf16 :=
  match qb with
  | 0 => extractStridedSlice S384x128 ![0, 0] w slices_S512x128_o0_0_S384x128
  | 1 => extractStridedSlice S384x128 ![128, 0] w slices_S512x128_o128_0_S384x128

/-- The biases of the four heads of group `kh` for the queries of half `qb`. -/
def biasBlk (B : Vec F S48x128x384 .f32) (i : grid0.Coords) (r : Fin 8) : Vec F S4x128x384 .f32 :=
  View.ld B (Rect.unit (s := S48x128x384) (k0_off1 i (k0_off1_at r).1 (k0_off1_at r).2.1 (k0_off1_at r).2.2) S4x128x384.size (k0_off1_inb i r))

theorem inb1 {R a : ℕ} (h : a + 1 ≤ R) : ∀ x, (![a] : Fin 1 → ℕ) x + (![1] : Fin 1 → ℕ) x ≤ (![R] : Fin 1 → ℕ) x := by
  intro x; fin_cases x; assumption

/-- The sink of head `h`. -/
def sinkAt (x1 : Vec F S16 .f32) (h : Fin 16) : Elt F .f32 :=
  View.ld x1 (Rect.unit (s := S16) ![h.val] S1.size (inb1 (by omega))) (Shape.Idx.first (show 0 < S1.numel by decide))

/-- The attention of the four heads of group `kh` on the queries of half `qb`. -/
def attn (i : grid0.Coords) (x1 : Vec F S16 .f32) (x2 : Vec F S256x2048 .bf16) (x3 : Vec F S128x1024 .bf16) (x4 : Vec F S256x1024 .bf16)
    (x5 : Vec F S128x1024 .bf16) (B : Vec F S48x128x384 .f32) (qb : Fin 2) (kh : Fin 4) : FVec F S512x128 .f32 :=
  mixed (stack4 (queryTile x2 qb ⟨4 * kh.val, by omega⟩) (queryTile x2 qb ⟨4 * kh.val + 1, by omega⟩) (queryTile x2 qb ⟨4 * kh.val + 2, by omega⟩) (queryTile x2 qb ⟨4 * kh.val + 3, by omega⟩))
    (window qb (around x3 x4 x5 ⟨kh.val, by omega⟩)) (window qb (around x3 x4 x5 ⟨4 + kh.val, by omega⟩))
    (biasBlk B i ⟨2 * kh.val + qb.val, by omega⟩)
    (sinkCol (sinkAt x1 ⟨4 * kh.val, by omega⟩) (sinkAt x1 ⟨4 * kh.val + 1, by omega⟩) (sinkAt x1 ⟨4 * kh.val + 2, by omega⟩) (sinkAt x1 ⟨4 * kh.val + 3, by omega⟩))

/-- The rows of head `g` of the group, rounded. -/
def headRows (g : Fin 4) (o : FVec F S512x128 .f32) : FVec F S128x128 .bf16 :=
  match g with
  | 0 => truncf .bf16 (extractStridedSlice S128x128 ![0, 0] o slices_S512x128_o0_0_S128x128) bitsLt_bf16_f32
  | 1 => truncf .bf16 (extractStridedSlice S128x128 ![128, 0] o slices_S512x128_o128_0_S128x128) bitsLt_bf16_f32
  | 2 => truncf .bf16 (extractStridedSlice S128x128 ![256, 0] o slices_S512x128_o256_0_S128x128) bitsLt_bf16_f32
  | 3 => truncf .bf16 (extractStridedSlice S128x128 ![384, 0] o slices_S512x128_o384_0_S128x128) bitsLt_bf16_f32

/-- The part of the pooled columns that group `gi` takes, of the block and of the rows around it. -/
def poolCols (gi : Fin 4) (p : FVec F S256x2048 .bf16) : FVec F S256x512 .bf16 :=
  match gi with
  | 0 => extractStridedSlice S256x512 ![0, 0] p slices_S256x2048_o0_0_S256x512
  | 1 => extractStridedSlice S256x512 ![0, 512] p slices_S256x2048_o0_512_S256x512
  | 2 => extractStridedSlice S256x512 ![0, 1024] p slices_S256x2048_o0_1024_S256x512
  | 3 => extractStridedSlice S256x512 ![0, 1536] p slices_S256x2048_o0_1536_S256x512

/-- The same columns of the block with the sixteen rows on either side. -/
def poolExt (gi : Fin 4) (p : FVec F S288x2048 .bf16) : FVec F S288x512 .bf16 :=
  match gi with
  | 0 => extractStridedSlice S288x512 ![0, 0] p slices_S288x2048_o0_0_S288x512
  | 1 => extractStridedSlice S288x512 ![0, 512] p slices_S288x2048_o0_512_S288x512
  | 2 => extractStridedSlice S288x512 ![0, 1024] p slices_S288x2048_o0_1024_S288x512
  | 3 => extractStridedSlice S288x512 ![0, 1536] p slices_S288x2048_o0_1536_S288x512

/-- How far group `gi` looks ahead, and one more than that, as the kernel's words. -/
def ahead (gi : Fin 4) : BitVec 32 × BitVec 32 :=
  match gi with
  | 0 => (0#32, 1#32)
  | 1 => (1#32, 2#32)
  | 2 => (3#32, 4#32)
  | 3 => (7#32, 8#32)

/-- How many rows the window of each row of the block holds. -/
def counts (gi : Fin 4) (v48 : IVec S256x1 32) : IVec S256x1 32 :=
  subi (minsi (addi (addi v48 (broadcast S256x1 (ahead gi).1)) (broadcast S256x1 1#32)) (broadcast S256x1 8192#32))
    (maxsi (subi v48 (broadcast S256x1 (ahead gi).2)) (broadcast S256x1 0#32))

/-- The columns of the pooling that group `gi` makes. -/
def pooled (i : grid0.Coords) (x6 : Vec F S16x2048 .bf16) (x7 : Vec F S256x2048 .bf16) (x8 : Vec F S16x2048 .bf16) (x9 : Vec F S4x512x512 .bf16) (x10 : Vec F S1x2048 .f32)
    (Bd : Vec F S4x256x288 .bf16) (gi : Fin 4) : FVec F S256x512 .bf16 :=
  k0_pay123
    (truncf .bf16 (subf
      (mulf (matmul dot_S256x288_S288x512_S256x512_1_0_0_1_n_n none
          (shapeCast S256x288 (View.ld Bd (Rect.unit (s := S4x256x288) ![gi.val, 0, 0] S1x256x288.size (inb3 (by omega) (by omega) (by omega)))) shapeCasts_S1x256x288_S256x288)
          (poolExt gi (k0_pay78 (Scalar.cmpi .eq (BitVec.ofNat 32 (i 0).val) 0#32) (Scalar.cmpi .eq (BitVec.ofNat 32 (i 0).val) 31#32) (k0_pay76 x7) k0_pay77
            (View.ld x6 (Rect.unit (s := S16x2048) ![0, 0] S16x2048.size (inb2 (by omega) (by omega))))
            (View.ld x8 (Rect.unit (s := S16x2048) ![0, 0] S16x2048.size (inb2 (by omega) (by omega))))))
          (constant S256x512 .f32 0x00000000#32))
        (broadcastTo S256x512 (divf (broadcast S256x1 (Scalar.ofBits .f32 0x3F800000#32)) (sitofp .f32 (counts gi (k0_pay79 (BitVec.ofNat 32 (i 0).val))))) broadcasts_S256x1_S256x512))
      (extf .f32 (poolCols gi (k0_pay76 x7)) bitsLt_bf16_f32)) bitsLt_bf16_f32)
    (k0_pay122 (View.ld x9 (Rect.unit (s := S4x512x512) ![gi.val, 0, 0] S1x512x512.size (inb3 (by omega) (by omega) (by omega)))))
    (View.ld x10 (Rect.unit (s := S1x2048) ![0, 512 * gi.val] S1x512.size (inb2 (by omega) (by omega))))

/-- The attention tile of head `4 * kh + g` on the queries of half `qb`. -/
def attnPiece (i : grid0.Coords) (x1 : Vec F S16 .f32) (x2 : Vec F S256x2048 .bf16) (x3 : Vec F S128x1024 .bf16) (x4 : Vec F S256x1024 .bf16)
    (x5 : Vec F S128x1024 .bf16) (B : Vec F S48x128x384 .f32) (qb : Fin 2) (kh g : Fin 4) : View.Piece (Elt F) S256x4096 .bf16 :=
  ⟨Rect.unit (s := S256x4096) ![128 * qb.val, 128 * (4 * kh.val + g.val)] S128x128.size (inb2 (by omega) (by omega)),
    headRows g (attn i x1 x2 x3 x4 x5 B qb kh)⟩

/-- The pooling tile of group `gi`. -/
def poolPiece (i : grid0.Coords) (x6 : Vec F S16x2048 .bf16) (x7 : Vec F S256x2048 .bf16) (x8 : Vec F S16x2048 .bf16) (x9 : Vec F S4x512x512 .bf16) (x10 : Vec F S1x2048 .f32)
    (Bd : Vec F S4x256x288 .bf16) (gi : Fin 4) : View.Piece (Elt F) S256x4096 .bf16 :=
  ⟨Rect.unit (s := S256x4096) ![0, 2048 + 512 * gi.val] S256x512.size (inb2 (by omega) (by omega)), pooled i x6 x7 x8 x9 x10 Bd gi⟩

/-- The tiles of a block, the last written first: half, group and head, or the pooling's group. -/
def tiles : List ((Fin 2 × Fin 4 × Fin 4) ⊕ Fin 4) :=
  [.inr 3, .inl (1, 3, 3), .inl (1, 3, 2), .inl (1, 3, 1), .inl (1, 3, 0), .inl (0, 3, 3), .inl (0, 3, 2), .inl (0, 3, 1), .inl (0, 3, 0),
   .inr 2, .inl (1, 2, 3), .inl (1, 2, 2), .inl (1, 2, 1), .inl (1, 2, 0), .inl (0, 2, 3), .inl (0, 2, 2), .inl (0, 2, 1), .inl (0, 2, 0),
   .inr 1, .inl (1, 1, 3), .inl (1, 1, 2), .inl (1, 1, 1), .inl (1, 1, 0), .inl (0, 1, 3), .inl (0, 1, 2), .inl (0, 1, 1), .inl (0, 1, 0),
   .inr 0, .inl (1, 0, 3), .inl (1, 0, 2), .inl (1, 0, 1), .inl (1, 0, 0), .inl (0, 0, 3), .inl (0, 0, 2), .inl (0, 0, 1), .inl (0, 0, 0)]

/-- What is written in a tile. -/
def pieceOf (i : grid0.Coords) (x1 : Vec F S16 .f32) (x2 : Vec F S256x2048 .bf16) (x3 : Vec F S128x1024 .bf16) (x4 : Vec F S256x1024 .bf16) (x5 : Vec F S128x1024 .bf16)
    (x6 : Vec F S16x2048 .bf16) (x7 : Vec F S256x2048 .bf16) (x8 : Vec F S16x2048 .bf16) (x9 : Vec F S4x512x512 .bf16) (x10 : Vec F S1x2048 .f32)
    (B : Vec F S48x128x384 .f32) (Bd : Vec F S4x256x288 .bf16) : (Fin 2 × Fin 4 × Fin 4) ⊕ Fin 4 → View.Piece (Elt F) S256x4096 .bf16
  | .inl (qb, kh, g) => attnPiece i x1 x2 x3 x4 x5 B qb kh g
  | .inr gi => poolPiece i x6 x7 x8 x9 x10 Bd gi

set_option maxHeartbeats 400000 in
/-- The tiles that a point writes: for each head and half its attention, for each group its pooling. -/
theorem pieces_eq (c : Dev nD) (i : grid0.Coords)
    (arg1 : Memref sig .tc .smem S16 .f32) (harg1 : arg1.IsWhole)
    (arg2 : Memref sig .tc .vmem S256x2048 .bf16) (harg2 : arg2.IsWhole)
    (arg3 : Memref sig .tc .vmem S128x1024 .bf16) (harg3 : arg3.IsWhole)
    (arg4 : Memref sig .tc .vmem S256x1024 .bf16) (harg4 : arg4.IsWhole)
    (arg5 : Memref sig .tc .vmem S128x1024 .bf16) (harg5 : arg5.IsWhole)
    (arg6 : Memref sig .tc .vmem S16x2048 .bf16) (harg6 : arg6.IsWhole)
    (arg7 : Memref sig .tc .vmem S256x2048 .bf16) (harg7 : arg7.IsWhole)
    (arg8 : Memref sig .tc .vmem S16x2048 .bf16) (harg8 : arg8.IsWhole)
    (arg9 : Memref sig .tc .vmem S4x512x512 .bf16) (harg9 : arg9.IsWhole)
    (arg10 : Memref sig .tc .vmem S1x2048 .f32) (harg10 : arg10.IsWhole)
    (arg11 : Memref sig .tc .vmem S128x4096 .f32) (harg11 : arg11.IsWhole)
    (arg12 : Memref sig .tc .vmem S256x4096 .bf16) (harg12 : arg12.IsWhole)
    (arg13 : Memref sig .tc .vmem S128x4096 .bf16) (harg13 : arg13.IsWhole)
    (arg14 : Memref sig .tc .vmem S48x128x384 .f32) (harg14 : arg14.IsWhole)
    (arg15 : Memref sig .tc .vmem S4x256x288 .bf16) (harg15 : arg15.IsWhole)
    (x1 : Vec F S16 .f32) (x2 : Vec F S256x2048 .bf16) (x3 : Vec F S128x1024 .bf16) (x4 : Vec F S256x1024 .bf16) (x5 : Vec F S128x1024 .bf16) (x6 : Vec F S16x2048 .bf16) (x7 : Vec F S256x2048 .bf16) (x8 : Vec F S16x2048 .bf16) (x9 : Vec F S4x512x512 .bf16) (x10 : Vec F S1x2048 .f32)
    (B : Vec F S48x128x384 .f32) (Bd : Vec F S4x256x288 .bf16) :
    (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 B Bd).1
      = tiles.map (pieceOf i x1 x2 x3 x4 x5 x6 x7 x8 x9 x10 B Bd) := by
  unfold restRun
  dsimp only
  simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, restRun.sl.r_13, restRun.sl.r_14, restRun.sl.r_15, restRun.sl.r_16, restRun.sl.r_17, restRun.sl.r_18, restRun.sl.r_19, restRun.sl.r_20, restRun.sl.r_21, restRun.sl.r_22, restRun.sl.r_23, restRun.sl.r_24, restRun.sl.r_25, restRun.sl.r_26, restRun.sl.r_27, restRun.sl.r_28, restRun.sl.r_29, restRun.sl.r_30, restRun.sl.r_31, restRun.sl.r_32, restRun.sl.r_33, restRun.sl.r_34, restRun.sl.r_35, restRun.sl.r_36, restRun.sl.r_37, restRun.sl.r_38, restRun.sl.r_39, restRun.sl.r_40, restRun.sl.r_41, restRun.sl.r_42, restRun.sl.r_43, restRun.sl.r_44, restRun.sl.r_45, restRun.sl.r_46, restRun.sl.r_47, restRun.sl.r_48, restRun.sl.r_49, restRun.sl.r_50, restRun.sl.r_51, restRun.sl.r_52, restRun.sl.r_53, restRun.sl.r_54, restRun.sl.r_55, restRun.sl.r_56, restRun.sl.r_57, restRun.sl.r_58, restRun.sl.r_59, restRun.sl.r_60, restRun.sl.r_61, restRun.sl.r_62, restRun.sl.r_63, restRun.sl.r_64, restRun.sl.r_65, readAt_ld]
  rfl

end Cert.KernelIdeal.Gen
-- ==== Proof.MixBias.lean ====
module

public import proofs.«01_k».proof.Proof.MixList

/-! The table of biases that the first point leaves: for each variant of the mask and each head, the distance times the
head's slope, and the mask's value where a key is not seen. -/

@[expose] public section
set_option maxRecDepth 16384
noncomputable section
namespace Cert.KernelIdeal.Gen

open Idealize.ShloMosaic Idealize.ShloMosaic.TcCoe Idealize.ShloMosaic.Tactic
variable {F : FTy → Type} [FloatOps F] [Named F]

/-- The slope of head `h` in base two. -/
def slopeN (h : ℕ) : F .f32 :=
  match h with
  | 0 => Named.named κ "slope1" 0xBF8293EE#32
  | 1 => Named.named κ "slope2" 0xBF38AA3B#32
  | 2 => Named.named κ "slope3" 0xBF0293EE#32
  | 3 => Named.named κ "slope4" 0xBEB8AA3B#32
  | 4 => Named.named κ "slope5" 0xBE8293EE#32
  | 5 => Named.named κ "slope6" 0xBE38AA3B#32
  | 6 => Named.named κ "slope7" 0xBE0293EE#32
  | 7 => Named.named κ "slope8" 0xBDB8AA3B#32
  | 8 => Named.named κ "slope9" 0xBD8293EE#32
  | 9 => Named.named κ "slope10" 0xBD38AA3B#32
  | 10 => Named.named κ "slope11" 0xBD0293EE#32
  | 11 => Named.named κ "slope12" 0xBCB8AA3B#32
  | 12 => Named.named κ "slope13" 0xBC8293EE#32
  | 13 => Named.named κ "slope14" 0xBC38AA3B#32
  | 14 => Named.named κ "slope15" 0xBC0293EE#32
  | _ => Named.named κ "slope16" 0xBBB8AA3B#32

/-- The keys that a query sees in variant `v`. -/
def seen (v : ℕ) : IVec S128x384 1 :=
  match v with
  | 0 => k0_pay3
  | 1 => k0_pay5
  | _ => k0_pay6

/-- The biases of one variant and head. -/
def biasOf (v h : ℕ) : FVec F S1x128x384 .f32 :=
  shapeCast S1x128x384 (select (seen v) (mulf (broadcast S128x384 (slopeN h)) k0_pay4)
    (broadcast S128x384 (Named.named κ "mask" 0xF149F2CA#32))) shapeCasts_S128x384_S1x128x384

/-- One row of the table. -/
def biasPiece (r : Fin 48) : View.Piece (Elt F) S48x128x384 .f32 :=
  ⟨Rect.unit (s := S48x128x384) ![r.val, 0, 0] S1x128x384.size (inb3 (by omega) (by omega) (by omega)), biasOf (r.val / 16) (r.val % 16)⟩

/-- The table is written a variant and head at a time. -/
theorem biasPieces_eq : (firstRun (F := F)).1.1 = [47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0].map biasPiece := by
  unfold firstRun
  rfl

/-- The distance of a key from a query, as the kernel's word. -/
def distW (q : ℕ) (k : ℕ) : BitVec 32 :=
  IntOp.absi (IntOp.subi (IntOp.subi (BitVec.ofNat 32 k) 128#32) (BitVec.ofNat 32 q))

/-- The condition of the mask of variant `v`, as the kernel's word. -/
def seenW (v q k : ℕ) : BitVec 1 :=
  match v with
  | 0 => IntOp.cmpi .sle (distW q k) 128#32
  | 1 => IntOp.andi (IntOp.cmpi .sle (distW q k) 128#32) (IntOp.cmpi .sge (BitVec.ofNat 32 k) 128#32)
  | _ => IntOp.andi (IntOp.cmpi .sle (distW q k) 128#32) (IntOp.cmpi .slt (BitVec.ofNat 32 k) 256#32)

theorem seen_apply (v : ℕ) (q : Fin 128) (k : Fin 384) : (seen v (ix2 q k) : BitVec 1) = seenW v q.val k.val := by
  unfold seen seenW
  match v with
  | 0 => simp only; unfold k0_pay3 k0_pay2; pointwise; rfl
  | 1 => simp only; unfold k0_pay5 k0_pay3 k0_pay2; pointwise; rfl
  | n + 2 => simp only; unfold k0_pay6 k0_pay3 k0_pay2; pointwise; rfl

theorem biasOf_apply (v h : ℕ) (q : Fin 128) (k : Fin 384) :
    biasOf (F := Ideal) v h (ix3 0 q k)
      = Scalar.select (seenW v q.val k.val) ((slopeN (F := Ideal) h : EReal) * FloatOps.sitofp (F := Ideal) .f32 (distW q.val k.val)) (⊥ : EReal) := by
  unfold biasOf k0_pay4 k0_pay2
  pointwise
  rw [seen_apply]
  rfl

/-- Where an element of a row of the table lies in the table. -/
theorem biasPiece_idx (r : Fin 48) (x : (biasPiece (F := F) r).1.shape.Idx) : (biasPiece (F := F) r).1.emb x = ix3 r (x 1) (x 2) :=
  funext fun a => match a with
    | ⟨0, _⟩ => Fin.ext (by
        show r.val + 1 * (x 0).val = r.val
        have : (x 0).val < 1 := (x 0).isLt
        omega)
    | ⟨1, _⟩ => Fin.ext (by show 0 + 1 * (x 1).val = (x 1).val; omega)
    | ⟨2, _⟩ => Fin.ext (by show 0 + 1 * (x 2).val = (x 2).val; omega)

/-- The table at the row of a variant and head. -/
theorem biasTab_apply (r : Fin 48) (q : Fin 128) (k : Fin 384) :
    biasTab (F := Ideal) (ix3 r q k) = biasOf (F := Ideal) (r.val / 16) (r.val % 16) (ix3 0 q k) := by
  unfold biasTab
  rw [biasPieces_eq]
  refine View.canon_apply_of_pieces (Val := Elt Ideal) (e := .f32) (fun y : S48x128x384.Idx => biasOf (F := Ideal) ((y 0).val / 16) ((y 0).val % 16) (ix3 0 (y 1) (y 2))) _ ?_ _ ?_
  · intro p hp x
    obtain ⟨s, -, rfl⟩ := List.mem_map.1 hp
    rw [biasPiece_idx]
    show biasOf (F := Ideal) (s.val / 16) (s.val % 16) x = biasOf (F := Ideal) (s.val / 16) (s.val % 16) (ix3 0 (x 1) (x 2))
    refine congrArg _ (funext fun a => match a with
      | ⟨0, _⟩ => Fin.ext (by
        have : (x 0).val < 1 := (x 0).isLt
        show (x 0).val = 0
        omega)
      | ⟨1, _⟩ => rfl
      | ⟨2, _⟩ => rfl)
  · refine ⟨biasPiece r, List.mem_map.2 ⟨r, by fin_cases r <;> decide, rfl⟩, ?_⟩
    have := (biasPiece (F := Ideal) r).1.idx_mem (ix3 0 q k)
    rwa [show (biasPiece (F := Ideal) r).1.idx (ix3 0 q k) = ix3 r q k from biasPiece_idx r _] at this

end Cert.KernelIdeal.Gen
-- ==== Proof.MixBlock.lean ====
module

public import proofs.«01_k».proof.Proof.MixBias

/-! The attention columns of the block that a point leaves, read at an element. -/

@[expose] public section
set_option maxRecDepth 16384
noncomputable section
namespace Cert.KernelIdeal.Gen

open Idealize.ShloMosaic Idealize.ShloMosaic.TcCoe Idealize.ShloMosaic.Tactic
open Cert.Proof.Mix

/-- A row of the keys and values around a block: the last half block before it, the block, the first half block after it. -/
def extRow (x3 : Vec Ideal S128x1024 .bf16) (x4 : Vec Ideal S256x1024 .bf16) (x5 : Vec Ideal S128x1024 .bf16) (s : ℕ) (hs : s < 512) (c : Fin 1024) : EReal :=
  if h : s < 128 then x3 (ix2 ⟨s, h⟩ c)
  else if h' : s < 384 then x4 (ix2 ⟨s - 128, by omega⟩ c)
  else x5 (ix2 ⟨s - 384, by omega⟩ c)

theorem queryTile_apply (x2 : Vec Ideal S256x2048 .bf16) (qb : Fin 2) (h : Fin 16) (q e : Fin 128) :
    queryTile x2 qb h (ix2 q e) = x2 (ix2 ⟨128 * qb.val + q.val, by omega⟩ ⟨128 * h.val + e.val, by omega⟩) :=
  congrArg x2 (funext fun a => match a with
    | ⟨0, _⟩ => Fin.ext (by show 128 * qb.val + 1 * q.val = _; simp)
    | ⟨1, _⟩ => Fin.ext (by show 128 * h.val + 1 * e.val = _; simp))

theorem sinkAt_apply (x1 : Vec Ideal S16 .f32) (h : Fin 16) : sinkAt x1 h = x1 (ix1 h) :=
  congrArg x1 (funext fun a => match a with
    | ⟨0, _⟩ => Fin.ext (by
        show h.val + 1 * _ = h.val
        have : ∀ z : Fin 1, z.val = 0 := by decide
        exact (congrArg (fun z => h.val + 1 * z) (this _)).trans (by omega)))

theorem around_apply (x3 : Vec Ideal S128x1024 .bf16) (x4 : Vec Ideal S256x1024 .bf16) (x5 : Vec Ideal S128x1024 .bf16) (j : Fin 8) (s : Fin 512) (d : Fin 128) :
    around x3 x4 x5 j (ix2 s d) = extRow x3 x4 x5 s.val s.isLt ⟨128 * j.val + d.val, by omega⟩ := by
  unfold around k0_pay80 extRow
  pointwise
  by_cases h : s.val < 128
  · rw [dif_pos h, dif_pos h]
  · rw [dif_neg h, dif_neg h]
    by_cases h' : s.val < 384
    · rw [dif_pos (by omega), dif_pos h']
    · rw [dif_neg (by omega), dif_neg h']
      exact congrArg x5 (congrArg (fun z => ix2 z _) (Fin.ext (by show s.val - 128 - 256 = s.val - 384; omega)))

theorem stack4_apply (t : Fin 4 → Vec Ideal S128x128 .bf16) (r : Fin 512) (e : Fin 128) :
    stack4 (t 0) (t 1) (t 2) (t 3) (ix2 r e) = t ⟨r.val / 128, by omega⟩ (ix2 ⟨r.val % 128, by omega⟩ e) := by
  unfold stack4
  pointwise
  have hm : ∀ (n : ℕ) (h1 h2), n = r.val % 128 → (ix2 (n0 := 128) (n1 := 128) ⟨n, h1⟩ e) = ix2 ⟨r.val % 128, h2⟩ e := fun n h1 h2 hn => by subst hn; rfl
  obtain h | h | h | h : r.val / 128 = 0 ∨ r.val / 128 = 1 ∨ r.val / 128 = 2 ∨ r.val / 128 = 3 := by omega
  · rw [show (⟨r.val / 128, by omega⟩ : Fin 4) = 0 from Fin.ext h, dif_pos (by omega), hm _ _ (by omega) (by omega)]
  · rw [show (⟨r.val / 128, by omega⟩ : Fin 4) = 1 from Fin.ext h, dif_neg (by omega), dif_pos (by omega), hm _ _ (by omega) (by omega)]
  · rw [show (⟨r.val / 128, by omega⟩ : Fin 4) = 2 from Fin.ext h, dif_neg (by omega), dif_neg (by omega), dif_pos (by omega), hm _ _ (by omega) (by omega)]
  · rw [show (⟨r.val / 128, by omega⟩ : Fin 4) = 3 from Fin.ext h, dif_neg (by omega), dif_neg (by omega), dif_neg (by omega), hm _ _ (by omega) (by omega)]

theorem window_apply (qb : Fin 2) (w : FVec Ideal S512x128 .bf16) (k : Fin 384) (d : Fin 128) :
    window qb w (ix2 k d) = w (ix2 ⟨128 * qb.val + k.val, by omega⟩ d) := by
  match qb with
  | 0 => unfold window; pointwise
  | 1 => unfold window; pointwise

theorem headRows_apply (g : Fin 4) (o : FVec Ideal S512x128 .f32) (q d : Fin 128) :
    headRows g o (ix2 q d) = o (ix2 ⟨128 * g.val + q.val, by omega⟩ d) := by
  match g with
  | 0 => unfold headRows; pointwise
  | 1 => unfold headRows; pointwise
  | 2 => unfold headRows; pointwise
  | 3 => unfold headRows; pointwise

/-- The variant of the mask that half `qb` of the block of point `i` takes. -/
def variant (i : grid0.Coords) (qb : Fin 2) : ℕ :=
  if qb = 0 then (if (i 0).val = 0 then 1 else 0) else (if (i 0).val = 31 then 2 else 0)

theorem variant_lt (i : grid0.Coords) (qb : Fin 2) : variant i qb < 3 := by
  unfold variant; split <;> split <;> omega

theorem off_eq : ∀ (i : grid0.Coords) (kh : Fin 4) (qb : Fin 2),
    (k0_off1 i (k0_off1_at ⟨2 * kh.val + qb.val, by omega⟩).1 (k0_off1_at ⟨2 * kh.val + qb.val, by omega⟩).2.1 (k0_off1_at ⟨2 * kh.val + qb.val, by omega⟩).2.2)
      = ![16 * variant i qb + 4 * kh.val, 0, 0] := by decide +kernel

theorem biasBlk_apply (B : Vec Ideal S48x128x384 .f32) (i : grid0.Coords) (kh : Fin 4) (qb : Fin 2) (g : Fin 4) (q : Fin 128) (k : Fin 384) :
    biasBlk B i ⟨2 * kh.val + qb.val, by omega⟩ (ix3 g q k)
      = B (ix3 ⟨16 * variant i qb + (4 * kh.val + g.val), by have := variant_lt i qb; omega⟩ q k) := by
  have e := off_eq i kh qb
  refine congrArg B (funext fun a => match a with
    | ⟨0, _⟩ => Fin.ext ?_
    | ⟨1, _⟩ => Fin.ext ?_
    | ⟨2, _⟩ => Fin.ext ?_)
  · refine (congrArg (· + 1 * g.val) (congrFun e 0)).trans ?_
    show 16 * variant i qb + 4 * kh.val + 1 * g.val = 16 * variant i qb + (4 * kh.val + g.val)
    omega
  · refine (congrArg (· + 1 * q.val) (congrFun e 1)).trans ?_
    show 0 + 1 * q.val = q.val
    omega
  · refine (congrArg (· + 1 * k.val) (congrFun e 2)).trans ?_
    show 0 + 1 * k.val = k.val
    omega

/-- A logit of the kernel, in base two. -/
def kerLogit (i : grid0.Coords) (x2 : Vec Ideal S256x2048 .bf16) (x3 : Vec Ideal S128x1024 .bf16) (x4 : Vec Ideal S256x1024 .bf16) (x5 : Vec Ideal S128x1024 .bf16)
    (qb : Fin 2) (kh g : Fin 4) (q : Fin 128) (k : Fin 384) : EReal :=
  (∑ e : Fin 128, (x2 (ix2 ⟨128 * qb.val + q.val, by omega⟩ ⟨128 * (4 * kh.val + g.val) + e.val, by omega⟩) : EReal)
      * extRow x3 x4 x5 (128 * qb.val + k.val) (by omega) ⟨128 * kh.val + e.val, by omega⟩)
    + biasOf (F := Ideal) (variant i qb) (4 * kh.val + g.val) (ix3 0 q k)

/-- The attention of the four heads of a group, read at a row of one head. -/
theorem attn_apply (i : grid0.Coords) (x1 : Vec Ideal S16 .f32) (x2 : Vec Ideal S256x2048 .bf16) (x3 : Vec Ideal S128x1024 .bf16) (x4 : Vec Ideal S256x1024 .bf16)
    (x5 : Vec Ideal S128x1024 .bf16) (qb : Fin 2) (kh g : Fin 4) (q d : Fin 128) :
    attn i x1 x2 x3 x4 x5 biasTab qb kh (ix2 ⟨128 * g.val + q.val, by omega⟩ d)
      = kerForm (kerLogit i x2 x3 x4 x5 qb kh g q) (x1 (ix1 ⟨4 * kh.val + g.val, by omega⟩) * Named.named (F := Ideal) κ "log2e" (φ := .f32) 0x3FB8AA3B#32)
          (fun k => extRow x3 x4 x5 (128 * qb.val + k.val) (by omega) ⟨128 * (4 + kh.val) + d.val, by omega⟩) := by
  unfold attn
  rw [mixed_apply]
  have hg : ∀ h, (⟨(128 * g.val + q.val) / 128, h⟩ : Fin 4) = g := fun h => Fin.ext (by show (128 * g.val + q.val) / 128 = g.val; omega)
  have hq : ∀ h, (⟨(128 * g.val + q.val) % 128, h⟩ : Fin 128) = q := fun h => Fin.ext (by show (128 * g.val + q.val) % 128 = q.val; omega)
  have hs := sinkCol_apply (fun z : Fin 4 => sinkAt x1 ⟨4 * kh.val + z.val, by omega⟩) ⟨128 * g.val + q.val, by omega⟩
  have hst := stack4_apply (fun z : Fin 4 => queryTile x2 qb ⟨4 * kh.val + z.val, by omega⟩) ⟨128 * g.val + q.val, by omega⟩
  have hd : (128 * g.val + q.val) / 128 = g.val := by omega
  congr 1
  · funext k
    unfold kerLogit
    simp only [hg, hq, biasBlk_apply, biasTab_apply]
    refine congrArg₂ (· + ·) (Finset.sum_congr rfl fun e _ => congrArg₂ (· * ·) ?_ ?_) ?_
    · refine (hst e).trans ?_
      simp only [hd, hq, queryTile_apply]
    · rw [window_apply, around_apply]
    · have hv := variant_lt i qb
      rw [show (16 * variant i qb + (4 * kh.val + g.val)) / 16 = variant i qb by omega,
        show (16 * variant i qb + (4 * kh.val + g.val)) % 16 = 4 * kh.val + g.val by omega]
  · refine hs.trans ?_
    simp only [hd, sinkAt_apply]
  · funext k
    rw [window_apply, around_apply]

/-- The block of a point as one function of the block's index: the attention columns, then the pooled ones. -/
def blockOf (i : grid0.Coords) (x1 : Vec Ideal S16 .f32) (x2 : Vec Ideal S256x2048 .bf16) (x3 : Vec Ideal S128x1024 .bf16) (x4 : Vec Ideal S256x1024 .bf16) (x5 : Vec Ideal S128x1024 .bf16)
    (x6 : Vec Ideal S16x2048 .bf16) (x7 : Vec Ideal S256x2048 .bf16) (x8 : Vec Ideal S16x2048 .bf16) (x9 : Vec Ideal S4x512x512 .bf16) (x10 : Vec Ideal S1x2048 .f32)
    (B : Vec Ideal S48x128x384 .f32) (Bd : Vec Ideal S4x256x288 .bf16) : Vec Ideal S256x4096 .bf16 := fun y =>
  have h0 : (y 0).val < 256 := (y 0).isLt
  have h1 : (y 1).val < 4096 := (y 1).isLt
  if h : (y 1).val < 2048 then
    attn i x1 x2 x3 x4 x5 B ⟨(y 0).val / 128, by omega⟩ ⟨(y 1).val / 512, by omega⟩
      (ix2 ⟨128 * ((y 1).val / 128 % 4) + (y 0).val % 128, by omega⟩ ⟨(y 1).val % 128, by omega⟩)
  else pooled i x6 x7 x8 x9 x10 Bd ⟨((y 1).val - 2048) / 512, by omega⟩ (ix2 (y 0) ⟨(y 1).val % 512, by omega⟩)

variable (i : grid0.Coords) (x1 : Vec Ideal S16 .f32) (x2 : Vec Ideal S256x2048 .bf16) (x3 : Vec Ideal S128x1024 .bf16) (x4 : Vec Ideal S256x1024 .bf16) (x5 : Vec Ideal S128x1024 .bf16)
    (x6 : Vec Ideal S16x2048 .bf16) (x7 : Vec Ideal S256x2048 .bf16) (x8 : Vec Ideal S16x2048 .bf16) (x9 : Vec Ideal S4x512x512 .bf16) (x10 : Vec Ideal S1x2048 .f32)
    (B : Vec Ideal S48x128x384 .f32) (Bd : Vec Ideal S4x256x288 .bf16)

/-- An element of the attention columns of the block. -/
theorem blockOf_attn (qb : Fin 2) (kh g : Fin 4) (q d : Fin 128) (y : S256x4096.Idx)
    (h0 : (y 0).val = 128 * qb.val + q.val) (h1 : (y 1).val = 128 * (4 * kh.val + g.val) + d.val) :
    blockOf i x1 x2 x3 x4 x5 x6 x7 x8 x9 x10 B Bd y = attn i x1 x2 x3 x4 x5 B qb kh (ix2 ⟨128 * g.val + q.val, by omega⟩ d) := by
  unfold blockOf
  simp only [h0, h1]
  rw [dif_pos (by omega)]
  have e1 : ∀ h, (⟨(128 * qb.val + q.val) / 128, h⟩ : Fin 2) = qb := fun h => Fin.ext (by show (128 * qb.val + q.val) / 128 = _; omega)
  have e2 : ∀ h, (⟨(128 * (4 * kh.val + g.val) + d.val) / 512, h⟩ : Fin 4) = kh := fun h => Fin.ext (by show (128 * (4 * kh.val + g.val) + d.val) / 512 = _; omega)
  have e3 : ∀ h, (⟨(128 * (4 * kh.val + g.val) + d.val) % 128, h⟩ : Fin 128) = d := fun h => Fin.ext (by show (128 * (4 * kh.val + g.val) + d.val) % 128 = _; omega)
  have e4 : ∀ h, (⟨128 * ((128 * (4 * kh.val + g.val) + d.val) / 128 % 4) + (128 * qb.val + q.val) % 128, h⟩ : Fin 512) = ⟨128 * g.val + q.val, by omega⟩ := fun h => Fin.ext (by
    show 128 * ((128 * (4 * kh.val + g.val) + d.val) / 128 % 4) + (128 * qb.val + q.val) % 128 = 128 * g.val + q.val; omega)
  rw [e1, e2, e3, e4]

/-- An element of the pooled columns of the block. -/
theorem blockOf_pool (gi : Fin 4) (r : Fin 256) (d : Fin 512) (y : S256x4096.Idx)
    (h0 : (y 0).val = r.val) (h1 : (y 1).val = 2048 + 512 * gi.val + d.val) :
    blockOf i x1 x2 x3 x4 x5 x6 x7 x8 x9 x10 B Bd y = pooled i x6 x7 x8 x9 x10 Bd gi (ix2 r d) := by
  unfold blockOf
  simp only [h1]
  rw [dif_neg (by omega)]
  have e1 : ∀ h, (⟨(2048 + 512 * gi.val + d.val - 2048) / 512, h⟩ : Fin 4) = gi := fun h => Fin.ext (by show (2048 + 512 * gi.val + d.val - 2048) / 512 = _; omega)
  have e2 : ∀ h, (⟨(2048 + 512 * gi.val + d.val) % 512, h⟩ : Fin 512) = d := fun h => Fin.ext (by show (2048 + 512 * gi.val + d.val) % 512 = _; omega)
  rw [e1, e2, show y 0 = r from Fin.ext h0]

theorem inl_mem_tiles : ∀ (qb : Fin 2) (kh g : Fin 4), Sum.inl (qb, kh, g) ∈ tiles := by
  intro qb kh g; unfold tiles; fin_cases qb <;> fin_cases kh <;> fin_cases g <;> simp
theorem inr_mem_tiles : ∀ gi : Fin 4, Sum.inr gi ∈ tiles := by
  intro gi; unfold tiles; fin_cases gi <;> simp

/-- An index is of a rectangle when it is where the rectangle puts one of its own. -/
theorem mem_of_idx {s : Shape} (R : Rect s) (y : s.Idx) (x : R.shape.Idx) (h : ∀ a, (R.idx x a).val = (y a).val) : y ∈ R.set := by
  have e : R.idx x = y := funext fun a => Fin.ext (h a)
  rw [← e]
  exact R.idx_mem x

/-- Each tile holds what the block's function says. -/
theorem piece_ok (t : (Fin 2 × Fin 4 × Fin 4) ⊕ Fin 4) (x : (pieceOf i x1 x2 x3 x4 x5 x6 x7 x8 x9 x10 B Bd t).1.shape.Idx) :
    (pieceOf i x1 x2 x3 x4 x5 x6 x7 x8 x9 x10 B Bd t).2 x
      = blockOf i x1 x2 x3 x4 x5 x6 x7 x8 x9 x10 B Bd ((pieceOf i x1 x2 x3 x4 x5 x6 x7 x8 x9 x10 B Bd t).1.emb x) := by
  match t with
  | .inl (qb, kh, g) =>
    refine Eq.trans ?_ (blockOf_attn i x1 x2 x3 x4 x5 x6 x7 x8 x9 x10 B Bd qb kh g (x 0) (x 1) _ ?_ ?_).symm
    · exact (congrArg (headRows g (attn i x1 x2 x3 x4 x5 B qb kh)) (eq_ix2 (n0 := 128) (n1 := 128) x)).trans (headRows_apply g _ (x 0) (x 1))
    · show 128 * qb.val + 1 * (x 0).val = _
      omega
    · show 128 * (4 * kh.val + g.val) + 1 * (x 1).val = _
      omega
  | .inr gi =>
    refine Eq.trans ?_ (blockOf_pool i x1 x2 x3 x4 x5 x6 x7 x8 x9 x10 B Bd gi (x 0) (x 1) _ ?_ ?_).symm
    · exact congrArg (pooled i x6 x7 x8 x9 x10 Bd gi) (eq_ix2 (n0 := 256) (n1 := 512) x)
    · show 0 + 1 * (x 0).val = _
      omega
    · show 2048 + 512 * gi.val + 1 * (x 1).val = _
      omega

/-- The tiles cover the block. -/
theorem covered (y : S256x4096.Idx) : ∃ p ∈ tiles.map (pieceOf i x1 x2 x3 x4 x5 x6 x7 x8 x9 x10 B Bd), y ∈ p.1.set := by
  have h0 : (y 0).val < 256 := (y 0).isLt
  have h1 : (y 1).val < 4096 := (y 1).isLt
  by_cases h : (y 1).val < 2048
  · refine ⟨_, List.mem_map_of_mem (inl_mem_tiles ⟨(y 0).val / 128, by omega⟩ ⟨(y 1).val / 512, by omega⟩ ⟨(y 1).val / 128 % 4, by omega⟩), ?_⟩
    exact mem_of_idx _ y (ix2 (n0 := 128) (n1 := 128) ⟨(y 0).val % 128, by omega⟩ ⟨(y 1).val % 128, by omega⟩) fun a => match a with
      | ⟨0, _⟩ => by show 128 * ((y 0).val / 128) + 1 * ((y 0).val % 128) = (y 0).val; omega
      | ⟨1, _⟩ => by show 128 * (4 * ((y 1).val / 512) + (y 1).val / 128 % 4) + 1 * ((y 1).val % 128) = (y 1).val; omega
  · refine ⟨_, List.mem_map_of_mem (inr_mem_tiles ⟨((y 1).val - 2048) / 512, by omega⟩), ?_⟩
    exact mem_of_idx _ y (ix2 (n0 := 256) (n1 := 512) ⟨(y 0).val, h0⟩ ⟨(y 1).val % 512, by omega⟩) fun a => match a with
      | ⟨0, _⟩ => by show 0 + 1 * (y 0).val = (y 0).val; omega
      | ⟨1, _⟩ => by show 2048 + 512 * (((y 1).val - 2048) / 512) + 1 * ((y 1).val % 512) = (y 1).val; omega

/-- The block that a point leaves is the block's function. -/
theorem canon_tiles : View.canon (Val := Elt Ideal) (tiles.map (pieceOf i x1 x2 x3 x4 x5 x6 x7 x8 x9 x10 B Bd)) = blockOf i x1 x2 x3 x4 x5 x6 x7 x8 x9 x10 B Bd :=
  funext fun y => View.canon_apply_of_pieces (Val := Elt Ideal) (e := .bf16) _ _ (fun p hp x => by
    obtain ⟨t, -, rfl⟩ := List.mem_map.1 hp
    exact piece_ok i x1 x2 x3 x4 x5 x6 x7 x8 x9 x10 B Bd t x) y (covered i x1 x2 x3 x4 x5 x6 x7 x8 x9 x10 B Bd y)

end Cert.KernelIdeal.Gen
-- ==== Proof.MixArr.lean ====
module

public import proofs.«01_k».proof.Proof.MixBlock
public import proofs.«01_k».proof.Proof.Launched
public import Idealize.ShloMosaic.Lib.Pipeline.ValueKit

/-! The attention columns of the launch's first result, as a function of the arrays the launch finds. -/

@[expose] public section
set_option maxRecDepth 16384
noncomputable section
namespace Cert.KernelIdeal.Gen

open Idealize.ShloMosaic Idealize.ShloMosaic.TcCoe Idealize.ShloMosaic.Tactic
open Cert.Proof.Mix

variable (m : (ℓ : Loc nD τ sig) → Buf (Elt Ideal) ℓ)

/-- A point's block of mixed columns is the block's function of the point's blocks of the operands. -/
theorem mixBlk_eq (c : Dev nD) (t : Fin cfg0.N) :
    mixBlk m c t = blockOf (grid0.coords t) (iblk m c 0 t) (X0_1 m c t) (iblk m c 2 t) (iblk m c 3 t) (iblk m c 4 t) (X0_5 m c t) (X0_6 m c t) (X0_7 m c t)
      (iblk m c 8 t) (iblk m c 9 t) biasTab bandTab := by
  unfold mixBlk mixOut
  rw [pieces_eq, canon_tiles]

theorem index_0 : ∀ t : Fin cfg0.N, win0_0.index t = ![0] := (by decide +kernel : ∀ t : Fin grid0.N, _)
theorem index_1 : ∀ t : Fin cfg0.N, win0_1.index t = ![(grid0.coords t 0).val, 0] := (by decide +kernel : ∀ t : Fin grid0.N, _)
theorem index_2 : ∀ t : Fin cfg0.N, win0_2.index t = ![2 * (grid0.coords t 0).val - 1, 4] := (by decide +kernel : ∀ t : Fin grid0.N, _)
theorem index_3 : ∀ t : Fin cfg0.N, win0_3.index t = ![(grid0.coords t 0).val, 4] := (by decide +kernel : ∀ t : Fin grid0.N, _)
theorem index_4 : ∀ t : Fin cfg0.N, win0_4.index t = ![min (2 * (grid0.coords t 0).val + 2) 63, 4] := (by decide +kernel : ∀ t : Fin grid0.N, _)
theorem index_11 : ∀ t : Fin cfg0.N, win0_11.index t = ![(grid0.coords t 0).val, 0] := (by decide +kernel : ∀ t : Fin grid0.N, _)

/-- The row of the keys and values that row `s` around the block of point `n` is. -/
def rowOf (n : Fin 32) (s : ℕ) (hs : s < 512) : Fin 8192 :=
  if _h : n.val = 0 ∧ s < 128 then ⟨s, by omega⟩ else if _h : n.val = 31 ∧ 384 ≤ s then ⟨7680 + s, by omega⟩ else ⟨256 * n.val + s - 128, by omega⟩

theorem read_0 (c : Dev nD) (t : Fin cfg0.N) (h : Fin 16) : (iblk m c 0 t : Vec Ideal S16 .f32) (ix1 h) = V m c main_arg4 (ix1 h) := by
  blk_simp [iblk]
  exact congrArg (V m c main_arg4) (by blk_ext [index_0])

theorem pt_lt (t : Fin cfg0.N) : (grid0.coords t 0).val < 32 := (grid0.coords t 0).isLt

theorem read_1 (c : Dev nD) (t : Fin cfg0.N) (r : Fin 256) (e : Fin 2048) :
    (X0_1 m c t : Vec Ideal S256x2048 .bf16) (ix2 r e) = V m c main_v9 (ix2 ⟨256 * (grid0.coords t 0).val + r.val, by have := pt_lt t; omega⟩ ⟨e.val, by omega⟩) := by
  unfold X0_1 Pipeline.Window.fill
  rw [dif_pos (moved0_1 t _)]
  blk_simp [iblk]
  exact congrArg (V m c main_v9) (by blk_ext [index_1])

theorem read_2 (c : Dev nD) (t : Fin cfg0.N) (r : Fin 128) (e : Fin 1024) :
    (iblk m c 2 t : Vec Ideal S128x1024 .bf16) (ix2 r e) = V m c main_v9 (ix2 ⟨128 * (2 * (grid0.coords t 0).val - 1) + r.val, by have := pt_lt t; omega⟩ ⟨4096 + e.val, by omega⟩) := by
  blk_simp [iblk]
  exact congrArg (V m c main_v9) (by blk_ext [index_2])

theorem read_3 (c : Dev nD) (t : Fin cfg0.N) (r : Fin 256) (e : Fin 1024) :
    (iblk m c 3 t : Vec Ideal S256x1024 .bf16) (ix2 r e) = V m c main_v9 (ix2 ⟨256 * (grid0.coords t 0).val + r.val, by have := pt_lt t; omega⟩ ⟨4096 + e.val, by omega⟩) := by
  blk_simp [iblk]
  exact congrArg (V m c main_v9) (by blk_ext [index_3])

theorem read_4 (c : Dev nD) (t : Fin cfg0.N) (r : Fin 128) (e : Fin 1024) :
    (iblk m c 4 t : Vec Ideal S128x1024 .bf16) (ix2 r e) = V m c main_v9 (ix2 ⟨128 * min (2 * (grid0.coords t 0).val + 2) 63 + r.val, by have := pt_lt t; omega⟩ ⟨4096 + e.val, by omega⟩) := by
  blk_simp [iblk]
  exact congrArg (V m c main_v9) (by blk_ext [index_4])

/-- The rows around a block are rows of the launch's array. -/
theorem extRow_read (c : Dev nD) (t : Fin cfg0.N) (s : ℕ) (hs : s < 512) (e : Fin 1024) :
    extRow (iblk m c 2 t) (iblk m c 3 t) (iblk m c 4 t) s hs e = V m c main_v9 (ix2 (rowOf (grid0.coords t 0) s hs) ⟨4096 + e.val, by omega⟩) := by
  have ht := pt_lt t
  have key : ∀ (a : ℕ) (ha : a < 8192), a = (rowOf (grid0.coords t 0) s hs).val →
      (ix2 (n0 := 8192) (n1 := 5120) ⟨a, ha⟩ ⟨4096 + e.val, by omega⟩) = ix2 (rowOf (grid0.coords t 0) s hs) ⟨4096 + e.val, by omega⟩ :=
    fun a ha h => by subst h; rfl
  unfold extRow
  by_cases h : s < 128
  · rw [dif_pos h]
    refine (read_2 m c t _ _).trans (congrArg (V m c main_v9) (key _ _ ?_))
    unfold rowOf
    split <;> [skip; split] <;> dsimp only <;> omega
  · rw [dif_neg h]
    by_cases h' : s < 384
    · rw [dif_pos h']
      refine (read_3 m c t _ _).trans (congrArg (V m c main_v9) (key _ _ ?_))
      unfold rowOf
      split <;> [skip; split] <;> dsimp only <;> omega
    · rw [dif_neg h']
      refine (read_4 m c t _ _).trans (congrArg (V m c main_v9) (key _ _ ?_))
      unfold rowOf
      split <;> [skip; split] <;> dsimp only <;> omega

/-- A logit in base two, of whole arrays: query row `256 n + 128 qb + q` against row `k` of the window around it. -/
def arrLogit (P : Vec Ideal S8192x5120 .bf16) (n : Fin 32) (qb : Fin 2) (kh g : Fin 4) (q : Fin 128) (k : Fin 384) : EReal :=
  (∑ e : Fin 128, (P (ix2 ⟨256 * n.val + (128 * qb.val + q.val), by omega⟩ ⟨128 * (4 * kh.val + g.val) + e.val, by omega⟩) : EReal)
      * P (ix2 (rowOf n (128 * qb.val + k.val) (by omega)) ⟨4096 + (128 * kh.val + e.val), by omega⟩))
    + biasOf (F := Ideal) (if qb = 0 then (if n.val = 0 then 1 else 0) else (if n.val = 31 then 2 else 0)) (4 * kh.val + g.val) (ix3 0 q k)

/-- An attention column of the first result, of whole arrays. -/
def arrAttn (P : Vec Ideal S8192x5120 .bf16) (s : Vec Ideal S16 .f32) (n : Fin 32) (qb : Fin 2) (kh g : Fin 4) (q d : Fin 128) : EReal :=
  kerForm (arrLogit P n qb kh g q) (s (ix1 ⟨4 * kh.val + g.val, by omega⟩) * Named.named (F := Ideal) κ "log2e" (φ := .f32) 0x3FB8AA3B#32)
    (fun k => P (ix2 (rowOf n (128 * qb.val + k.val) (by omega)) ⟨4096 + (128 * (4 + kh.val) + d.val), by omega⟩))

/-- An element of an attention column of the block that a point leaves. -/
theorem mixBlk_attn (c : Dev nD) (t : Fin cfg0.N) (qb : Fin 2) (kh g : Fin 4) (q d : Fin 128) (y : S256x4096.Idx)
    (h0 : (y 0).val = 128 * qb.val + q.val) (h1 : (y 1).val = 128 * (4 * kh.val + g.val) + d.val) :
    mixBlk m c t y = arrAttn (V m c main_v9) (V m c main_arg4) (grid0.coords t 0) qb kh g q d := by
  rw [mixBlk_eq, blockOf_attn _ _ _ _ _ _ _ _ _ _ _ _ _ qb kh g q d y h0 h1, attn_apply]
  unfold arrAttn
  have hx : ∀ k : Fin 384, kerLogit (grid0.coords t) (X0_1 m c t) (iblk m c 2 t) (iblk m c 3 t) (iblk m c 4 t) qb kh g q k
      = arrLogit (V m c main_v9) (grid0.coords t 0) qb kh g q k := fun k => by
    unfold kerLogit arrLogit
    exact congrArg₂ (· + ·) (Finset.sum_congr rfl fun e _ => congrArg₂ (· * ·) (read_1 m c t _ _) (extRow_read m c t _ _ _)) rfl
  rw [funext hx]
  refine congr (congrArg _ ?_) (funext fun k => extRow_read m c t _ _ _)
  exact congrArg (· * _) (read_0 m c t _)

end Cert.KernelIdeal.Gen
-- ==== Proof.MixFinal.lean ====
module

public import proofs.«01_k».proof.Proof.MixArr

/-! The launch's results at the end, and the arrays the launch finds, of the program's arguments. -/

@[expose] public section
set_option maxRecDepth 16384
noncomputable section
namespace Cert.KernelIdeal.Gen

open Idealize.ShloMosaic Idealize.ShloMosaic.TcCoe Idealize.ShloMosaic.Tactic
open Cert.Proof.Mix

variable (m : (ℓ : Loc nD τ sig) → Buf (Elt Ideal) ℓ)

/-- The point of a number below 32. -/
def ptOf (n : ℕ) (h : n < 32) : Fin cfg0.N := ⟨n, Nat.lt_of_lt_of_eq h N_0.symm⟩

theorem coords_ptOf (n : ℕ) (h : n < 32) : (grid0.coords (ptOf n h) 0).val = n := by
  have e : (grid0.coords (ptOf n h) 0).val = (ptOf n h).val / 1 % 32 := Pipeline.Grid.coords_val _ 0 (by decide) rfl
  rw [e]
  show n / 1 % 32 = n
  omega

/-- The mixed rows, whole: each point's block in its place. -/
def mixArr (c : Dev nD) : Vec Ideal S8192x4096 .bf16 := fun j =>
  have h0 : (j 0).val < 8192 := (j 0).isLt
  mixBlk m c (ptOf ((j 0).val / 256) (by omega)) (ix2 ⟨(j 0).val % 256, by omega⟩ (j 1))

theorem final_11 (c : Dev nD) : (dats m 0 c).arrAt 11 cfg0.N = mixArr m c := by
  refine (dats m 0 c).arrAt_eq_of_covers 11 _ (by decide +kernel) fun t hf y => ?_
  blk_simp
  rw [after_11]
  unfold mixArr
  have ht : t.val < 32 := Nat.lt_of_lt_of_eq t.isLt N_0
  have y0 : (y 0).val < 256 := (y 0).isLt
  have e0 : ((win0_11.blk t).view.emb y 0).val = 256 * t.val + (y 0).val := by
    have : (grid0.coords t 0).val = t.val := by
      have h : (grid0.coords t 0).val = t.val / 1 % 32 := Pipeline.Grid.coords_val t 0 (by decide) rfl
      omega
    show win0_11.index t 0 * 256 + 1 * (y 0).val = _
    rw [index_11]
    show (grid0.coords t 0).val * 256 + 1 * (y 0).val = _
    omega
  have e1 : ((win0_11.blk t).view.emb y 1).val = (y 1).val := by
    show win0_11.index t 1 * 4096 + 1 * (y 1).val = _
    rw [index_11]
    show 0 * 4096 + 1 * (y 1).val = _
    omega
  have et : ∀ h, ptOf (((win0_11.blk t).view.emb y 0).val / 256) h = t := fun h => Fin.ext (by
    show ((win0_11.blk t).view.emb y 0).val / 256 = t.val
    omega)
  dsimp only
  rw [et]
  exact congrArg (mixBlk m c t) (funext fun a => match a with
    | ⟨0, _⟩ => Fin.ext (by show (y 0).val = ((win0_11.blk t).view.emb y 0).val % 256; omega)
    | ⟨1, _⟩ => Fin.ext e1.symm)

theorem index_10 : ∀ t : Fin cfg0.N, win0_10.index t = win0_12.index t := (by decide +kernel : ∀ t : Fin grid0.N, win0_10.index t = win0_12.index t)

/-- The cast weights at the end. -/
theorem final_12 (c : Dev nD) : (dats m 0 c).arrAt 12 cfg0.N = fun j => V m c main_arg7 j := by
  refine (dats m 0 c).arrAt_eq_of_covers 12 _ (by decide +kernel) fun t hf y => ?_
  blk_simp
  rw [after_12]
  show V m c main_arg7 ((win0_10.blk t).view.emb y) = _
  rw [show (win0_10.blk t).view.emb y = (win0_12.blk t).view.emb y from by blk_ext [index_10 t]]

/-- An attention column at the end. -/
theorem mixArr_attn (c : Dev nD) (n : Fin 32) (qb : Fin 2) (kh g : Fin 4) (q d : Fin 128) :
    mixArr m c (ix2 ⟨256 * n.val + (128 * qb.val + q.val), by omega⟩ ⟨128 * (4 * kh.val + g.val) + d.val, by omega⟩)
      = arrAttn (V m c main_v9) (V m c main_arg4) n qb kh g q d := by
  have e : ∀ h, grid0.coords (ptOf ((256 * n.val + (128 * qb.val + q.val)) / 256) h) 0 = n := fun h => Fin.ext (by
    rw [coords_ptOf]
    omega)
  refine (mixBlk_attn m c _ qb kh g q d _ ?_ rfl).trans (congrArg (fun z => arrAttn (V m c main_v9) (V m c main_arg4) z qb kh g q d) (e _))
  show (256 * n.val + (128 * qb.val + q.val)) % 256 = _
  omega

/-! The rows as the launch finds them: queries over the logarithm of two, keys and values. -/
theorem query_apply (c : Dev nD) (i : Fin 8192) (h : Fin 16) (e : Fin 128) :
    V m c main_v9 (ix2 i ⟨128 * h.val + e.val, by omega⟩)
      = Ideal.div (m ((c : Thread nD τ).loc main_arg0) (ix4 0 i h e)) (Ideal.log (Ideal.ofBits .f32 0x40000000#32)) := by
  simp only [V, hostOps0]
  after_results_simp
  pointwise
  rw [dif_pos (by omega)]
  after_results_simp
  pointwise
  have eh : ∀ z, (⟨(128 * h.val + e.val) / 128, z⟩ : Fin 16) = h := fun z => Fin.ext (by show (128 * h.val + e.val) / 128 = h.val; omega)
  have ee : ∀ z, (⟨(128 * h.val + e.val) % 128, z⟩ : Fin 128) = e := fun z => Fin.ext (by show (128 * h.val + e.val) % 128 = e.val; omega)
  rw [eh, ee]
  rfl

theorem key_apply (c : Dev nD) (i : Fin 8192) (h : Fin 4) (e : Fin 128) :
    V m c main_v9 (ix2 i ⟨4096 + (128 * h.val + e.val), by omega⟩) = m ((c : Thread nD τ).loc main_arg1) (ix4 0 i h e) := by
  simp only [V, hostOps0]
  after_results_simp
  pointwise
  rw [dif_neg (by omega), dif_neg (by omega), dif_pos (by omega)]
  after_results_simp
  pointwise
  have eh : ∀ z, (⟨(4096 + (128 * h.val + e.val) - 2048 - 2048) / 128, z⟩ : Fin 4) = h := fun z => Fin.ext (by show (4096 + (128 * h.val + e.val) - 2048 - 2048) / 128 = h.val; omega)
  have ee : ∀ z, (⟨(4096 + (128 * h.val + e.val) - 2048 - 2048) % 128, z⟩ : Fin 128) = e := fun z => Fin.ext (by show (4096 + (128 * h.val + e.val) - 2048 - 2048) % 128 = e.val; omega)
  rw [eh, ee]

theorem value_apply (c : Dev nD) (i : Fin 8192) (h : Fin 4) (e : Fin 128) :
    V m c main_v9 (ix2 i ⟨4096 + (128 * (4 + h.val) + e.val), by omega⟩) = m ((c : Thread nD τ).loc main_arg2) (ix4 0 i h e) := by
  simp only [V, hostOps0]
  after_results_simp
  pointwise
  rw [dif_neg (by omega), dif_neg (by omega), dif_neg (by omega)]
  after_results_simp
  pointwise
  have eh : ∀ z, (⟨(4096 + (128 * (4 + h.val) + e.val) - 2048 - 2048 - 512) / 128, z⟩ : Fin 4) = h := fun z => Fin.ext (by show (4096 + (128 * (4 + h.val) + e.val) - 2048 - 2048 - 512) / 128 = h.val; omega)
  have ee : ∀ z, (⟨(4096 + (128 * (4 + h.val) + e.val) - 2048 - 2048 - 512) % 128, z⟩ : Fin 128) = e := fun z => Fin.ext (by show (4096 + (128 * (4 + h.val) + e.val) - 2048 - 2048 - 512) % 128 = e.val; omega)
  rw [eh, ee]

end Cert.KernelIdeal.Gen
-- ==== Proof.MixRef.lean ====
module

public import proofs.«01_k».proof.Proof.MixMath
public import Idealize.ShloMosaic.Lib.ValueIdx
public import Idealize.ShloMosaic.Lib.Pointwise
public import proofs.«01_k».proof.Proof.Gen.ReferenceIdeal.Run

/-! The reference's attention columns, read at an element. -/

@[expose] public section
set_option maxRecDepth 16384
noncomputable section
namespace Cert.ReferenceIdeal.Value

open Idealize.ShloMosaic Idealize.ShloMosaic.TcCoe Idealize.ShloMosaic.Tactic Cert.ReferenceIdeal Cert.ReferenceIdeal.Gen
open Cert.Proof.Mix

/-- The places that drop to a row are the row's. -/
theorem fiber (h : S1x64x4x4x128x384.ReducesTo [5] S1x64x4x4x128) (n : Fin 64) (a b : Fin 4) (r : Fin 128) (i : S1x64x4x4x128x384.Idx) :
    h.drop i = ix5 0 n a b r ↔ ∃ k : Fin 384, ix6 0 n a b r k = i := by
  constructor
  · intro e
    refine ⟨i 5, ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- A row's sum, and a row's fold. -/
theorem row_sum (h : S1x64x4x4x128x384.ReducesTo [5] S1x64x4x4x128) (v : S1x64x4x4x128x384.Idx → EReal) (init : EReal) (n : Fin 64) (a b : Fin 4) (r : Fin 128) :
    Ideal.hostReduceAdd h v init (ix5 0 n a b r) = init + ∑ k : Fin 384, v (ix6 0 n a b r k) :=
  congrArg (init + ·) (Finset.sum_filter_eq_sum_of_fiber _ (fun k : Fin 384 => (ix6 0 n a b r k : S1x64x4x4x128x384.Idx)) (fun _ _ e => Fin.ext (congrArg Fin.val (congrFun e 5))) (fiber h n a b r) v)
@[inherit_doc row_sum]
theorem row_fold (h : S1x64x4x4x128x384.ReducesTo [5] S1x64x4x4x128) (v : S1x64x4x4x128x384.Idx → EReal) (init : EReal) (n : Fin 64) (a b : Fin 4) (r : Fin 128) :
    (Finset.univ.filter (fun i => h.drop i = ix5 0 n a b r)).fold max init v = (Finset.univ : Finset (Fin 384)).fold max init (fun k => v (ix6 0 n a b r k)) :=
  Finset.fold_filter_eq_fold_of_fiber max _ (fun k : Fin 384 => (ix6 0 n a b r k : S1x64x4x4x128x384.Idx)) (fun _ _ e => Fin.ext (congrArg Fin.val (congrFun e 5))) (fiber h n a b r) init v

theorem bot_bits : Ideal.ofBits .f32 0xFF800000#32 = ⊥ := by simp [Ideal.ofBits, Ideal.ieee]
theorem zero_bits : Ideal.ofBits .f32 0x00000000#32 = 0 := by simp [Ideal.ofBits, Ideal.ieee]

/-- The rows' greatest logits. -/
def rowMax (L : FVec Ideal S1x64x4x4x128x384 .f32) : FVec Ideal S1x64x4x4x128x1 .f32 :=
  broadcastInDim S1x64x4x4x128x1 ![0, 1, 2, 3, 4] bcast_S1x64x4x4x128_S1x64x4x4x128x1_0_1_2_3_4 (Host.reduce FloatOps.maximumf L (constant S_ .f32 0xFF800000#32) reducesTo_S1x64x4x4x128x384_S1x64x4x4x128_d5 h_S_)

theorem rowMax_apply (L : FVec Ideal S1x64x4x4x128x384 .f32) (n : Fin 64) (a b : Fin 4) (r : Fin 128) :
    rowMax L (ix6 0 n a b r 0) = Finset.univ.fold max ⊥ (fun k : Fin 384 => (L (ix6 0 n a b r k) : EReal)) := by
  unfold rowMax
  pointwise
  rw [bot_bits]
  exact row_fold _ L ⊥ n a b r

/-- The exponentials of the logits less a column, summed along the rows, and the logarithm added to the column. -/
def rowLse (L : FVec Ideal S1x64x4x4x128x384 .f32) (M : FVec Ideal S1x64x4x4x128x1 .f32) : FVec Ideal S1x64x4x4x128x1 .f32 :=
  addf M (Host.log (broadcastInDim S1x64x4x4x128x1 ![0, 1, 2, 3, 4] bcast_S1x64x4x4x128_S1x64x4x4x128x1_0_1_2_3_4 (Host.reduceAdd (Host.exp (subf L (broadcastInDim S1x64x4x4x128x384 ![0, 1, 2, 3, 4, 5] bcast_S1x64x4x4x128x1_S1x64x4x4x128x384_0_1_2_3_4_5 M))) (constant S_ .f32 0x00000000#32) reducesTo_S1x64x4x4x128x384_S1x64x4x4x128_d5 h_S_)))

theorem rowLse_apply (L : FVec Ideal S1x64x4x4x128x384 .f32) (M : FVec Ideal S1x64x4x4x128x1 .f32) (n : Fin 64) (a b : Fin 4) (r : Fin 128) :
    rowLse L M (ix6 0 n a b r 0) = (M (ix6 0 n a b r 0) : EReal) + Ideal.log (∑ k : Fin 384, Ideal.exp (L (ix6 0 n a b r k) - M (ix6 0 n a b r 0))) := by
  unfold rowLse
  pointwise
  rw [row_sum, zero_add]
  refine congrArg (fun z => (M (ix6 0 n a b r 0) : EReal) + Ideal.log z) (Finset.sum_congr rfl fun k _ => ?_)
  pointwise

/-- The rows' sinks. -/
def rowSink (s : FVec Ideal S16 .f32) : FVec Ideal S1x64x4x4x128x1 .f32 :=
  broadcastInDim S1x64x4x4x128x1 ![0, 1, 2, 3, 4, 5] bcast_S1x1x4x4x1x1_S1x64x4x4x128x1_0_1_2_3_4_5 (shapeCast S1x1x4x4x1x1 s shapeCasts_S16_S1x1x4x4x1x1)

theorem rowSink_apply (s : FVec Ideal S16 .f32) (n : Fin 64) (a b : Fin 4) (r : Fin 128) :
    rowSink s (ix6 0 n a b r 0) = s (ix1 ⟨4 * a.val + b.val, by omega⟩) := by
  unfold rowSink
  pointwise
  exact congrArg (fun z => s (ix1 z)) (Fin.ext (by show a.val * 4 + b.val = 4 * a.val + b.val; omega))

/-- The logarithm of the sum with the sink's exponential added. -/
def rowAll (E S : FVec Ideal S1x64x4x4x128x1 .f32) : FVec Ideal S1x64x4x4x128x1 .f32 :=
  select (cmpf .une (subf E S) (subf E S)) (addf E S) (addf (maximumf E S) (Host.log1p (Host.exp (Host.negf (Host.absf (subf E S))))))

theorem rowAll_apply (E S : FVec Ideal S1x64x4x4x128x1 .f32) (i : S1x64x4x4x128x1.Idx) :
    rowAll E S i = max (E i) (S i) + Ideal.log1p (Ideal.exp (-(max ((E i : EReal) - S i) (-((E i : EReal) - S i))))) := by
  unfold rowAll
  pointwise
  rw [if_neg (by simp)]
  rfl

/-- Blocks one behind, at, and one ahead, side by side. -/
def around3 (K : FVec Ideal S1x66x128x4x128 .f32) : FVec Ideal S1x64x384x4x128 .f32 :=
  concatenate S1x64x384x4x128 2 [⟨S1x64x128x4x128, (extractStridedSlice S1x64x128x4x128 ![0, 0, 0, 0, 0] K slices_S1x66x128x4x128_S1x64x128x4x128_0_0_0_0_0)⟩, ⟨S1x64x128x4x128, (extractStridedSlice S1x64x128x4x128 ![0, 1, 0, 0, 0] K slices_S1x66x128x4x128_S1x64x128x4x128_0_1_0_0_0)⟩, ⟨S1x64x128x4x128, (extractStridedSlice S1x64x128x4x128 ![0, 2, 0, 0, 0] K slices_S1x66x128x4x128_S1x64x128x4x128_0_2_0_0_0)⟩] concatenates_S1x64x128x4x128_S1x64x128x4x128_S1x64x128x4x128_S1x64x384x4x128_d2

/-- Rows with a block of zeros before and after. -/
def padded (x : FVec Ideal S1x8192x4x128 .f32) : FVec Ideal S1x66x128x4x128 .f32 :=
  shapeCast S1x66x128x4x128 (pad S1x8448x4x128 ![0, 128, 0, 0] ![0, 128, 0, 0] ![0, 0, 0, 0] x (sitofp .f32 (constantI S_ 32 0#32)) pads_S1x8192x4x128_S1x8448x4x128_000_1281280_000_000 h_S_) shapeCasts_S1x8448x4x128_S1x66x128x4x128

/-- A row around block `n`: the rows' own, or zero outside them. -/
def padRow (x : FVec Ideal S1x8192x4x128 .f32) (n : Fin 64) (k : Fin 384) (h : Fin 4) (e : Fin 128) : EReal :=
  if _h : 128 ≤ 128 * n.val + k.val ∧ 128 * n.val + k.val < 8320 then x (ix4 0 ⟨128 * n.val + k.val - 128, by omega⟩ h e) else 0

/-- A row of the three blocks around block `n` is a row of the padded rows. -/
theorem pick (f : Fin 8192 → EReal) (z : EReal) (hz : z = 0) (n k : ℕ) (hn : n < 64) (hk : k < 384) :
    (if h1 : k < 128 then if h2 : 128 ≤ n * 128 + k ∧ n * 128 + k - 128 < 8192 then f ⟨n * 128 + k - 128, by omega⟩ else z
      else if h1' : k - 128 < 128 then
        if h2 : 128 ≤ (1 + n) * 128 + (k - 128) ∧ (1 + n) * 128 + (k - 128) - 128 < 8192 then f ⟨(1 + n) * 128 + (k - 128) - 128, by omega⟩ else z
      else
        if h2 : 128 ≤ (2 + n) * 128 + (k - 128 - 128) ∧ (2 + n) * 128 + (k - 128 - 128) - 128 < 8192 then f ⟨(2 + n) * 128 + (k - 128 - 128) - 128, by omega⟩ else z)
      = if _h : 128 ≤ 128 * n + k ∧ 128 * n + k < 8320 then f ⟨128 * n + k - 128, by omega⟩ else 0 := by
  subst hz
  by_cases h2 : 128 ≤ 128 * n + k ∧ 128 * n + k < 8320
  · have hx : ∀ (u : ℕ) (hu : u < 8192), u = 128 * n + k - 128 → f ⟨u, hu⟩ = f ⟨128 * n + k - 128, by omega⟩ := fun u _ w => by subst w; rfl
    rw [dif_pos h2]
    by_cases h1 : k < 128
    · rw [dif_pos h1, dif_pos (by omega)]
      exact hx _ _ (by omega)
    · rw [dif_neg h1]
      by_cases h3 : k - 128 < 128
      · rw [dif_pos h3, dif_pos (by omega)]
        exact hx _ _ (by omega)
      · rw [dif_neg h3, dif_pos (by omega)]
        exact hx _ _ (by omega)
  · rw [dif_neg h2]
    by_cases h1 : k < 128
    · rw [dif_pos h1, dif_neg (by omega)]
    · rw [dif_neg h1]
      by_cases h3 : k - 128 < 128
      · rw [dif_pos h3, dif_neg (by omega)]
      · rw [dif_neg h3, dif_neg (by omega)]

theorem sitofp_zero : FloatOps.sitofp (F := Ideal) .f32 0#32 = (0 : EReal) := by
  show ((((0#32 : BitVec 32).toInt : ℤ) : ℝ) : EReal) = 0
  simp

theorem around3_apply (x : FVec Ideal S1x8192x4x128 .f32) (n : Fin 64) (k : Fin 384) (h : Fin 4) (e : Fin 128) :
    around3 (padded x) (ix5 0 n k h e) = padRow x n k h e := by
  unfold around3 padded padRow
  pointwise
  exact pick (fun w => x (ix4 0 w h e)) _ sitofp_zero n.val k.val n.isLt k.isLt

/-- The attention columns. -/
def attnCols (L : FVec Ideal S1x64x4x4x128x384 .f32) (W : FVec Ideal S1x64x384x4x128 .f32) (A : FVec Ideal S1x64x4x4x128x1 .f32) : FVec Ideal S1x8192x2048 .f32 :=
  shapeCast S1x8192x2048 (transpose S1x64x128x4x4x128 [0, 1, 5, 2, 4, 3] (Host.dotGeneral dot_S1x64x384x4x128_S1x64x4x4x128x384_S1x64x4x128x4x128_2_5_4_34_013_012 none W (Host.exp (subf L (broadcastInDim S1x64x4x4x128x384 ![0, 1, 2, 3, 4, 5] bcast_S1x64x4x4x128x1_S1x64x4x4x128x384_0_1_2_3_4_5 A)))) transposes_S1x64x4x128x4x128_S1x64x128x4x4x128_0_1_5_2_4_3) shapeCasts_S1x64x128x4x4x128_S1x8192x2048

theorem attnCols_apply (L : FVec Ideal S1x64x4x4x128x384 .f32) (W : FVec Ideal S1x64x384x4x128 .f32) (A : FVec Ideal S1x64x4x4x128x1 .f32)
    (n : Fin 64) (a b : Fin 4) (r d : Fin 128) :
    attnCols L W A (ix3 0 ⟨128 * n.val + r.val, by omega⟩ ⟨128 * (4 * a.val + b.val) + d.val, by omega⟩)
      = ∑ k : Fin 384, (W (ix5 0 n k a d) : EReal) * Ideal.exp (L (ix6 0 n a b r k) - A (ix6 0 n a b r 0)) := by
  unfold attnCols
  pointwise

/-- The distances of keys from queries, and the keys' places. -/
def dists : IVec S128x384 32 :=
  subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0)))
@[inherit_doc dists]
def places : IVec S64x384 32 :=
  addi (broadcastInDim S64x384 ![0, 1] bcast_S64x1_S64x384_0_1 (subi (muli (broadcastInDim S64x1 ![0] bcast_S64_S64x1_0 (iotaInDim S64 32 0)) (broadcastInDim S64x1 ![] bcast_S_S64x1 (constantI S_ 32 128#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))

/-- The masked logits. -/
def logits (Q : FVec Ideal S1x8192x16x128 .f32) (W : FVec Ideal S1x64x384x4x128 .f32) : FVec Ideal S1x64x4x4x128x384 .f32 :=
  select (broadcastInDim S1x64x4x4x128x384 ![0, 1, 2, 3, 4, 5] bcast_S1x64x1x1x128x384_S1x64x4x4x128x384_0_1_2_3_4_5 (broadcastInDim S1x64x1x1x128x384 ![1, 4, 5] bcast_S64x128x384_S1x64x1x1x128x384_1_4_5 (andi (broadcastInDim S64x128x384 ![0, 1, 2] bcast_S1x128x384_S64x128x384_0_1_2 (broadcastInDim S1x128x384 ![1, 2] bcast_S128x384_S1x128x384_1_2 (cmpi .sle (absi dists) (broadcastInDim S128x384 ![] bcast_S_S128x384 (constantI S_ 32 128#32))))) (broadcastInDim S64x128x384 ![0, 1, 2] bcast_S64x1x384_S64x128x384_0_1_2 (broadcastInDim S64x1x384 ![0, 2] bcast_S64x384_S64x1x384_0_2 (andi (cmpi .sge places (broadcastInDim S64x384 ![] bcast_S_S64x384 (constantI S_ 32 0#32))) (cmpi .slt places (broadcastInDim S64x384 ![] bcast_S_S64x384 (constantI S_ 32 8192#32))))))))) (addf (transpose S1x64x4x4x128x384 [0, 1, 2, 5, 4, 3] (Host.dotGeneral dot_S1x64x384x4x128_S1x64x128x4x4x128_S1x64x4x384x128x4_4_5_2_24_013_013 none W (shapeCast _ Q shapeCasts_S1x8192x16x128_S1x64x128x4x4x128)) transposes_S1x64x4x384x128x4_S1x64x4x4x128x384_0_1_2_5_4_3) (broadcastInDim S1x64x4x4x128x384 ![0, 1, 2, 3, 4, 5] bcast_S1x1x4x4x128x384_S1x64x4x4x128x384_0_1_2_3_4_5 (broadcastInDim S1x1x4x4x128x384 ![2, 3, 4, 5] bcast_S4x4x128x384_S1x1x4x4x128x384_2_3_4_5 (mulf (broadcastInDim S4x4x128x384 ![0, 1, 2, 3] bcast_S4x4x1x1_S4x4x128x384_0_1_2_3 (Host.negf (shapeCast _ (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))) shapeCasts_S16_S4x4x1x1))) (broadcastInDim S4x4x128x384 ![0, 1, 2, 3] bcast_S1x1x128x384_S4x4x128x384_0_1_2_3 (broadcastInDim S1x1x128x384 ![2, 3] bcast_S128x384_S1x1x128x384_2_3 (sitofp .f32 (absi dists)))))))) (broadcastInDim S1x64x4x4x128x384 ![] bcast_S_S1x64x4x4x128x384 (id (constant S_ .f32 0xFF800000#32)))

/-- The distance of key `k` of the window from query `r`. -/
def distR (r : Fin 128) (k : Fin 384) : BitVec 32 := IntOp.absi (IntOp.subi (IntOp.subi (BitVec.ofNat 32 k.val) 128#32) (BitVec.ofNat 32 r.val))
/-- The place of key `k` of the window of block `n`. -/
def placeR (n : Fin 64) (k : Fin 384) : BitVec 32 := IntOp.addi (IntOp.subi (IntOp.muli (BitVec.ofNat 32 n.val) 128#32) 128#32) (BitVec.ofNat 32 k.val)
/-- Whether the query sees the key. -/
def seenR (n : Fin 64) (r : Fin 128) (k : Fin 384) : BitVec 1 :=
  IntOp.andi (IntOp.cmpi .sle (distR r k) 128#32) (IntOp.andi (IntOp.cmpi .sge (placeR n k) 0#32) (IntOp.cmpi .slt (placeR n k) 8192#32))
/-- A head's slope. -/
def slopeR (h : ℕ) : EReal := -Ideal.pow (Ideal.ofBits .f32 0x40000000#32) (Ideal.div (Ideal.ofBits .f32 0xC1000000#32 * (1 + FloatOps.sitofp (F := Ideal) .f32 (BitVec.ofNat 32 h))) (Ideal.ofBits .f32 0x41800000#32))

theorem logits_apply (Q : FVec Ideal S1x8192x16x128 .f32) (W : FVec Ideal S1x64x384x4x128 .f32) (n : Fin 64) (a b : Fin 4) (r : Fin 128) (k : Fin 384) :
    logits Q W (ix6 0 n a b r k) = Scalar.select (seenR n r k)
      ((∑ x : Fin 128, (W (ix5 0 n k a x) : EReal) * Q (ix4 0 ⟨128 * n.val + r.val, by omega⟩ ⟨4 * a.val + b.val, by omega⟩ x))
        + slopeR (4 * a.val + b.val) * FloatOps.sitofp (F := Ideal) .f32 (distR r k)) ⊥ := by
  unfold logits dists places
  pointwise
  refine congrArg₂ (Scalar.select (seenR n r k)) (congrArg₂ (fun u v : EReal => u + v) (Finset.sum_congr rfl fun x _ => congrArg (fun z => W (ix5 0 n k a x) * z)
    (congrArg₂ (fun u v => Q (ix4 0 u v x)) (Fin.ext ?_) (Fin.ext ?_))) ?_) bot_bits
  · show n.val * 128 + r.val = 128 * n.val + r.val; omega
  · show a.val * 4 + b.val = 4 * a.val + b.val; omega
  · exact congrArg (fun h => slopeR h * FloatOps.sitofp (F := Ideal) .f32 (distR r k)) (show a.val * 4 + b.val = 4 * a.val + b.val by omega)

/-- An attention column of the reference, of whole arrays. -/
def refAttn (Q : FVec Ideal S1x8192x16x128 .f32) (K U : FVec Ideal S1x8192x4x128 .f32) (s : FVec Ideal S16 .f32) : FVec Ideal S1x8192x2048 .f32 :=
  attnCols (logits Q (around3 (padded K))) (around3 (padded U))
    (rowAll (rowLse (logits Q (around3 (padded K))) (rowMax (logits Q (around3 (padded K))))) (rowSink s))

theorem refAttn_apply (Q : FVec Ideal S1x8192x16x128 .f32) (K U : FVec Ideal S1x8192x4x128 .f32) (s : FVec Ideal S16 .f32)
    (n : Fin 64) (a b : Fin 4) (r d : Fin 128) :
    refAttn Q K U s (ix3 0 ⟨128 * n.val + r.val, by omega⟩ ⟨128 * (4 * a.val + b.val) + d.val, by omega⟩)
      = refForm (fun k => logits Q (around3 (padded K)) (ix6 0 n a b r k)) (s (ix1 ⟨4 * a.val + b.val, by omega⟩)) (fun k => padRow U n k a d) := by
  have key : ∀ (L : FVec Ideal S1x64x4x4x128x384 .f32) (W : FVec Ideal S1x64x384x4x128 .f32),
      attnCols L W (rowAll (rowLse L (rowMax L)) (rowSink s)) (ix3 0 ⟨128 * n.val + r.val, by omega⟩ ⟨128 * (4 * a.val + b.val) + d.val, by omega⟩)
        = refForm (fun k => L (ix6 0 n a b r k)) (s (ix1 ⟨4 * a.val + b.val, by omega⟩)) (fun k => W (ix5 0 n k a d)) := by
    intro L W
    rw [attnCols_apply, rowAll_apply, rowLse_apply, rowMax_apply, rowSink_apply]
    rfl
  exact (key _ _).trans (congrArg (refForm _ _) (funext fun k => around3_apply _ _ _ _ _))

variable (V0 : Valuation τ sig (Elt Ideal))

theorem v69_eq : res_main_v69 V0 = logits (V0 (Proc.devRef .tc main_arg0)) (around3 (padded (V0 (Proc.devRef .tc main_arg1)))) := rfl
theorem v79_eq : res_main_v79 V0 = rowLse (res_main_v69 V0) (rowMax (res_main_v69 V0)) := rfl

end Cert.ReferenceIdeal.Value
-- ==== Proof.MixFacts.lean ====
module

public import Mathlib.Analysis.SpecialFunctions.Pow.Real
public import proofs.«01_k».proof.Proof.MixFinal
public import proofs.«01_k».proof.Proof.MixRef

/-! The constants and the mask of both programs: the slopes, the logarithm of two, and the keys that a query sees. -/

@[expose] public section
set_option maxRecDepth 16384
noncomputable section
namespace Cert.Proof.Mix

open Idealize.ShloMosaic Idealize.ShloMosaic.TcCoe Idealize.ShloMosaic.Tactic
open Cert.KernelIdeal.Gen (slopeN seenW distW rowOf arrLogit arrAttn)
open Cert.ReferenceIdeal.Value (slopeR seenR distR placeR)

/-- A head's slope. -/
def slope (h : ℕ) : ℝ := -((Real.sqrt 2)⁻¹ ^ (h + 1))

theorem half : ((Real.sqrt 2)⁻¹) ^ 2 = 1 / 2 := by
  rw [inv_pow, Real.sq_sqrt (by norm_num)]; norm_num
theorem slope_even (j : ℕ) : slope (2 * j + 1) = -(1 / 2) ^ (j + 1) := by
  unfold slope
  rw [show 2 * j + 1 + 1 = 2 * (j + 1) by ring, pow_mul, half]
theorem slope_odd (j : ℕ) : slope (2 * j) = -((1 / 2) ^ j * (Real.sqrt 2)⁻¹) := by
  unfold slope
  rw [pow_succ, pow_mul, half]

theorem two_bits : Ideal.ofBits .f32 0x40000000#32 = ((2 : ℝ) : EReal) := by
  simp [Ideal.ofBits, Ideal.ieee, -EReal.coe_mul]; try norm_num
theorem sixteen_bits : Ideal.ofBits .f32 0x41800000#32 = ((16 : ℝ) : EReal) := by
  simp [Ideal.ofBits, Ideal.ieee, -EReal.coe_mul]; norm_num
theorem eight_bits : Ideal.ofBits .f32 0xC1000000#32 = ((-8 : ℝ) : EReal) := by
  simp [Ideal.ofBits, Ideal.ieee, -EReal.coe_mul]; norm_num

theorem log_two : Ideal.log (Ideal.ofBits .f32 0x40000000#32) = ((Real.log 2 : ℝ) : EReal) := by
  rw [two_bits]
  show (if (2 : ℝ) ≤ 0 then (⊥ : EReal) else ((Real.log 2 : ℝ) : EReal)) = _
  rw [if_neg (by norm_num)]

theorem log2e_eq : Named.named (F := Ideal) Cert.KernelIdeal.κ "log2e" (φ := .f32) 0x3FB8AA3B#32 = (((Real.log 2)⁻¹ : ℝ) : EReal) := rfl

theorem based_odd (j : ℕ) (x : ℝ) (h : x = -(1 / 2) ^ j) : x * (Real.log 2)⁻¹ * (Real.sqrt 2)⁻¹ = slope (2 * j) * (Real.log 2)⁻¹ := by
  rw [slope_odd, h]; ring
theorem based_even (j : ℕ) (x : ℝ) (h : x = -(1 / 2) ^ (j + 1)) : x * (Real.log 2)⁻¹ = slope (2 * j + 1) * (Real.log 2)⁻¹ := by
  rw [slope_even, h]

/-- The kernel's slopes, in base two. -/
theorem slopeN_eq (h : Fin 16) : (slopeN (F := Ideal) h.val : EReal) = ((slope h.val * (Real.log 2)⁻¹ : ℝ) : EReal) := by
  obtain ⟨h, hh⟩ := h
  match h, hh with
  | 0, _ => exact congrArg Real.toEReal (based_odd 0 _ (by norm_num))
  | 1, _ => exact congrArg Real.toEReal (based_even 0 _ (by norm_num))
  | 2, _ => exact congrArg Real.toEReal (based_odd 1 _ (by norm_num))
  | 3, _ => exact congrArg Real.toEReal (based_even 1 _ (by norm_num))
  | 4, _ => exact congrArg Real.toEReal (based_odd 2 _ (by norm_num))
  | 5, _ => exact congrArg Real.toEReal (based_even 2 _ (by norm_num))
  | 6, _ => exact congrArg Real.toEReal (based_odd 3 _ (by norm_num))
  | 7, _ => exact congrArg Real.toEReal (based_even 3 _ (by norm_num))
  | 8, _ => exact congrArg Real.toEReal (based_odd 4 _ (by norm_num))
  | 9, _ => exact congrArg Real.toEReal (based_even 4 _ (by norm_num))
  | 10, _ => exact congrArg Real.toEReal (based_odd 5 _ (by norm_num))
  | 11, _ => exact congrArg Real.toEReal (based_even 5 _ (by norm_num))
  | 12, _ => exact congrArg Real.toEReal (based_odd 6 _ (by norm_num))
  | 13, _ => exact congrArg Real.toEReal (based_even 6 _ (by norm_num))
  | 14, _ => exact congrArg Real.toEReal (based_odd 7 _ (by norm_num))
  | 15, _ => exact congrArg Real.toEReal (based_even 7 _ (by norm_num))
  | n + 16, hn => exact absurd hn (by omega)

theorem sitofp_eq (x : BitVec 32) : (FloatOps.sitofp (F := Ideal) .f32 x : EReal) = (((x.toInt : ℤ) : ℝ) : EReal) := rfl

/-- The reference's slopes. -/
theorem slopeR_eq (h : Fin 16) : slopeR h.val = ((slope h.val : ℝ) : EReal) := by
  unfold slopeR
  have hi : (BitVec.ofNat 32 h.val).toInt = (h.val : ℤ) := by
    revert h; decide
  rw [two_bits, eight_bits, sixteen_bits, sitofp_eq, hi, ← EReal.coe_one, ← EReal.coe_add, ← EReal.coe_mul, Ideal.div_coe (by norm_num : (16 : ℝ) ≠ 0), ← EReal.coe_mul]
  show -((Real.rpow 2 _ : ℝ) : EReal) = _
  rw [← EReal.coe_neg]
  refine congrArg Real.toEReal ?_
  unfold slope
  refine congrArg (fun z : ℝ => -z) ?_
  have hs : (Real.sqrt 2)⁻¹ = (2 : ℝ) ^ (-(1 / 2) : ℝ) := by
    rw [Real.rpow_neg (by norm_num), Real.sqrt_eq_rpow]
  rw [hs, ← Real.rpow_natCast, ← Real.rpow_mul (by norm_num)]
  show (2 : ℝ) ^ (_ : ℝ) = _
  congr 1
  push_cast
  ring

/-- The place of a key of the window, as an integer. -/
theorem place_ge : ∀ (n : Fin 64) (k : Fin 384), IntOp.cmpi .sge (placeR n k) 0#32 = BitVec.ofBool (decide (128 ≤ 128 * n.val + k.val)) := by decide +kernel
theorem place_lt : ∀ (n : Fin 64) (k : Fin 384), IntOp.cmpi .slt (placeR n k) 8192#32 = BitVec.ofBool (decide (128 * n.val + k.val < 8320)) := by decide +kernel
theorem key_ge : ∀ k : Fin 384, IntOp.cmpi .sge (BitVec.ofNat 32 k.val) 128#32 = BitVec.ofBool (decide (128 ≤ k.val)) := by decide +kernel
theorem key_lt : ∀ k : Fin 384, IntOp.cmpi .slt (BitVec.ofNat 32 k.val) 256#32 = BitVec.ofBool (decide (k.val < 256)) := by decide +kernel
theorem own_near : ∀ q : Fin 128, IntOp.cmpi .sle (distR q ⟨128 + q.val, by omega⟩) 128#32 = 1#1 := by decide +kernel

theorem dist_eq (q : Fin 128) (k : Fin 384) : distW q.val k.val = distR q k := rfl

theorem andi_one : ∀ x y : BitVec 1, IntOp.andi x y = 1#1 ↔ x = 1#1 ∧ y = 1#1 := by decide
theorem one_iff (b : Bool) : BitVec.ofBool b = 1#1 ↔ b = true := by cases b <;> decide
theorem bit_ext : ∀ x y : BitVec 1, (x = 1#1 ↔ y = 1#1) → x = y := by decide

theorem seenR_iff (n : Fin 64) (q : Fin 128) (k : Fin 384) :
    seenR n q k = 1#1 ↔ IntOp.cmpi .sle (distR q k) 128#32 = 1#1 ∧ 128 ≤ 128 * n.val + k.val ∧ 128 * n.val + k.val < 8320 := by
  unfold seenR
  rw [andi_one, andi_one, place_ge, place_lt, one_iff, one_iff, decide_eq_true_eq, decide_eq_true_eq]

/-- The variants' masks are the reference's. -/
theorem seen_eq (n : Fin 32) (qb : Fin 2) (q : Fin 128) (k : Fin 384) :
    seenW (if qb = 0 then (if n.val = 0 then 1 else 0) else (if n.val = 31 then 2 else 0)) q.val k.val = seenR ⟨2 * n.val + qb.val, by omega⟩ q k := by
  refine bit_ext _ _ ?_
  rw [seenR_iff]
  have hq : qb = 0 ∨ qb = 1 := by omega
  rcases hq with rfl | rfl
  · rw [if_pos rfl]
    by_cases h : n.val = 0
    · rw [if_pos h]
      unfold seenW
      show IntOp.andi _ _ = 1#1 ↔ _
      rw [andi_one, key_ge, one_iff, decide_eq_true_eq, dist_eq]
      refine and_congr_right fun _ => ?_
      show 128 ≤ k.val ↔ 128 ≤ 128 * (2 * n.val + 0) + k.val ∧ 128 * (2 * n.val + 0) + k.val < 8320
      omega
    · rw [if_neg h]
      unfold seenW
      rw [dist_eq]
      refine (and_iff_left ?_).symm
      show 128 ≤ 128 * (2 * n.val + 0) + k.val ∧ 128 * (2 * n.val + 0) + k.val < 8320
      omega
  · rw [if_neg (by decide)]
    by_cases h : n.val = 31
    · rw [if_pos h]
      unfold seenW
      show IntOp.andi _ _ = 1#1 ↔ _
      rw [andi_one, key_lt, one_iff, decide_eq_true_eq, dist_eq]
      refine and_congr_right fun _ => ?_
      show k.val < 256 ↔ 128 ≤ 128 * (2 * n.val + 1) + k.val ∧ 128 * (2 * n.val + 1) + k.val < 8320
      omega
    · rw [if_neg h]
      unfold seenW
      rw [dist_eq]
      refine (and_iff_left ?_).symm
      show 128 ≤ 128 * (2 * n.val + 1) + k.val ∧ 128 * (2 * n.val + 1) + k.val < 8320
      omega

/-- A query sees its own key. -/
theorem own_seen (n : Fin 64) (q : Fin 128) : seenR n q ⟨128 + q.val, by omega⟩ = 1#1 := by
  rw [seenR_iff]
  refine ⟨own_near q, ?_⟩
  show 128 ≤ 128 * n.val + (128 + q.val) ∧ 128 * n.val + (128 + q.val) < 8320
  omega

end Cert.Proof.Mix
-- ==== Proof.MixJoin.lean ====
module

public import proofs.«01_k».proof.Proof.MixFacts

/-! A head's result at a query: the kernel's windows over the projected rows and the reference's over the padded keys give one value
when queries and keys are real. -/

@[expose] public section
set_option maxRecDepth 16384
noncomputable section
namespace Cert.Proof.Mix

open Idealize.ShloMosaic Idealize.ShloMosaic.TcCoe Idealize.ShloMosaic.Tactic
open Cert.KernelIdeal.Gen (slopeN seenW distW rowOf arrLogit arrAttn biasOf biasOf_apply)
open Cert.ReferenceIdeal.Value (slopeR seenR distR placeR padRow padded around3 around3_apply logits logits_apply refAttn refAttn_apply)

/-- A key that a query sees lies in the kernel's window and in the padded keys at the same row. -/
theorem padRow_seen (x : FVec Ideal Cert.ReferenceIdeal.S1x8192x4x128 .f32) (n : Fin 32) (qb : Fin 2) (k : Fin 384) (h : Fin 4) (e : Fin 128)
    (hk : 128 ≤ 128 * (2 * n.val + qb.val) + k.val ∧ 128 * (2 * n.val + qb.val) + k.val < 8320) :
    padRow x ⟨2 * n.val + qb.val, by omega⟩ k h e = x (ix4 0 (rowOf n (128 * qb.val + k.val) (by omega)) h e) := by
  unfold padRow
  rw [dif_pos hk]
  refine congrArg (fun r => x (ix4 0 r h e)) (Fin.ext ?_)
  show 128 * (2 * n.val + qb.val) + k.val - 128 = (rowOf n (128 * qb.val + k.val) (by omega)).val
  unfold rowOf
  split_ifs <;> (simp only []; omega)

/-- A real sum read as one of extended reals. -/
theorem coe_sum_head (f : Fin 128 → ℝ) : ((∑ e, f e : ℝ) : EReal) = ∑ e, ((f e : ℝ) : EReal) :=
  map_sum (⟨⟨Real.toEReal, rfl⟩, EReal.coe_add⟩ : ℝ →+ EReal) f _

/-- The projected rows hold the queries over the logarithm of two, the keys and the values. -/
structure Holds (P : Vec Ideal Cert.KernelIdeal.S8192x5120 .bf16) (Q : FVec Ideal Cert.ReferenceIdeal.S1x8192x16x128 .f32)
    (K U : FVec Ideal Cert.ReferenceIdeal.S1x8192x4x128 .f32) : Prop where
  query : ∀ (i : Fin 8192) (h : Fin 16) (e : Fin 128),
    P (ix2 i ⟨128 * h.val + e.val, by omega⟩) = Ideal.div (Q (ix4 0 i h e)) (Ideal.log (Ideal.ofBits .f32 0x40000000#32))
  key : ∀ (i : Fin 8192) (h : Fin 4) (e : Fin 128), P (ix2 i ⟨4096 + (128 * h.val + e.val), by omega⟩) = K (ix4 0 i h e)
  value : ∀ (i : Fin 8192) (h : Fin 4) (e : Fin 128), P (ix2 i ⟨4096 + (128 * (4 + h.val) + e.val), by omega⟩) = U (ix4 0 i h e)

section
variable (P : Vec Ideal Cert.KernelIdeal.S8192x5120 .bf16) (s : Vec Ideal Cert.KernelIdeal.S16 .f32)
  (Q : FVec Ideal Cert.ReferenceIdeal.S1x8192x16x128 .f32) (K U : FVec Ideal Cert.ReferenceIdeal.S1x8192x4x128 .f32)
  (qr : Cert.ReferenceIdeal.S1x8192x16x128.Idx → ℝ) (kr : Cert.ReferenceIdeal.S1x8192x4x128.Idx → ℝ)
  (hq : ∀ i, Q i = (qr i : EReal)) (hk : ∀ i, K i = (kr i : EReal)) (hP : Holds P Q K U)

/-- The logit of a query and a key of the window, were the key seen. -/
def real (n : Fin 32) (qb : Fin 2) (kh g : Fin 4) (q : Fin 128) (k : Fin 384) : ℝ :=
  (∑ e : Fin 128, kr (ix4 0 (rowOf n (128 * qb.val + k.val) (by omega)) kh e) * qr (ix4 0 ⟨128 * (2 * n.val + qb.val) + q.val, by omega⟩ ⟨4 * kh.val + g.val, by omega⟩ e))
    + slope (4 * kh.val + g.val) * ((distR q k).toInt : ℝ)

/-- A key of the window is hidden from a query. -/
def hidden (n : Fin 32) (qb : Fin 2) (q : Fin 128) (k : Fin 384) : Bool := !decide (seenR ⟨2 * n.val + qb.val, by omega⟩ q k = 1#1)

include hq hk in
theorem logit_ref (n : Fin 32) (qb : Fin 2) (kh g : Fin 4) (q : Fin 128) (k : Fin 384) :
    logits Q (around3 (padded K)) (ix6 0 ⟨2 * n.val + qb.val, by omega⟩ kh g q k) = lg (real qr kr n qb kh g q k) (hidden n qb q k) := by
  rw [logits_apply]
  unfold hidden lg
  by_cases h : seenR ⟨2 * n.val + qb.val, by omega⟩ q k = 1#1
  · rw [h]
    have hr := ((seenR_iff _ _ _).mp h).2
    show (_ : EReal) = (if (!decide ((1#1 : BitVec 1) = 1#1)) = true then _ else _)
    rw [if_neg (by decide)]
    show (∑ x, _) + _ = (_ : EReal)
    rw [slopeR_eq ⟨4 * kh.val + g.val, by omega⟩, sitofp_eq, ← EReal.coe_mul]
    unfold real
    rw [EReal.coe_add, coe_sum_head]
    refine congrArg (· + _) (Finset.sum_congr rfl fun e _ => ?_)
    rw [around3_apply, padRow_seen K n qb k kh e hr, hk, hq, EReal.coe_mul]
  · have h0 : seenR ⟨2 * n.val + qb.val, by omega⟩ q k = 0#1 := by
      revert h; generalize seenR _ q k = x; revert x; decide
    rw [h0]
    rfl

include hq hk hP in
theorem logit_ker (n : Fin 32) (qb : Fin 2) (kh g : Fin 4) (q : Fin 128) (k : Fin 384) :
    arrLogit P n qb kh g q k = lg (real qr kr n qb kh g q k * (Real.log 2)⁻¹) (hidden n qb q k) := by
  have hl : Real.log 2 ≠ 0 := (Real.log_pos (by norm_num)).ne'
  have hsum : (∑ e : Fin 128, P (ix2 ⟨256 * n.val + (128 * qb.val + q.val), by omega⟩ ⟨128 * (4 * kh.val + g.val) + e.val, by omega⟩)
        * P (ix2 (rowOf n (128 * qb.val + k.val) (by omega)) ⟨4096 + (128 * kh.val + e.val), by omega⟩))
      = (((∑ e : Fin 128, kr (ix4 0 (rowOf n (128 * qb.val + k.val) (by omega)) kh e) * qr (ix4 0 ⟨128 * (2 * n.val + qb.val) + q.val, by omega⟩ ⟨4 * kh.val + g.val, by omega⟩ e)) * (Real.log 2)⁻¹ : ℝ) : EReal) := by
    rw [Finset.sum_mul, coe_sum_head]
    refine Finset.sum_congr rfl fun e _ => ?_
    rw [hP.query _ ⟨4 * kh.val + g.val, by omega⟩ e, hP.key _ kh e, hq, hk, log_two, Ideal.div_coe hl, ← EReal.coe_mul]
    have he : (⟨256 * n.val + (128 * qb.val + q.val), by omega⟩ : Fin 8192) = ⟨128 * (2 * n.val + qb.val) + q.val, by omega⟩ := Fin.ext (by simp only []; omega)
    rw [he]
    exact congrArg Real.toEReal (by ring)
  unfold arrLogit
  rw [hsum, biasOf_apply, seen_eq n qb q k]
  unfold hidden lg
  by_cases h : seenR ⟨2 * n.val + qb.val, by omega⟩ q k = 1#1
  · rw [h]
    show (_ : EReal) = (if (!decide ((1#1 : BitVec 1) = 1#1)) = true then _ else _)
    rw [if_neg (by decide)]
    show (_ : EReal) + (slopeN (F := Ideal) (4 * kh.val + g.val) : EReal) * _ = _
    rw [slopeN_eq ⟨4 * kh.val + g.val, by omega⟩, sitofp_eq, ← EReal.coe_mul, ← EReal.coe_add, dist_eq]
    refine congrArg Real.toEReal ?_
    unfold real
    ring
  · have h0 : seenR ⟨2 * n.val + qb.val, by omega⟩ q k = 0#1 := by
      revert h; generalize seenR _ q k = x; revert x; decide
    rw [h0]
    exact EReal.add_bot _

include hq hk hP in
/-- The kernel's head is the reference's. -/
theorem attn_eq (n : Fin 32) (qb : Fin 2) (kh g : Fin 4) (q d : Fin 128) :
    arrAttn P s n qb kh g q d
      = refAttn Q K U s (ix3 0 ⟨128 * (2 * n.val + qb.val) + q.val, by omega⟩ ⟨128 * (4 * kh.val + g.val) + d.val, by omega⟩) := by
  rw [refAttn_apply Q K U s ⟨2 * n.val + qb.val, by omega⟩ kh g q d]
  unfold arrAttn
  rw [log2e_eq]
  rw [funext (logit_ker P Q K U qr kr hq hk hP n qb kh g q), funext (logit_ref Q K qr kr hq hk n qb kh g q)]
  refine ker_eq_ref_any (real qr kr n qb kh g q) (hidden n qb q) _ _ _ ⟨128 + q.val, by omega⟩ ?_ fun k hm => ?_
  · unfold hidden
    rw [own_seen]
    rfl
  · rw [hP.value, padRow_seen U n qb k kh d]
    have h : seenR ⟨2 * n.val + qb.val, by omega⟩ q k = 1#1 := by
      unfold hidden at hm
      simpa using hm
    exact ((seenR_iff _ _ _).mp h).2
end

end Cert.Proof.Mix
-- ==== Proof.MixPre.lean ====
module

public import Idealize.ShloMosaic.Lib.ReduceAll
public import Idealize.ShloMosaic.Lib.KernelVsHost
public import Idealize.ShloMosaic.Lib.ValueIdx
public import proofs.«01_k».proof.Pre_finite

/-! The precondition: queries, keys and pool tokens are real. -/

@[expose] public section
noncomputable section

namespace Cert.Pre_finite
open Idealize.ShloMosaic

/-- The shape relations of the precondition. -/
instance facts : Cert.Pre_finite.Facts where
  bcast_S_S1x8192x16x128 := by decide
  reducesTo_S1x8192x16x128_S_d0_1_2_3 := by decide
  h_S_ := by decide
  bcast_S_S1x8192x4x128 := by decide
  reducesTo_S1x8192x4x128_S_d0_1_2_3 := by decide
  bcast_S_S1x8192x2048 := by decide
  reducesTo_S1x8192x2048_S_d0_1_2 := by decide

/-- A value below infinity in size is real. -/
theorem real_of_below (x : Ideal .f32)
    (h : FloatOps.cmpf .olt (FloatOps.hostAbsf x) (FloatOps.ofBits (F := Ideal) .f32 0x7F800000#32) = 1#1) : ∃ r : ℝ, (x : EReal) = (r : EReal) := by
  rw [← Ideal.xori_weird_eq_hostAbsf_olt_inf] at h
  have hx : ¬ ((x : EReal) = ⊤ ∨ (x : EReal) = ⊥) := fun hw => by
    have e : FloatOps.weird x = BitVec.ofBool (decide ((x : EReal) = ⊤ ∨ (x : EReal) = ⊥)) := rfl
    rw [e, decide_eq_true hw] at h
    exact absurd h (by decide)
  exact ⟨EReal.toReal x, (EReal.coe_toReal (fun e => hx (.inl e)) (fun e => hx (.inr e))).symm⟩

/-- An array whose elements are all below infinity in size is real. -/
theorem real_of_all {s : Shape} {axes : List (Fin s.rank)} (x : FVec Ideal s .f32) (b : S_.BroadcastsInDim s (![] : Fin 0 → Fin s.rank))
    (r : s.ReducesTo axes S_) (h0 : 0 < S_.numel)
    (h : Host.reduce IntOp.andi (cmpf .olt (Host.absf x) (broadcastInDim s ![] b (constant S_ .f32 0x7F800000#32))) (constantI S_ 1 1#1) r h0 ValueIdx.ix0 = 1#1) :
    ∃ f : s.Idx → ℝ, ∀ i, (x i : EReal) = (f i : EReal) :=
  haveI : Subsingleton S_.Idx := ⟨fun i j => funext fun a => a.elim0⟩
  ⟨_, fun i => (real_of_below (x i) (Host.reduce_andi_all _ _ r h0 _ h i)).choose_spec⟩

/-- Under the precondition, queries, keys and pool tokens are real. -/
theorem real_of_fn (a0 : FVec Ideal S1x8192x16x128 .f32) (a1 a2 : FVec Ideal S1x8192x4x128 .f32) (a3 : FVec Ideal S1x8192x2048 .f32)
    (a4 : FVec Ideal S16 .f32) (a5 : FVec Ideal S4x512x512 .f32) (a6 : FVec Ideal S2048 .f32) (a7 : FVec Ideal S4096x4096 .f32)
    (h : fn a0 a1 a2 a3 a4 a5 a6 a7 = fun _ => 1#1) :
    (∃ f : S1x8192x16x128.Idx → ℝ, ∀ i, (a0 i : EReal) = (f i : EReal)) ∧ (∃ f : S1x8192x4x128.Idx → ℝ, ∀ i, (a1 i : EReal) = (f i : EReal))
      ∧ ∃ f : S1x8192x2048.Idx → ℝ, ∀ i, (a3 i : EReal) = (f i : EReal) := by
  have e := congrFun h ValueIdx.ix0
  obtain ⟨e01, e3⟩ := IntOp.andi_eq_one.1 e
  obtain ⟨e0, e1⟩ := IntOp.andi_eq_one.1 e01
  exact ⟨real_of_all a0 _ _ _ e0, real_of_all a1 _ _ _ e1, real_of_all a3 _ _ _ e3⟩

end Cert.Pre_finite
end
-- ==== Proof.PoolMath.lean ====
module

public import proofs.«01_k».proof.Proof.MixMath

/-! Sums of windows of a sequence: the banded sum over the rows around a block, and the difference of two prefix sums. -/

@[expose] public section
noncomputable section
namespace Cert.Proof.Mix

/-- How many rows before a row its window of group `gi` takes; it takes one less after it. -/
def behind (gi : Fin 4) : ℕ := ![1, 2, 4, 8] gi

theorem behind_pos (gi : Fin 4) : 0 < behind gi ∧ behind gi ≤ 8 := by revert gi; decide

/-- The window's first row, and the row after its last. -/
def lo (gi : Fin 4) (i : ℕ) : ℕ := i - behind gi
@[inherit_doc lo] def hi (gi : Fin 4) (i : ℕ) : ℕ := min (i + behind gi) 8192

theorem lo_lt_hi (gi : Fin 4) (i : ℕ) (h : i < 8192) : lo gi i < hi gi i := by
  have := behind_pos gi
  unfold lo hi; omega

/-- The rows around block `n`: the sequence's own, or zero outside it. -/
def extAt (x : ℕ → ℝ) (n s : ℕ) : ℝ := if 16 ≤ 256 * n + s ∧ 256 * n + s < 8208 then x (256 * n + s - 16) else 0

/-- Row `s` around the block is in the window of row `r` of the block. -/
def inBand (gi : Fin 4) (r s : ℕ) : Prop := r + 16 ≤ s + behind gi ∧ s < r + 16 + behind gi

instance (gi : Fin 4) (r s : ℕ) : Decidable (inBand gi r s) := by unfold inBand; infer_instance

/-- The banded sum is the sum over the window. -/
theorem band_sum (x : ℕ → ℝ) (gi : Fin 4) (n : Fin 32) (r : Fin 256) :
    ∑ s : Fin 288, (if inBand gi r.val s.val then 1 else 0) * extAt x n.val s.val
      = ∑ j ∈ Finset.Ico (lo gi (256 * n.val + r.val)) (hi gi (256 * n.val + r.val)), x j := by
  have hb := behind_pos gi
  rw [Fin.sum_univ_eq_sum_range (fun s => (if inBand gi r.val s then 1 else 0) * extAt x n.val s) 288]
  have e : ∀ s, (if inBand gi r.val s then (1 : ℝ) else 0) * extAt x n.val s
      = if inBand gi r.val s ∧ (16 ≤ 256 * n.val + s ∧ 256 * n.val + s < 8208) then x (256 * n.val + s - 16) else 0 := fun s => by
    unfold extAt
    by_cases h1 : inBand gi r.val s <;> by_cases h2 : (16 ≤ 256 * n.val + s ∧ 256 * n.val + s < 8208) <;> simp [h1, h2]
  simp only [e]
  rw [← Finset.sum_filter]
  refine Finset.sum_nbij' (fun s => 256 * n.val + s - 16) (fun j => j + 16 - 256 * n.val) ?_ ?_ ?_ ?_ ?_
  · intro s hs
    obtain ⟨h0, ⟨h1, h2⟩, h3⟩ := Finset.mem_filter.1 hs
    have h0 := Finset.mem_range.1 h0
    refine Finset.mem_Ico.2 ⟨?_, ?_⟩
    · show 256 * n.val + r.val - behind gi ≤ 256 * n.val + s - 16
      omega
    · show 256 * n.val + s - 16 < min (256 * n.val + r.val + behind gi) 8192
      omega
  · intro j hj
    obtain ⟨h0, h1⟩ := Finset.mem_Ico.1 hj
    unfold lo at h0
    unfold hi at h1
    refine Finset.mem_filter.2 ⟨Finset.mem_range.2 ?_, ⟨?_, ?_⟩, ?_⟩
    all_goals omega
  · intro s hs
    obtain ⟨h0, ⟨h1, h2⟩, h3⟩ := Finset.mem_filter.1 hs
    show 256 * n.val + s - 16 + 16 - 256 * n.val = s
    omega
  · intro j hj
    obtain ⟨h0, h1⟩ := Finset.mem_Ico.1 hj
    unfold lo at h0
    show 256 * n.val + (j + 16 - 256 * n.val) - 16 = j
    omega
  · intro s _
    rfl

/-- The window's sum is a difference of prefix sums. -/
theorem prefix_diff (x : ℕ → ℝ) (gi : Fin 4) (i : ℕ) (h : i < 8192) :
    (∑ j ∈ Finset.range (hi gi i), x j) - ∑ j ∈ Finset.range (lo gi i), x j = ∑ j ∈ Finset.Ico (lo gi i) (hi gi i), x j :=
  (Finset.sum_Ico_eq_sub x (lo_lt_hi gi i h).le).symm

/-- What the pooling multiplies by its weights: the window's mean less the row. -/
def pooledAt (x : ℕ → ℝ) (gi : Fin 4) (i : ℕ) : ℝ :=
  (∑ j ∈ Finset.Ico (lo gi i) (hi gi i), x j) / ((hi gi i - lo gi i : ℕ) : ℝ) - x i

/-- A sequence of 8192 numbers, zero after its end. -/
def seq (f : Fin 8192 → ℝ) (j : ℕ) : ℝ := if h : j < 8192 then f ⟨j, h⟩ else 0

end Cert.Proof.Mix
end
-- ==== Proof.PoolWord.lean ====
module

public import proofs.«01_k».proof.Proof.PoolMath

/-! The programs' words for the pooling windows' ends. -/

@[expose] public section
set_option maxRecDepth 16384
noncomputable section
namespace Cert.Proof.Mix

open Idealize.ShloMosaic

/-- The words that the window's ends are made of. -/
def backW (gi : Fin 4) : BitVec 32 :=
  match gi with
  | 0 => 1#32
  | 1 => 2#32
  | 2 => 4#32
  | 3 => 8#32
@[inherit_doc backW]
def aheadW (gi : Fin 4) : BitVec 32 :=
  match gi with
  | 0 => 0#32
  | 1 => 1#32
  | 2 => 3#32
  | 3 => 7#32

theorem lo_word : ∀ (gi : Fin 4) (a : Fin 128) (b : Fin 64),
    IntOp.minsi 8192#32 (IntOp.maxsi 0#32 (IntOp.subi (BitVec.ofNat 32 (64 * a.val + b.val)) (backW gi))) = BitVec.ofNat 32 (lo gi (64 * a.val + b.val)) := by decide +kernel
theorem hi_word : ∀ (gi : Fin 4) (a : Fin 128) (b : Fin 64),
    IntOp.minsi 8192#32 (IntOp.maxsi 0#32 (IntOp.addi (IntOp.addi (BitVec.ofNat 32 (64 * a.val + b.val)) (aheadW gi)) 1#32)) = BitVec.ofNat 32 (hi gi (64 * a.val + b.val)) := by decide +kernel

theorem count_word_ker : ∀ (gi : Fin 4) (n : Fin 32) (r : Fin 256),
    IntOp.subi (IntOp.minsi (IntOp.addi (IntOp.addi (IntOp.addi (IntOp.muli (BitVec.ofNat 32 n.val) 256#32) (BitVec.ofNat 32 r.val)) (aheadW gi)) 1#32) 8192#32)
      (IntOp.maxsi (IntOp.subi (IntOp.addi (IntOp.muli (BitVec.ofNat 32 n.val) 256#32) (BitVec.ofNat 32 r.val)) (backW gi)) 0#32)
      = BitVec.ofNat 32 (hi gi (256 * n.val + r.val) - lo gi (256 * n.val + r.val)) := by decide +kernel

end Cert.Proof.Mix
end
-- ==== Proof.PoolBand.lean ====
module

public import proofs.«01_k».proof.Proof.MixList
public import proofs.«01_k».proof.Proof.PoolWord

/-! The table of bands that the first point leaves: one where a row is in the window, zero elsewhere. -/

@[expose] public section
set_option maxRecDepth 16384
noncomputable section
namespace Cert.KernelIdeal.Gen

open Idealize.ShloMosaic Idealize.ShloMosaic.TcCoe Idealize.ShloMosaic.Tactic
open Cert.Proof.Mix (backW aheadW behind inBand)
variable {F : FTy → Type} [FloatOps F] [Named F]

/-- The bands of one group. -/
def bandOf (gi : Fin 4) : FVec F S1x256x288 .bf16 :=
  match gi with
  | 0 => k0_pay67 k0_pay65 (Scalar.ofBits .f32 0x00000000#32) k0_pay66
  | 1 => k0_pay68 (iota .tc S256x288 32 [0] iota_S256x288_d0_w32) k0_pay64
  | 2 => k0_pay69 (iota .tc S256x288 32 [0] iota_S256x288_d0_w32) k0_pay64
  | 3 => k0_pay73 (iota .tc S256x288 32 [0] iota_S256x288_d0_w32) k0_pay64 (k0_pay70 (iota .tc S256x288 32 [0] iota_S256x288_d0_w32) k0_pay64) k0_pay71

/-- One row of the table. -/
def bandPiece (gi : Fin 4) : View.Piece (Elt F) S4x256x288 .bf16 :=
  ⟨Rect.unit (s := S4x256x288) ![gi.val, 0, 0] S1x256x288.size (inb3 (by omega) (by omega) (by omega)), bandOf gi⟩

/-- The table is written a group at a time. -/
theorem bandPieces_eq : (firstRun (F := F)).1.2 = [3, 2, 1, 0].map bandPiece := by
  unfold firstRun
  rfl

/-- Whether row `s` around the block is in the window of row `r`, as the kernel's word. -/
def bandW (gi : Fin 4) (r s : ℕ) : BitVec 1 :=
  IntOp.andi (IntOp.cmpi .sge (IntOp.subi (BitVec.ofNat 32 s) 16#32) (IntOp.subi (BitVec.ofNat 32 r) (backW gi)))
    (IntOp.cmpi .sle (IntOp.subi (BitVec.ofNat 32 s) 16#32) (IntOp.addi (BitVec.ofNat 32 r) (aheadW gi)))

theorem toInt_sub_small (a b : ℕ) (ha : a < 1024) (hb : b < 1024) : (BitVec.ofNat 32 a - BitVec.ofNat 32 b).toInt = (a : ℤ) - b := by
  rw [BitVec.toInt_sub, BitVec.toInt_ofNat', BitVec.toInt_ofNat']
  simp only [Int.bmod]
  omega

theorem toInt_add_small (a b : ℕ) (ha : a < 1024) (hb : b < 1024) : (BitVec.ofNat 32 a + BitVec.ofNat 32 b).toInt = (a : ℤ) + b := by
  rw [BitVec.toInt_add, BitVec.toInt_ofNat', BitVec.toInt_ofNat']
  simp only [Int.bmod]
  omega

theorem bandW_eq (gi : Fin 4) (r : Fin 256) (s : Fin 288) : bandW gi r.val s.val = BitVec.ofBool (decide (inBand gi r.val s.val)) := by
  have hb : backW gi = BitVec.ofNat 32 (behind gi) := by revert gi; decide
  have ha : aheadW gi = BitVec.ofNat 32 (behind gi - 1) := by revert gi; decide
  have hp := Cert.Proof.Mix.behind_pos gi
  unfold bandW IntOp.cmpi
  rw [hb, ha]
  show BitVec.ofBool (BitVec.sle (BitVec.ofNat 32 r.val - BitVec.ofNat 32 (behind gi)) (BitVec.ofNat 32 s.val - BitVec.ofNat 32 16))
    &&& BitVec.ofBool (BitVec.sle (BitVec.ofNat 32 s.val - BitVec.ofNat 32 16) (BitVec.ofNat 32 r.val + BitVec.ofNat 32 (behind gi - 1))) = _
  simp only [BitVec.sle_eq_decide]
  rw [toInt_sub_small _ _ (by omega) (by omega), toInt_sub_small _ _ (by omega) (by omega), toInt_add_small _ _ (by omega) (by omega)]
  have e : decide (inBand gi r.val s.val) = (decide ((r.val : ℤ) - (behind gi : ℕ) ≤ (s.val : ℤ) - (16 : ℕ)) && decide ((s.val : ℤ) - (16 : ℕ) ≤ (r.val : ℤ) + (behind gi - 1 : ℕ))) := by
    rw [← Bool.decide_and]
    refine decide_eq_decide.2 ?_
    unfold inBand
    omega
  rw [e]
  generalize decide ((r.val : ℤ) - (behind gi : ℕ) ≤ (s.val : ℤ) - (16 : ℕ)) = x
  generalize decide ((s.val : ℤ) - (16 : ℕ) ≤ (r.val : ℤ) + (behind gi - 1 : ℕ)) = y
  revert x y; decide

theorem bandOf_word (gi : Fin 4) (r : Fin 256) (s : Fin 288) :
    bandOf (F := Ideal) gi (ix3 0 r s) = Scalar.select (bandW gi r.val s.val) (1 : EReal) 0 := by
  unfold bandOf bandW
  match gi with
  | 0 => simp only; unfold k0_pay67 k0_pay65 k0_pay66 k0_pay64; pointwise; rfl
  | 1 => simp only; unfold k0_pay68 k0_pay64; pointwise; rfl
  | 2 => simp only; unfold k0_pay69 k0_pay64; pointwise; rfl
  | 3 => simp only; unfold k0_pay73 k0_pay70 k0_pay71 k0_pay64; pointwise; rfl

theorem bandOf_apply (gi : Fin 4) (r : Fin 256) (s : Fin 288) :
    bandOf (F := Ideal) gi (ix3 0 r s) = (((if inBand gi r.val s.val then 1 else 0 : ℝ)) : EReal) := by
  rw [bandOf_word, bandW_eq]
  by_cases h : inBand gi r.val s.val
  · rw [decide_eq_true h, if_pos h]; rfl
  · rw [decide_eq_false h, if_neg h]; rfl

/-- Where an element of a row of the table lies in the table. -/
theorem bandPiece_idx (r : Fin 4) (x : (bandPiece (F := F) r).1.shape.Idx) : (bandPiece (F := F) r).1.emb x = ix3 r (x 1) (x 2) :=
  funext fun a => match a with
    | ⟨0, _⟩ => Fin.ext (by
        show r.val + 1 * (x 0).val = r.val
        have : (x 0).val < 1 := (x 0).isLt
        omega)
    | ⟨1, _⟩ => Fin.ext (by show 0 + 1 * (x 1).val = (x 1).val; omega)
    | ⟨2, _⟩ => Fin.ext (by show 0 + 1 * (x 2).val = (x 2).val; omega)

/-- The table at a group. -/
theorem bandTab_apply (r : Fin 4) (q : Fin 256) (k : Fin 288) :
    bandTab (F := Ideal) (ix3 r q k) = bandOf (F := Ideal) r (ix3 0 q k) := by
  unfold bandTab
  rw [bandPieces_eq]
  refine View.canon_apply_of_pieces (Val := Elt Ideal) (e := .bf16) (fun y : S4x256x288.Idx => bandOf (F := Ideal) (y 0) (ix3 0 (y 1) (y 2))) _ ?_ _ ?_
  · intro p hp x
    obtain ⟨s, -, rfl⟩ := List.mem_map.1 hp
    rw [bandPiece_idx]
    show bandOf (F := Ideal) s x = bandOf (F := Ideal) s (ix3 0 (x 1) (x 2))
    refine congrArg _ (funext fun a => match a with
      | ⟨0, _⟩ => Fin.ext (by
        have : (x 0).val < 1 := (x 0).isLt
        show (x 0).val = 0
        omega)
      | ⟨1, _⟩ => rfl
      | ⟨2, _⟩ => rfl)
  · refine ⟨bandPiece r, List.mem_map.2 ⟨r, by fin_cases r <;> decide, rfl⟩, ?_⟩
    have := (bandPiece (F := Ideal) r).1.idx_mem (ix3 0 q k)
    rwa [show (bandPiece (F := Ideal) r).1.idx (ix3 0 q k) = ix3 r q k from bandPiece_idx r _] at this

end Cert.KernelIdeal.Gen
end
-- ==== Proof.PoolKer.lean ====
module

public import proofs.«01_k».proof.Proof.MixBlock
public import proofs.«01_k».proof.Proof.PoolBand
public import proofs.«01_k».proof.Proof.PoolMath

/-! The pooled columns of the block that a point leaves, read at an element. -/

@[expose] public section
set_option maxRecDepth 16384
noncomputable section
namespace Cert.KernelIdeal.Gen

open Idealize.ShloMosaic Idealize.ShloMosaic.TcCoe Idealize.ShloMosaic.Tactic
open Cert.Proof.Mix

/-- A row around a block, zero outside the sequence: sixteen rows before it, the block, sixteen rows after it. -/
def haloRow (n : ℕ) (x6 : Vec Ideal S16x2048 .bf16) (x7 : Vec Ideal S256x2048 .bf16) (x8 : Vec Ideal S16x2048 .bf16) (s : Fin 288) (c : Fin 2048) : EReal :=
  if h : s.val < 16 then (if n = 0 then 0 else x6 (ix2 ⟨s.val, h⟩ c))
  else if h' : s.val < 272 then x7 (ix2 ⟨s.val - 16, by omega⟩ c)
  else if n = 31 then 0 else x8 (ix2 ⟨s.val - 272, by omega⟩ c)

/-- A choice between zero and an array by whether a point's number is another. -/
theorem edge_select : ∀ (n k : Fin 32), Scalar.cmpi .eq (BitVec.ofNat 32 n.val) (BitVec.ofNat 32 k.val) = BitVec.ofBool (decide (n.val = k.val)) := by
  decide +kernel

theorem edge_apply (n k : Fin 32) (u v : FVec Ideal S16x2048 .bf16) (x : S16x2048.Idx) :
    (Scalar.select (Scalar.cmpi .eq (BitVec.ofNat 32 n.val) (BitVec.ofNat 32 k.val)) u v : FVec Ideal S16x2048 .bf16) x = if n.val = k.val then u x else v x := by
  rw [edge_select]
  by_cases h : n.val = k.val
  · rw [decide_eq_true h, if_pos h]; rfl
  · rw [decide_eq_false h, if_neg h]; rfl

theorem poolExt_apply (gi : Fin 4) (p : FVec Ideal S288x2048 .bf16) (s : Fin 288) (c : Fin 512) :
    poolExt gi p (ix2 s c) = p (ix2 s ⟨512 * gi.val + c.val, by omega⟩) := by
  match gi with
  | 0 => unfold poolExt; pointwise
  | 1 => unfold poolExt; pointwise
  | 2 => unfold poolExt; pointwise
  | 3 => unfold poolExt; pointwise

theorem poolCols_apply (gi : Fin 4) (p : FVec Ideal S256x2048 .bf16) (r : Fin 256) (c : Fin 512) :
    poolCols gi p (ix2 r c) = p (ix2 r ⟨512 * gi.val + c.val, by omega⟩) := by
  match gi with
  | 0 => unfold poolCols; pointwise
  | 1 => unfold poolCols; pointwise
  | 2 => unfold poolCols; pointwise
  | 3 => unfold poolCols; pointwise

theorem halo_stack (a b : FVec Ideal S16x2048 .bf16) (x7 : FVec Ideal S256x2048 .bf16) (s : Fin 288) (c : Fin 2048) :
    (concatenate S288x2048 0 [⟨S16x2048, a⟩, ⟨S256x2048, x7⟩, ⟨S16x2048, b⟩] concatenates_S16x2048_S256x2048_S16x2048_S288x2048_d0 : FVec Ideal S288x2048 .bf16) (ix2 s c)
      = if h : s.val < 16 then a (ix2 ⟨s.val, h⟩ c) else if h' : s.val < 272 then x7 (ix2 ⟨s.val - 16, by omega⟩ c) else b (ix2 ⟨s.val - 272, by omega⟩ c) := by
  pointwise
  by_cases h : s.val < 16
  · rw [dif_pos h, dif_pos h]
  · rw [dif_neg h, dif_neg h]
    by_cases h' : s.val < 272
    · rw [dif_pos (by omega), dif_pos h']
    · rw [dif_neg (by omega), dif_neg h']
      exact congrArg b (congrArg (fun z => ix2 z _) (Fin.ext (by show s.val - 16 - 256 = s.val - 272; omega)))

theorem halo_apply (n : Fin 32) (x6 : Vec Ideal S16x2048 .bf16) (x7 : Vec Ideal S256x2048 .bf16) (x8 : Vec Ideal S16x2048 .bf16) (s : Fin 288) (c : Fin 2048) :
    k0_pay78 (Scalar.cmpi .eq (BitVec.ofNat 32 n.val) 0#32) (Scalar.cmpi .eq (BitVec.ofNat 32 n.val) 31#32) (k0_pay76 x7) k0_pay77
      (View.ld x6 (Rect.unit (s := S16x2048) ![0, 0] S16x2048.size (inb2 (by omega) (by omega))))
      (View.ld x8 (Rect.unit (s := S16x2048) ![0, 0] S16x2048.size (inb2 (by omega) (by omega)))) (ix2 s c) = haloRow n.val x6 x7 x8 s c := by
  unfold k0_pay78
  refine (halo_stack _ _ _ s c).trans ?_
  unfold haloRow
  by_cases h : s.val < 16
  · rw [dif_pos h, dif_pos h]
    refine (edge_apply n 0 _ _ _).trans ?_
    show (if n.val = 0 then _ else _) = _
    by_cases hn : n.val = 0
    · rw [if_pos hn, if_pos hn]
      unfold k0_pay77
      pointwise
    · rw [if_neg hn, if_neg hn]
      pointwise
  · rw [dif_neg h, dif_neg h]
    by_cases h' : s.val < 272
    · rw [dif_pos h', dif_pos h']
      unfold k0_pay76
      pointwise
    · rw [dif_neg h', dif_neg h']
      refine (edge_apply n 31 _ _ _).trans ?_
      show (if n.val = 31 then _ else _) = _
      by_cases hn : n.val = 31
      · rw [if_pos hn, if_pos hn]
        pointwise
      · rw [if_neg hn, if_neg hn]
        pointwise

theorem counts_apply (gi : Fin 4) (n : Fin 32) (r : Fin 256) (z : Fin 1) :
    counts gi (k0_pay79 (BitVec.ofNat 32 n.val)) (ix2 r z) = BitVec.ofNat 32 (hi gi (256 * n.val + r.val) - lo gi (256 * n.val + r.val)) := by
  rw [← count_word_ker gi n r]
  unfold counts k0_pay79
  pointwise
  match gi with
  | 0 => rfl
  | 1 => rfl
  | 2 => rfl
  | 3 => rfl

theorem weigh_apply (u : FVec Ideal S256x512 .bf16) (w : FVec Ideal S512x512 .bf16) (sc : Vec Ideal S1x512 .f32) (r : Fin 256) (d : Fin 512) :
    k0_pay123 u w sc (ix2 r d) = (∑ c : Fin 512, (u (ix2 r c) : EReal) * w (ix2 c d)) * sc (ix2 0 d) := by
  unfold k0_pay123
  pointwise

theorem centre_apply (b : FVec Ideal S256x288 .bf16) (p : FVec Ideal S288x512 .bf16) (k : IVec S256x1 32) (q : FVec Ideal S256x512 .bf16) (r : Fin 256) (c : Fin 512) :
    (truncf .bf16 (subf (mulf (matmul dot_S256x288_S288x512_S256x512_1_0_0_1_n_n none b p (constant S256x512 .f32 0x00000000#32))
        (broadcastTo S256x512 (divf (broadcast S256x1 (Scalar.ofBits .f32 0x3F800000#32)) (sitofp .f32 k)) broadcasts_S256x1_S256x512))
      (extf .f32 q bitsLt_bf16_f32)) bitsLt_bf16_f32 : FVec Ideal S256x512 .bf16) (ix2 r c)
      = (∑ s : Fin 288, (b (ix2 r s) : EReal) * p (ix2 s c)) * Ideal.div 1 (((k (ix2 r 0)).toInt : ℝ) : EReal) - q (ix2 r c) := by
  pointwise
  rfl

theorem bandRow_apply (Bd : Vec Ideal S4x256x288 .bf16) (gi : Fin 4) (r : Fin 256) (s : Fin 288) :
    (shapeCast S256x288 (View.ld Bd (Rect.unit (s := S4x256x288) ![gi.val, 0, 0] S1x256x288.size (inb3 (by omega) (by omega) (by omega)))) shapeCasts_S1x256x288_S256x288 : FVec Ideal S256x288 .bf16) (ix2 r s)
      = Bd (ix3 gi r s) := by
  have e : ∀ v : FVec Ideal S1x256x288 .bf16, (shapeCast S256x288 v shapeCasts_S1x256x288_S256x288 : FVec Ideal S256x288 .bf16) (ix2 r s) = v (ix3 0 r s) := fun v => by pointwise
  refine (e _).trans ?_
  exact congrArg Bd (funext fun a => match a with
        | ⟨0, _⟩ => Fin.ext (by show gi.val + 1 * 0 = gi.val; omega)
        | ⟨1, _⟩ => Fin.ext (by show 0 + 1 * r.val = r.val; omega)
        | ⟨2, _⟩ => Fin.ext (by show 0 + 1 * s.val = s.val; omega))

theorem weights_apply (x9 : Vec Ideal S4x512x512 .bf16) (gi : Fin 4) (c d : Fin 512) :
    k0_pay122 (View.ld x9 (Rect.unit (s := S4x512x512) ![gi.val, 0, 0] S1x512x512.size (inb3 (by omega) (by omega) (by omega)))) (ix2 c d) = x9 (ix3 gi c d) := by
  have e : ∀ v : FVec Ideal S1x512x512 .bf16, k0_pay122 v (ix2 c d) = v (ix3 0 c d) := fun v => by unfold k0_pay122; pointwise
  refine (e _).trans ?_
  exact congrArg x9 (funext fun a => match a with
      | ⟨0, _⟩ => Fin.ext (by show gi.val + 1 * 0 = gi.val; omega)
      | ⟨1, _⟩ => Fin.ext (by show 0 + 1 * c.val = c.val; omega)
      | ⟨2, _⟩ => Fin.ext (by show 0 + 1 * d.val = d.val; omega))

theorem scales_apply (x10 : Vec Ideal S1x2048 .f32) (gi : Fin 4) (d : Fin 512) :
    View.ld x10 (Rect.unit (s := S1x2048) ![0, 512 * gi.val] S1x512.size (inb2 (by omega) (by omega))) (ix2 0 d) = x10 (ix2 0 ⟨512 * gi.val + d.val, by omega⟩) :=
  congrArg x10 (funext fun a => match a with
      | ⟨0, _⟩ => Fin.ext (by show 0 + 1 * 0 = 0; omega)
      | ⟨1, _⟩ => Fin.ext (by show 512 * gi.val + 1 * d.val = 512 * gi.val + d.val; omega))

/-- An element of the pooled columns of a point's block. -/
theorem pooled_apply (i : grid0.Coords) (x6 : Vec Ideal S16x2048 .bf16) (x7 : Vec Ideal S256x2048 .bf16) (x8 : Vec Ideal S16x2048 .bf16) (x9 : Vec Ideal S4x512x512 .bf16) (x10 : Vec Ideal S1x2048 .f32)
    (gi : Fin 4) (r : Fin 256) (d : Fin 512) :
    pooled i x6 x7 x8 x9 x10 bandTab gi (ix2 r d)
      = (∑ c : Fin 512, ((∑ s : Fin 288, (((if inBand gi r.val s.val then 1 else 0 : ℝ)) : EReal) * haloRow (i 0).val x6 x7 x8 s ⟨512 * gi.val + c.val, by omega⟩)
            * Ideal.div 1 (((BitVec.ofNat 32 (hi gi (256 * (i 0).val + r.val) - lo gi (256 * (i 0).val + r.val))).toInt : ℝ) : EReal)
          - x7 (ix2 r ⟨512 * gi.val + c.val, by omega⟩)) * (x9 (ix3 gi c d) : EReal)) * x10 (ix2 0 ⟨512 * gi.val + d.val, by omega⟩) := by
  unfold pooled
  rw [weigh_apply]
  refine congrArg₂ (· * ·) (Finset.sum_congr rfl fun c _ => congrArg₂ (· * ·) ?_ ?_) ?_
  · rw [centre_apply]
    refine congrArg₂ (· - ·) (congrArg₂ (· * ·) (Finset.sum_congr rfl fun s _ => congrArg₂ (· * ·) ?_ ?_) ?_) ?_
    · rw [← bandOf_apply, ← bandTab_apply]
      exact bandRow_apply bandTab gi r s
    · rw [poolExt_apply]
      exact halo_apply (i 0) x6 x7 x8 s _
    · exact congrArg (fun z : BitVec 32 => Ideal.div 1 ((z.toInt : ℝ) : EReal)) (counts_apply gi (i 0) r 0)
    · rw [poolCols_apply]
      unfold k0_pay76
      pointwise
  · exact weights_apply x9 gi c d
  · exact scales_apply x10 gi d

end Cert.KernelIdeal.Gen
end
-- ==== Proof.PoolTake.lean ====
module

public import proofs.«01_k».proof.Proof.PoolMath
public import Idealize.ShloMosaic.Lib.ValueIdx
public import Idealize.ShloMosaic.Lib.Pointwise
public import Idealize.ShloMosaic.Lib.ReduceAll
public import Idealize.ShloMosaic.Lib.StableHlo.Predicate
public import proofs.«01_k».proof.Proof.Gen.ReferenceIdeal.Run

/-! The reference's prefix sums, and its reads of them at computed rows. -/

@[expose] public section
set_option maxRecDepth 16384
noncomputable section
namespace Cert.ReferenceIdeal.Value

open Idealize.ShloMosaic Idealize.ShloMosaic.TcCoe Idealize.ShloMosaic.Tactic Cert.ReferenceIdeal Cert.ReferenceIdeal.Gen
open Cert.Proof.Mix

/-- A row read at a computed place. -/
theorem gather_at (x : FVec Ideal S1x8193x512 .f32) (ix : IVec S8192x1 32) (i : Fin 8192) (c : Fin 512) (b : Fin 8193)
    (hb : ix (ix2 i 0) = BitVec.ofNat 32 b.val) :
    Host.gather gather_S1x8193x512_S8192x1_S1x8192x512_02_1_n_n_1_1_11512 x ix (ix3 0 i c) = x (ix3 0 b c) := by
  unfold Host.gather
  refine congrArg x (funext fun a => Fin.ext ?_)
  match a with
  | ⟨0, _⟩ =>
    have h : ((gather_S1x8193x512_S8192x1_S1x8192x512_02_1_n_n_1_1_11512.operandIdx (ix3 0 i c) ix) 0).val < 1 :=
      ((gather_S1x8193x512_S8192x1_S1x8192x512_02_1_n_n_1_1_11512.operandIdx (ix3 0 i c) ix) 0).isLt
    show ((gather_S1x8193x512_S8192x1_S1x8192x512_02_1_n_n_1_1_11512.operandIdx (ix3 0 i c) ix) 0).val = 0
    omega
  | ⟨1, _⟩ =>
    show min ((ix (gather_S1x8193x512_S8192x1_S1x8192x512_02_1_n_n_1_1_11512.siIdx (ix3 0 i c) ⟨0, by decide⟩)).toInt.toNat) 8192 + 0 + 0 = b.val
    have hs : gather_S1x8193x512_S8192x1_S1x8192x512_02_1_n_n_1_1_11512.siIdx (ix3 0 i c) ⟨0, by decide⟩ = ix2 i 0 := by
      funext z; apply Fin.ext
      match z with
      | ⟨0, _⟩ => rfl
      | ⟨1, _⟩ => rfl
    rw [hs, hb, StableHlo.Predicate.toInt_ofNat_small _ (by omega)]
    omega
  | ⟨2, _⟩ => show 0 + 0 + c.val = c.val; omega

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The prefix sums along the rows. -/
def cumul (X : FVec Ideal S1x8192x4x512 .f32) : FVec Ideal S1x8192x4x512 .f32 :=
  Host.reduceWindowAdd ![1, 8192, 1, 1] ![1, 1, 1, 1] ![0, 8191, 0, 0] ![0, 0, 0, 0] X (broadcastInDim S_ ![] bcast_S_S_ (constant S_ .f32 0x00000000#32)) reduceWindows_S1x8192x4x512_S1x8192x4x512_w1s1p0_0_w8192s1p8191_0_w1s1p0_0_w1s1p0_0 h_S_

/-- The window's shape, one axis long. -/
abbrev W : Shape := ⟨4, ![1, 8192, 1, 1]⟩

def alongW : Fin 8192 ≃ W.Idx where
  toFun k := ix4 0 k 0 0
  invFun j := j 1
  left_inv _ := rfl
  right_inv j := by
    funext a; apply Fin.ext
    match a with
    | ⟨0, _⟩ => have : (j 0).val < 1 := (j 0).isLt; show 0 = (j 0).val; omega
    | ⟨1, _⟩ => rfl
    | ⟨2, _⟩ => have : (j 2).val < 1 := (j 2).isLt; show 0 = (j 2).val; omega
    | ⟨3, _⟩ => have : (j 3).val < 1 := (j 3).isLt; show 0 = (j 3).val; omega

theorem cumul_apply (X : FVec Ideal S1x8192x4x512 .f32) (i : Fin 8192) (g : Fin 4) (c : Fin 512) :
    cumul X (ix4 0 i g c) = ∑ k : Fin 8192, (if h : 8191 ≤ i.val + k.val then X (ix4 0 ⟨i.val + k.val - 8191, by omega⟩ g c) else 0 : EReal) := by
  have hz : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  unfold cumul Host.reduceWindowAdd
  rw [hz]
  show Ideal.hostReduceWindowAdd _ _ _ _ _ X 0 (ix4 0 i g c) = _
  unfold Ideal.hostReduceWindowAdd Host.reduceWindow
  refine (foldl_add _ _ _).trans ?_
  rw [zero_add, ← Fin.sum_univ_def]
  refine (Equiv.sum_comp (Shape.rowMajor ⟨S1x8192x4x512.rank, ![1, 8192, 1, 1]⟩) _).symm.trans ?_
  refine (Equiv.sum_comp alongW _).symm.trans ?_
  simp only [Equiv.symm_apply_apply]
  refine Finset.sum_congr rfl fun k _ => ?_
  by_cases h : 8191 ≤ i.val + k.val
  · rw [dif_pos h, dif_pos (fun a => match a with
      | ⟨0, _⟩ => ⟨Nat.zero_le _, by show 0 * 1 + 0 - 0 < 1; omega⟩
      | ⟨1, _⟩ => ⟨by show 8191 ≤ i.val * 1 + k.val; omega, by show i.val * 1 + k.val - 8191 < 8192; omega⟩
      | ⟨2, _⟩ => ⟨Nat.zero_le _, by show g.val * 1 + 0 - 0 < 4; omega⟩
      | ⟨3, _⟩ => ⟨Nat.zero_le _, by show c.val * 1 + 0 - 0 < 512; omega⟩)]
    refine congrArg X (funext fun a => Fin.ext ?_)
    match a with
    | ⟨0, _⟩ => rfl
    | ⟨1, _⟩ => show i.val * 1 + k.val - 8191 = i.val + k.val - 8191; omega
    | ⟨2, _⟩ => show g.val * 1 + 0 - 0 = g.val; omega
    | ⟨3, _⟩ => show c.val * 1 + 0 - 0 = c.val; omega
  · rw [dif_neg h, dif_neg (fun hh => h (by have := (hh 1).1; have h2 : 8191 ≤ i.val * 1 + k.val := this; omega))]

/-- A real sum over a finite set read as one of extended reals. -/
theorem coe_sum_on {ι : Type} (s : Finset ι) (f : ι → ℝ) : ((∑ e ∈ s, f e : ℝ) : EReal) = ∑ e ∈ s, ((f e : ℝ) : EReal) :=
  map_sum (⟨⟨Real.toEReal, rfl⟩, EReal.coe_add⟩ : ℝ →+ EReal) f _

/-- The prefix sums of real rows. -/
theorem cumul_real (X : FVec Ideal S1x8192x4x512 .f32) (g : Fin 4) (c : Fin 512) (f : Fin 8192 → ℝ) (hX : ∀ i, X (ix4 0 i g c) = (f i : EReal)) (i : Fin 8192) :
    cumul X (ix4 0 i g c) = ((∑ j ∈ Finset.range (i.val + 1), seq f j : ℝ) : EReal) := by
  rw [cumul_apply]
  have e : ∀ k : Fin 8192, (if h : 8191 ≤ i.val + k.val then X (ix4 0 ⟨i.val + k.val - 8191, by omega⟩ g c) else 0 : EReal)
      = ((if 8191 ≤ i.val + k.val then seq f (i.val + k.val - 8191) else 0 : ℝ) : EReal) := fun k => by
    by_cases h : 8191 ≤ i.val + k.val
    · rw [dif_pos h, if_pos h, hX]
      unfold seq
      rw [dif_pos (by omega)]
    · rw [dif_neg h, if_neg h]; rfl
  rw [Finset.sum_congr rfl fun k _ => e k, ← coe_sum_on]
  refine congrArg _ ?_
  rw [Fin.sum_univ_eq_sum_range (fun k => if 8191 ≤ i.val + k then seq f (i.val + k - 8191) else 0) 8192, ← Finset.sum_filter]
  refine Finset.sum_nbij' (fun k => i.val + k - 8191) (fun j => j + 8191 - i.val) ?_ ?_ ?_ ?_ ?_
  all_goals intro s hs
  all_goals simp only [Finset.mem_filter, Finset.mem_range] at hs ⊢
  all_goals omega

end Cert.ReferenceIdeal.Value
end
-- ==== Proof.PoolArr.lean ====
module

public import proofs.«01_k».proof.Proof.MixFinal
public import proofs.«01_k».proof.Proof.PoolKer
public import proofs.«01_k».proof.Proof.PoolTake

/-! The pooled columns of the launch's first result, of the program's arguments, when the pool tokens are real. -/

@[expose] public section
set_option maxRecDepth 16384
noncomputable section
namespace Cert.KernelIdeal.Gen

open Idealize.ShloMosaic Idealize.ShloMosaic.TcCoe Idealize.ShloMosaic.Tactic
open Cert.Proof.Mix

variable (m : (ℓ : Loc nD τ sig) → Buf (Elt Ideal) ℓ)

theorem index_5 : ∀ t : Fin cfg0.N, win0_5.index t = ![16 * (grid0.coords t 0).val - 1, 1] := (by decide +kernel : ∀ t : Fin grid0.N, _)
theorem index_6 : ∀ t : Fin cfg0.N, win0_6.index t = ![(grid0.coords t 0).val, 1] := (by decide +kernel : ∀ t : Fin grid0.N, _)
theorem index_7 : ∀ t : Fin cfg0.N, win0_7.index t = ![min (16 * (grid0.coords t 0).val + 16) 511, 1] := (by decide +kernel : ∀ t : Fin grid0.N, _)
theorem index_8 : ∀ t : Fin cfg0.N, win0_8.index t = ![0, 0, 0] := (by decide +kernel : ∀ t : Fin grid0.N, _)
theorem index_9 : ∀ t : Fin cfg0.N, win0_9.index t = ![0, 0] := (by decide +kernel : ∀ t : Fin grid0.N, _)

theorem read_5 (c : Dev nD) (t : Fin cfg0.N) (r : Fin 16) (e : Fin 2048) :
    (X0_5 m c t : Vec Ideal S16x2048 .bf16) (ix2 r e) = V m c main_v9 (ix2 ⟨16 * (16 * (grid0.coords t 0).val - 1) + r.val, by have := pt_lt t; omega⟩ ⟨2048 + e.val, by omega⟩) := by
  unfold X0_5 Pipeline.Window.fill
  rw [dif_pos (moved0_5 t _)]
  blk_simp [iblk]
  exact congrArg (V m c main_v9) (by blk_ext [index_5])

theorem read_6 (c : Dev nD) (t : Fin cfg0.N) (r : Fin 256) (e : Fin 2048) :
    (X0_6 m c t : Vec Ideal S256x2048 .bf16) (ix2 r e) = V m c main_v9 (ix2 ⟨256 * (grid0.coords t 0).val + r.val, by have := pt_lt t; omega⟩ ⟨2048 + e.val, by omega⟩) := by
  unfold X0_6 Pipeline.Window.fill
  rw [dif_pos (moved0_6 t _)]
  blk_simp [iblk]
  exact congrArg (V m c main_v9) (by blk_ext [index_6])

theorem read_7 (c : Dev nD) (t : Fin cfg0.N) (r : Fin 16) (e : Fin 2048) :
    (X0_7 m c t : Vec Ideal S16x2048 .bf16) (ix2 r e) = V m c main_v9 (ix2 ⟨16 * min (16 * (grid0.coords t 0).val + 16) 511 + r.val, by have := pt_lt t; omega⟩ ⟨2048 + e.val, by omega⟩) := by
  unfold X0_7 Pipeline.Window.fill
  rw [dif_pos (moved0_7 t _)]
  blk_simp [iblk]
  exact congrArg (V m c main_v9) (by blk_ext [index_7])

theorem read_8 (c : Dev nD) (t : Fin cfg0.N) (g : Fin 4) (a b : Fin 512) :
    (iblk m c 8 t : Vec Ideal S4x512x512 .bf16) (ix3 g a b) = V m c main_v10 (ix3 g a b) := by
  blk_simp [iblk]
  exact congrArg (V m c main_v10) (by blk_ext [index_8])

theorem read_9 (c : Dev nD) (t : Fin cfg0.N) (e : Fin 2048) :
    (iblk m c 9 t : Vec Ideal S1x2048 .f32) (ix2 0 e) = V m c main_v11 (ix2 0 e) := by
  blk_simp [iblk]
  exact congrArg (V m c main_v11) (by blk_ext [index_9])

theorem pool_apply (c : Dev nD) (i : Fin 8192) (e : Fin 2048) :
    V m c main_v9 (ix2 i ⟨2048 + e.val, by omega⟩) = m ((c : Thread nD τ).loc main_arg3) (ix3 0 i e) := by
  simp only [V, hostOps0]
  after_results_simp
  pointwise
  after_results_simp
  pointwise

theorem weight_apply (c : Dev nD) (g : Fin 4) (a b : Fin 512) :
    V m c main_v10 (ix3 g a b) = m ((c : Thread nD τ).loc main_arg5) (ix3 g a b) := by
  simp only [V, hostOps0]
  after_results_simp
  pointwise

theorem scale_apply (c : Dev nD) (e : Fin 2048) :
    V m c main_v11 (ix2 0 e) = m ((c : Thread nD τ).loc main_arg6) (ix1 e) := by
  simp only [V, hostOps0]
  after_results_simp
  pointwise

/-- The centred mean of a window, as the kernel makes it of real rows. -/
theorem centred (x : ℕ → ℝ) (gi : Fin 4) (n : Fin 32) (r : Fin 256) :
    (∑ s : Fin 288, (((if inBand gi r.val s.val then 1 else 0 : ℝ)) : EReal) * ((extAt x n.val s.val : ℝ) : EReal))
        * Ideal.div 1 (((BitVec.ofNat 32 (hi gi (256 * n.val + r.val) - lo gi (256 * n.val + r.val))).toInt : ℝ) : EReal)
      - ((x (256 * n.val + r.val) : ℝ) : EReal) = ((pooledAt x gi (256 * n.val + r.val) : ℝ) : EReal) := by
  have hl := lo_lt_hi gi (256 * n.val + r.val) (by omega)
  have hh : hi gi (256 * n.val + r.val) ≤ 8192 := by unfold hi; omega
  rw [StableHlo.Predicate.toInt_ofNat_small _ (by omega)]
  have hs : (∑ s : Fin 288, (((if inBand gi r.val s.val then 1 else 0 : ℝ)) : EReal) * ((extAt x n.val s.val : ℝ) : EReal))
      = ((∑ s : Fin 288, (if inBand gi r.val s.val then 1 else 0) * extAt x n.val s.val : ℝ) : EReal) := by
    rw [Cert.ReferenceIdeal.Value.coe_sum_on]
    exact Finset.sum_congr rfl fun s _ => (EReal.coe_mul _ _).symm
  rw [hs, band_sum]
  have hc : (((hi gi (256 * n.val + r.val) - lo gi (256 * n.val + r.val) : ℕ) : ℤ) : ℝ) ≠ 0 := by
    have : (hi gi (256 * n.val + r.val) - lo gi (256 * n.val + r.val) : ℕ) ≠ 0 := by omega
    exact_mod_cast this
  rw [Ideal.div_coe hc, one_mul, ← EReal.coe_mul, ← EReal.coe_sub]
  unfold pooledAt
  simp only [Int.cast_natCast, div_eq_mul_inv, one_mul]

section
variable (f : Fin 8192 → Fin 2048 → ℝ)

theorem haloRow_real (c : Dev nD) (hf : ∀ i j, m ((c : Thread nD τ).loc main_arg3) (ix3 0 i j) = (f i j : EReal)) (t : Fin cfg0.N) (s : Fin 288) (e : Fin 2048) :
    haloRow (grid0.coords t 0).val (X0_5 m c t) (X0_6 m c t) (X0_7 m c t) s e
      = ((extAt (seq fun r => f r e) (grid0.coords t 0).val s.val : ℝ) : EReal) := by
  have ht := pt_lt t
  have key : ∀ (a : ℕ) (ha : a < 8192), 16 ≤ 256 * (grid0.coords t 0).val + s.val → a = 256 * (grid0.coords t 0).val + s.val - 16 →
      V m c main_v9 (ix2 ⟨a, ha⟩ ⟨2048 + e.val, by omega⟩) = ((extAt (seq fun r => f r e) (grid0.coords t 0).val s.val : ℝ) : EReal) := fun a ha h h' => by
    rw [pool_apply, hf]
    unfold extAt seq
    rw [if_pos (by omega), ← h', dif_pos ha]
  unfold haloRow
  by_cases h : s.val < 16
  · rw [dif_pos h]
    by_cases hn : (grid0.coords t 0).val = 0
    · rw [if_pos hn]
      unfold extAt
      rw [if_neg (by omega)]
      exact EReal.coe_zero.symm
    · rw [if_neg hn]
      exact (read_5 m c t _ _).trans (key _ _ (by omega) (by dsimp only; omega))
  · rw [dif_neg h]
    by_cases h' : s.val < 272
    · rw [dif_pos h']
      exact (read_6 m c t _ _).trans (key _ _ (by omega) (by dsimp only; omega))
    · rw [dif_neg h']
      by_cases hn : (grid0.coords t 0).val = 31
      · rw [if_pos hn]
        unfold extAt
        rw [if_neg (by omega)]
        exact EReal.coe_zero.symm
      · rw [if_neg hn]
        exact (read_7 m c t _ _).trans (key _ _ (by omega) (by dsimp only; omega))

/-- A pooled column, of the arguments. -/
def arrPool (f : Fin 8192 → Fin 2048 → ℝ) (w : Vec Ideal S4x512x512 .f32) (sc : Vec Ideal S2048 .f32) (n : Fin 32) (r : Fin 256) (gi : Fin 4) (d : Fin 512) : EReal :=
  (∑ c : Fin 512, ((pooledAt (seq fun r => f r ⟨512 * gi.val + c.val, by omega⟩) gi (256 * n.val + r.val) : ℝ) : EReal) * w (ix3 gi c d))
    * sc (ix1 ⟨512 * gi.val + d.val, by omega⟩)

/-- An element of a pooled column of the block that a point leaves. -/
theorem mixBlk_pool (c : Dev nD) (hf : ∀ i j, m ((c : Thread nD τ).loc main_arg3) (ix3 0 i j) = (f i j : EReal)) (t : Fin cfg0.N) (r : Fin 256) (gi : Fin 4) (d : Fin 512)
    (y : S256x4096.Idx) (h0 : (y 0).val = r.val) (h1 : (y 1).val = 2048 + 512 * gi.val + d.val) :
    mixBlk m c t y = arrPool f (m ((c : Thread nD τ).loc main_arg5)) (m ((c : Thread nD τ).loc main_arg6)) (grid0.coords t 0) r gi d := by
  rw [mixBlk_eq, blockOf_pool _ _ _ _ _ _ _ _ _ _ _ _ _ gi r d y h0 h1, pooled_apply]
  unfold arrPool
  refine congrArg₂ (· * ·) (Finset.sum_congr rfl fun e _ => congrArg₂ (· * ·) ?_ ((read_8 m c t _ _ _).trans (weight_apply m c _ _ _)))
    ((read_9 m c t _).trans (scale_apply m c _))
  refine Eq.trans ?_ (centred _ gi (grid0.coords t 0) r)
  refine congrArg₂ (· - ·) (congrArg (· * _) (Finset.sum_congr rfl fun s _ => congrArg (_ * ·) (haloRow_real m f c hf t s _))) ?_
  refine (read_6 m c t _ _).trans ((pool_apply m c _ _).trans ((hf _ _).trans ?_))
  have ht := pt_lt t
  unfold seq
  rw [dif_pos (by omega)]

/-- A pooled column at the end. -/
theorem mixArr_pool (c : Dev nD) (hf : ∀ i j, m ((c : Thread nD τ).loc main_arg3) (ix3 0 i j) = (f i j : EReal)) (n : Fin 32) (r : Fin 256) (gi : Fin 4) (d : Fin 512) :
    mixArr m c (ix2 ⟨256 * n.val + r.val, by omega⟩ ⟨2048 + 512 * gi.val + d.val, by omega⟩)
      = arrPool f (m ((c : Thread nD τ).loc main_arg5)) (m ((c : Thread nD τ).loc main_arg6)) n r gi d := by
  have e : ∀ h, grid0.coords (ptOf ((256 * n.val + r.val) / 256) h) 0 = n := fun h => Fin.ext (by
    rw [coords_ptOf]
    omega)
  refine (mixBlk_pool m f c hf _ r gi d _ ?_ rfl).trans (congrArg (fun z => arrPool f (m ((c : Thread nD τ).loc main_arg5)) (m ((c : Thread nD τ).loc main_arg6)) z r gi d) (e _))
  show (256 * n.val + r.val) % 256 = _
  omega
end

end Cert.KernelIdeal.Gen
end
-- ==== Proof.PoolRef.lean ====
module

public import proofs.«01_k».proof.Proof.PoolTake
public import proofs.«01_k».proof.Proof.PoolWord

/-! The reference's pooled columns, read at an element. -/

@[expose] public section
set_option maxRecDepth 16384
noncomputable section
namespace Cert.ReferenceIdeal.Value

open Idealize.ShloMosaic Idealize.ShloMosaic.TcCoe Idealize.ShloMosaic.Tactic Cert.ReferenceIdeal Cert.ReferenceIdeal.Gen
open Cert.Proof.Mix

/-- The prefix sums with the empty one before them. -/
def sums (X : FVec Ideal S1x8192x4x512 .f32) : FVec Ideal S1x8193x4x512 .f32 :=
  concatenate S1x8193x4x512 1 [⟨S1x1x4x512, (broadcastInDim S1x1x4x512 ![] bcast_S_S1x1x4x512 (constant S_ .f32 0x00000000#32))⟩, ⟨S1x8192x4x512, cumul X⟩] concatenates_S1x1x4x512_S1x8192x4x512_S1x8193x4x512_d1

theorem sums_real (X : FVec Ideal S1x8192x4x512 .f32) (g : Fin 4) (c : Fin 512) (f : Fin 8192 → ℝ) (hX : ∀ i, X (ix4 0 i g c) = (f i : EReal)) (t : Fin 8193) :
    sums X (ix4 0 t g c) = ((∑ j ∈ Finset.range t.val, seq f j : ℝ) : EReal) := by
  unfold sums
  by_cases h : t.val < 1
  · have h0 : t.val = 0 := by omega
    rw [h0, Finset.sum_range_zero]
    pointwise
    rw [dif_pos (by show t.val < 1; exact h)]
    exact EReal.coe_zero.symm
  · have hc := cumul_real X g c f hX ⟨t.val - 1, by omega⟩
    rw [show (⟨t.val - 1, by omega⟩ : Fin 8192).val + 1 = t.val by simp only []; omega] at hc
    rw [← hc]
    generalize cumul X = Y
    pointwise
    rw [dif_neg (by show ¬ t.val < 1; exact h)]

/-- The prefix sums of one group, and the group's own rows. -/
def sumsOf (gi : Fin 4) (X : FVec Ideal S1x8192x4x512 .f32) : FVec Ideal S1x8193x512 .f32 :=
  match gi with
  | 0 => shapeCast S1x8193x512 (extractStridedSlice S1x8193x1x512 ![0, 0, 0, 0] (sums X) slices_S1x8193x4x512_S1x8193x1x512_0_0_0_0) shapeCasts_S1x8193x1x512_S1x8193x512
  | 1 => shapeCast S1x8193x512 (extractStridedSlice S1x8193x1x512 ![0, 0, 1, 0] (sums X) slices_S1x8193x4x512_S1x8193x1x512_0_0_1_0) shapeCasts_S1x8193x1x512_S1x8193x512
  | 2 => shapeCast S1x8193x512 (extractStridedSlice S1x8193x1x512 ![0, 0, 2, 0] (sums X) slices_S1x8193x4x512_S1x8193x1x512_0_0_2_0) shapeCasts_S1x8193x1x512_S1x8193x512
  | 3 => shapeCast S1x8193x512 (extractStridedSlice S1x8193x1x512 ![0, 0, 3, 0] (sums X) slices_S1x8193x4x512_S1x8193x1x512_0_0_3_0) shapeCasts_S1x8193x1x512_S1x8193x512
@[inherit_doc sumsOf]
def rowsOf (gi : Fin 4) (X : FVec Ideal S1x8192x4x512 .f32) : FVec Ideal S1x8192x512 .f32 :=
  match gi with
  | 0 => shapeCast S1x8192x512 (extractStridedSlice S1x8192x1x512 ![0, 0, 0, 0] X slices_S1x8192x4x512_S1x8192x1x512_0_0_0_0) shapeCasts_S1x8192x1x512_S1x8192x512
  | 1 => shapeCast S1x8192x512 (extractStridedSlice S1x8192x1x512 ![0, 0, 1, 0] X slices_S1x8192x4x512_S1x8192x1x512_0_0_1_0) shapeCasts_S1x8192x1x512_S1x8192x512
  | 2 => shapeCast S1x8192x512 (extractStridedSlice S1x8192x1x512 ![0, 0, 2, 0] X slices_S1x8192x4x512_S1x8192x1x512_0_0_2_0) shapeCasts_S1x8192x1x512_S1x8192x512
  | 3 => shapeCast S1x8192x512 (extractStridedSlice S1x8192x1x512 ![0, 0, 3, 0] X slices_S1x8192x4x512_S1x8192x1x512_0_0_3_0) shapeCasts_S1x8192x1x512_S1x8192x512

theorem sumsOf_apply (gi : Fin 4) (X : FVec Ideal S1x8192x4x512 .f32) (t : Fin 8193) (c : Fin 512) : sumsOf gi X (ix3 0 t c) = sums X (ix4 0 t gi c) := by
  match gi with
  | 0 => unfold sumsOf; generalize sums X = Y; pointwise
  | 1 => unfold sumsOf; generalize sums X = Y; pointwise
  | 2 => unfold sumsOf; generalize sums X = Y; pointwise
  | 3 => unfold sumsOf; generalize sums X = Y; pointwise

theorem rowsOf_apply (gi : Fin 4) (X : FVec Ideal S1x8192x4x512 .f32) (t : Fin 8192) (c : Fin 512) : rowsOf gi X (ix3 0 t c) = X (ix4 0 t gi c) := by
  match gi with
  | 0 => unfold rowsOf; pointwise
  | 1 => unfold rowsOf; pointwise
  | 2 => unfold rowsOf; pointwise
  | 3 => unfold rowsOf; pointwise

/-- The windows' first rows, and the rows after their last. -/
def loW (gi : Fin 4) : IVec S8192 32 :=
  minsi (broadcastInDim S8192 ![] bcast_S_S8192 (id (constantI S_ 32 8192#32))) (maxsi (broadcastInDim S8192 ![] bcast_S_S8192 (id (constantI S_ 32 0#32))) (subi (iotaInDim S8192 32 0) (broadcastInDim S8192 ![] bcast_S_S8192 (constantI S_ 32 (backW gi)))))
@[inherit_doc loW]
def hiW (gi : Fin 4) : IVec S8192 32 :=
  minsi (broadcastInDim S8192 ![] bcast_S_S8192 (id (constantI S_ 32 8192#32))) (maxsi (broadcastInDim S8192 ![] bcast_S_S8192 (id (constantI S_ 32 0#32))) (addi (addi (iotaInDim S8192 32 0) (broadcastInDim S8192 ![] bcast_S_S8192 (constantI S_ 32 (aheadW gi)))) (broadcastInDim S8192 ![] bcast_S_S8192 (constantI S_ 32 1#32))))

theorem loW_apply (gi : Fin 4) (i : Fin 8192) : loW gi (ix1 i) = BitVec.ofNat 32 (lo gi i.val) := by
  have h := lo_word gi ⟨i.val / 64, by omega⟩ ⟨i.val % 64, by omega⟩
  simp only [show 64 * (i.val / 64) + i.val % 64 = i.val by omega] at h
  exact h

theorem hiW_apply (gi : Fin 4) (i : Fin 8192) : hiW gi (ix1 i) = BitVec.ofNat 32 (hi gi i.val) := by
  have h := hi_word gi ⟨i.val / 64, by omega⟩ ⟨i.val % 64, by omega⟩
  simp only [show 64 * (i.val / 64) + i.val % 64 = i.val by omega] at h
  exact h

/-- Places as a column, counted from the end where negative. -/
def column (w : IVec S8192 32) : IVec S8192x1 32 :=
  broadcastInDim S8192x1 ![0] bcast_S8192_S8192x1_0 (select (cmpi .slt w (broadcastInDim S8192 ![] bcast_S_S8192 (constantI S_ 32 0#32))) (addi w (broadcastInDim S8192 ![] bcast_S_S8192 (constantI S_ 32 8193#32))) w)

/-- Rows read at places, where the places are rows'. -/
def rowsAt (seg : FVec Ideal S1x8193x512 .f32) (w : IVec S8192 32) : FVec Ideal S1x8192x512 .f32 :=
  select (broadcastInDim S1x8192x512 ![1] bcast_S8192_S1x8192x512_1 (Host.reduce IntOp.andi (andi (cmpi .sge (column w) (broadcastInDim S8192x1 ![] bcast_S_S8192x1 (constantI S_ 32 0#32))) (cmpi .sle (column w) (broadcastInDim S8192x1 ![0, 1] bcast_S1x1_S8192x1_0_1 (broadcastInDim S1x1 ![1] bcast_S1_S1x1_1 (constantI S1 32 8192#32))))) (constantI S_ 1 1#1) reducesTo_S8192x1_S8192_d1 h_S_)) (Host.gather gather_S1x8193x512_S8192x1_S1x8192x512_02_1_n_n_1_1_11512 seg (column w)) (broadcastInDim S1x8192x512 ![] bcast_S_S1x8192x512 (constant S_ .f32 0x7FC00000#32))

theorem word_in (b : ℕ) (h : b < 8193) : IntOp.cmpi .slt (BitVec.ofNat 32 b) 0#32 = 0#1 ∧ IntOp.andi (IntOp.cmpi .sge (BitVec.ofNat 32 b) 0#32) (IntOp.cmpi .sle (BitVec.ofNat 32 b) 8192#32) = 1#1 := by
  have e : (BitVec.ofNat 32 b).toInt = b := StableHlo.Predicate.toInt_ofNat_small _ (by omega)
  have z : (0#32 : BitVec 32).toInt = 0 := rfl
  have t : (8192#32 : BitVec 32).toInt = 8192 := rfl
  unfold IntOp.cmpi
  simp only [BitVec.slt_eq_decide, BitVec.sle_eq_decide, e, z, t]
  refine ⟨?_, ?_⟩
  · rw [decide_eq_false (by omega)]; rfl
  · rw [decide_eq_true (by omega), decide_eq_true (by omega)]; rfl

theorem column_apply (w : IVec S8192 32) (b : Fin 8192 → Fin 8193) (hw : ∀ i, w (ix1 i) = BitVec.ofNat 32 (b i).val) (i : Fin 8192) (z : Fin 1) :
    column w (ix2 i z) = BitVec.ofNat 32 (b i).val := by
  unfold column
  pointwise
  rw [hw]
  have h := (word_in (b i).val (b i).isLt).1
  rw [h]
  rfl

theorem rowsAt_apply (seg : FVec Ideal S1x8193x512 .f32) (w : IVec S8192 32) (b : Fin 8192 → Fin 8193) (hw : ∀ i, w (ix1 i) = BitVec.ofNat 32 (b i).val)
    (i : Fin 8192) (c : Fin 512) : rowsAt seg w (ix3 0 i c) = seg (ix3 0 (b i) c) := by
  have hm : ∀ j : S8192x1.Idx, (andi (cmpi .sge (column w) (broadcastInDim S8192x1 ![] bcast_S_S8192x1 (constantI S_ 32 0#32))) (cmpi .sle (column w) (broadcastInDim S8192x1 ![0, 1] bcast_S1x1_S8192x1_0_1 (broadcastInDim S1x1 ![1] bcast_S1_S1x1_1 (constantI S1 32 8192#32))))) j = 1#1 := fun j => by
    show IntOp.andi (IntOp.cmpi .sge (column w j) 0#32) (IntOp.cmpi .sle (column w j) 8192#32) = 1#1
    have hj : column w j = BitVec.ofNat 32 (b (j 0)).val := (congrArg (column w) (eq_ix2 (n0 := 8192) (n1 := 1) j)).trans (column_apply w b hw (j 0) (j 1))
    rw [hj]
    exact (word_in _ (b _).isLt).2
  unfold rowsAt
  show Scalar.select (Host.reduce IntOp.andi _ _ reducesTo_S8192x1_S8192_d1 h_S_ _) _ _ = _
  rw [Host.reduce_andi_one _ _ _ _ _ rfl hm]
  exact gather_at seg (column w) i c (b i) (column_apply w b hw i 0)

/-- The windows' means less the rows, of one group. -/
def meansOf (gi : Fin 4) (X : FVec Ideal S1x8192x4x512 .f32) : FVec Ideal S1x8192x512 .f32 :=
  subf (Host.divf (subf (rowsAt (sumsOf gi X) (hiW gi)) (rowsAt (sumsOf gi X) (loW gi))) (broadcastInDim S1x8192x512 ![0, 1, 2] bcast_S1x8192x1_S1x8192x512_0_1_2 (broadcastInDim S1x8192x1 ![1] bcast_S8192_S1x8192x1_1 (sitofp .f32 (subi (hiW gi) (loW gi)))))) (rowsOf gi X)

theorem count_word (gi : Fin 4) (i : Fin 8192) :
    FloatOps.sitofp (F := Ideal) .f32 (IntOp.subi (BitVec.ofNat 32 (hi gi i.val)) (BitVec.ofNat 32 (lo gi i.val))) = (((hi gi i.val - lo gi i.val : ℕ) : ℝ) : EReal) := by
  have h := lo_lt_hi gi i.val i.isLt
  have h2 : hi gi i.val ≤ 8192 := min_le_right _ _
  have e : IntOp.subi (BitVec.ofNat 32 (hi gi i.val)) (BitVec.ofNat 32 (lo gi i.val)) = BitVec.ofNat 32 (hi gi i.val - lo gi i.val) := by
    show BitVec.ofNat 32 (hi gi i.val) - BitVec.ofNat 32 (lo gi i.val) = _
    apply BitVec.eq_of_toNat_eq
    simp only [BitVec.toNat_sub, BitVec.toNat_ofNat]
    omega
  rw [e]
  show (((BitVec.ofNat 32 (hi gi i.val - lo gi i.val)).toInt : ℝ) : EReal) = _
  rw [StableHlo.Predicate.toInt_ofNat_small _ (by omega)]
  simp

theorem meansOf_apply (gi : Fin 4) (X : FVec Ideal S1x8192x4x512 .f32) (c : Fin 512) (f : Fin 8192 → ℝ) (hX : ∀ i, X (ix4 0 i gi c) = (f i : EReal)) (i : Fin 8192) :
    meansOf gi X (ix3 0 i c) = (pooledAt (seq f) gi i.val : EReal) := by
  have hlt := lo_lt_hi gi i.val i.isLt
  have e1 := rowsAt_apply (sumsOf gi X) (hiW gi) (fun i => ⟨hi gi i.val, Nat.lt_succ_of_le (min_le_right _ _)⟩) (hiW_apply gi) i c
  have e2 := rowsAt_apply (sumsOf gi X) (loW gi) (fun i => ⟨lo gi i.val, by unfold lo; omega⟩) (loW_apply gi) i c
  rw [sumsOf_apply, sums_real X gi c f hX] at e1 e2
  have e3 : (sitofp .f32 (subi (hiW gi) (loW gi)) : FVec Ideal S8192 .f32) (ix1 i) = (((hi gi i.val - lo gi i.val : ℕ) : ℝ) : EReal) := by
    rw [← count_word gi i, ← hiW_apply, ← loW_apply]; rfl
  have e4 : rowsOf gi X (ix3 0 i c) = (f i : EReal) := (rowsOf_apply gi X i c).trans (hX i)
  unfold meansOf
  generalize rowsAt (sumsOf gi X) (hiW gi) = A at *
  generalize rowsAt (sumsOf gi X) (loW gi) = B at *
  generalize rowsOf gi X = C at *
  generalize (sitofp .f32 (subi (hiW gi) (loW gi)) : FVec Ideal S8192 .f32) = D at *
  show Ideal.div (A (ix3 0 i c) - B (ix3 0 i c)) _ - C (ix3 0 i c) = _
  have e5 : (broadcastInDim S1x8192x512 ![0, 1, 2] bcast_S1x8192x1_S1x8192x512_0_1_2 (broadcastInDim S1x8192x1 ![1] bcast_S8192_S1x8192x1_1 D)) (ix3 0 i c) = D (ix1 i) := by pointwise
  rw [e5, e1, e2, e3, e4, ← EReal.coe_sub, Ideal.div_coe (by
    have : 0 < hi gi i.val - lo gi i.val := by omega
    exact_mod_cast this.ne'), ← EReal.coe_mul, ← EReal.coe_sub]
  refine congrArg _ ?_
  unfold pooledAt
  rw [← prefix_diff (seq f) gi i.val i.isLt, show seq f i.val = f i from dif_pos i.isLt]
  simp only [div_eq_mul_inv, one_mul]

/-- All four groups, side by side. -/
def means (X : FVec Ideal S1x8192x4x512 .f32) : FVec Ideal S1x8192x4x512 .f32 :=
  concatenate S1x8192x4x512 2 [⟨S1x8192x1x512, broadcastInDim S1x8192x1x512 ![0, 1, 3] bcast_S1x8192x512_S1x8192x1x512_0_1_3 (meansOf 0 X)⟩, ⟨S1x8192x1x512, broadcastInDim S1x8192x1x512 ![0, 1, 3] bcast_S1x8192x512_S1x8192x1x512_0_1_3 (meansOf 1 X)⟩, ⟨S1x8192x1x512, broadcastInDim S1x8192x1x512 ![0, 1, 3] bcast_S1x8192x512_S1x8192x1x512_0_1_3 (meansOf 2 X)⟩, ⟨S1x8192x1x512, broadcastInDim S1x8192x1x512 ![0, 1, 3] bcast_S1x8192x512_S1x8192x1x512_0_1_3 (meansOf 3 X)⟩] concatenates_S1x8192x1x512_S1x8192x1x512_S1x8192x1x512_S1x8192x1x512_S1x8192x4x512_d2

theorem means_apply (X : FVec Ideal S1x8192x4x512 .f32) (i : Fin 8192) (gi : Fin 4) (c : Fin 512) : means X (ix4 0 i gi c) = meansOf gi X (ix3 0 i c) := by
  unfold means
  generalize hA : (fun gi => meansOf gi X) = A
  have h : ∀ gi, meansOf gi X = A gi := fun gi => by rw [← hA]
  simp only [h]
  match gi with
  | 0 => pointwise
  | 1 => pointwise
  | 2 => pointwise
  | 3 => pointwise

/-- The pooled columns. -/
def poolCols (X : FVec Ideal S1x8192x2048 .f32) (w : FVec Ideal S4x512x512 .f32) (s : FVec Ideal S2048 .f32) : FVec Ideal S1x8192x2048 .f32 :=
  mulf (shapeCast S1x8192x2048 (transpose S1x8192x4x512 [2, 3, 0, 1] (Host.dotGeneral dot_S4x512x512_S1x8192x4x512_S4x512x1x8192_1_3_2_01_0_2 none w (means (shapeCast S1x8192x4x512 X shapeCasts_S1x8192x2048_S1x8192x4x512))) transposes_S4x512x1x8192_S1x8192x4x512_2_3_0_1) shapeCasts_S1x8192x4x512_S1x8192x2048)
    (broadcastInDim S1x8192x2048 ![0, 1, 2] bcast_S1x1x2048_S1x8192x2048_0_1_2 (broadcastInDim S1x1x2048 ![2] bcast_S2048_S1x1x2048_2 s))

theorem poolCols_apply (X : FVec Ideal S1x8192x2048 .f32) (w : FVec Ideal S4x512x512 .f32) (s : FVec Ideal S2048 .f32) (f : Fin 8192 → Fin 2048 → ℝ)
    (hX : ∀ i j, X (ix3 0 i j) = (f i j : EReal)) (i : Fin 8192) (gi : Fin 4) (d : Fin 512) :
    poolCols X w s (ix3 0 i ⟨512 * gi.val + d.val, by omega⟩)
      = (∑ c : Fin 512, (w (ix3 gi c d) : EReal) * (pooledAt (seq fun r => f r ⟨512 * gi.val + c.val, by omega⟩) gi i.val : EReal)) * s (ix1 ⟨512 * gi.val + d.val, by omega⟩) := by
  have hM : ∀ c : Fin 512, means (shapeCast S1x8192x4x512 X shapeCasts_S1x8192x2048_S1x8192x4x512) (ix4 0 i gi c)
      = (pooledAt (seq fun r => f r ⟨512 * gi.val + c.val, by omega⟩) gi i.val : EReal) := fun c => by
    rw [means_apply]
    refine meansOf_apply gi _ c _ (fun r => ?_) i
    pointwise
    rw [← hX]
    exact congrArg (fun z => X (ix3 0 r z)) (Fin.ext (by show gi.val * 512 + c.val = 512 * gi.val + c.val; omega))
  unfold poolCols
  generalize means (shapeCast S1x8192x4x512 X shapeCasts_S1x8192x2048_S1x8192x4x512) = M at *
  pointwise
  refine congrArg (· * _) (Finset.sum_congr rfl fun c _ => ?_)
  rw [hM]

end Cert.ReferenceIdeal.Value
end
-- ==== Proof.MixValue.lean ====
module

public import proofs.«01_k».proof.Proof.MixJoin
public import proofs.«01_k».proof.Proof.MixPre
public import proofs.«01_k».proof.Proof.PoolArr
public import proofs.«01_k».proof.Proof.PoolRef
public import proofs.«01_k».proof.Defs

/-! The mixers: both programs end with equal mixed rows, attention and pooled columns alike, and with equal cast weights. -/

@[expose] public section
set_option maxRecDepth 16384
noncomputable section
namespace Cert.Proof.Mix

open Idealize.ShloMosaic Idealize.ShloMosaic.TcCoe Idealize.ShloMosaic.Tactic
open Cert.ReferenceIdeal Cert.ReferenceIdeal.Gen in
/-- A column below 2048 of the reference's result is one of its first part's. -/
theorem result_apply (X Y : FVec Ideal S1x8192x2048 .f32) (i : Fin 8192) (j : ℕ) (hj : j < 2048) :
    (truncf .bf16 (shapeCast S8192x4096 (concatenate S1x8192x4096 2 [⟨S1x8192x2048, X⟩, ⟨S1x8192x2048, Y⟩]
      concatenates_S1x8192x2048_S1x8192x2048_S1x8192x4096_d2) shapeCasts_S1x8192x4096_S8192x4096) bitsLt_bf16_f32 : FVec Ideal S8192x4096 .bf16)
      (ix2 i ⟨j, by omega⟩) = X (ix3 0 i ⟨j, hj⟩) := by
  pointwise
  rw [dif_pos (by show j < 2048; exact hj)]

open Cert.ReferenceIdeal Cert.ReferenceIdeal.Gen in
/-- A column from 2048 on of the reference's result is one of its second part's. -/
theorem result_apply_right (X Y : FVec Ideal S1x8192x2048 .f32) (i : Fin 8192) (j : ℕ) (hj : 2048 + j < 4096) :
    (truncf .bf16 (shapeCast S8192x4096 (concatenate S1x8192x4096 2 [⟨S1x8192x2048, X⟩, ⟨S1x8192x2048, Y⟩]
      concatenates_S1x8192x2048_S1x8192x2048_S1x8192x4096_d2) shapeCasts_S1x8192x4096_S8192x4096) bitsLt_bf16_f32 : FVec Ideal S8192x4096 .bf16)
      (ix2 i ⟨2048 + j, hj⟩) = Y (ix3 0 i ⟨j, by omega⟩) := by
  pointwise

/-- A place of the pooled columns, by block, row, group and column. -/
def poolPlace (n : Fin 32) (r : Fin 256) (gi : Fin 4) (d : Fin 512) : Cert.KernelIdeal.S8192x4096.Idx :=
  ix2 ⟨256 * n.val + r.val, by omega⟩ ⟨2048 + (512 * gi.val + d.val), by omega⟩

/-- An index of a pooled column, by block, row, group and column. -/
theorem split_pool (i : Cert.KernelIdeal.S8192x4096.Idx) (h : ¬ (i 1).val < 2048) :
    ∃ (n : Fin 32) (r : Fin 256) (gi : Fin 4) (d : Fin 512), i = poolPlace n r gi d := by
  have h0 : (i 0).val < 8192 := (i 0).isLt
  have h1 : (i 1).val < 4096 := (i 1).isLt
  refine ⟨⟨(i 0).val / 256, by omega⟩, ⟨(i 0).val % 256, by omega⟩, ⟨((i 1).val - 2048) / 512, by omega⟩, ⟨(i 1).val % 512, by omega⟩, ?_⟩
  funext a; apply Fin.ext
  match a with
  | ⟨0, _⟩ => show (i 0).val = 256 * ((i 0).val / 256) + (i 0).val % 256; omega
  | ⟨1, _⟩ => show (i 1).val = 2048 + (512 * (((i 1).val - 2048) / 512) + (i 1).val % 512); omega

/-- A place of the result, by block, half, head and place. -/
def place (n : Fin 32) (qb : Fin 2) (kh g : Fin 4) (q d : Fin 128) : Cert.KernelIdeal.S8192x4096.Idx :=
  ix2 ⟨256 * n.val + (128 * qb.val + q.val), by omega⟩ ⟨128 * (4 * kh.val + g.val) + d.val, by omega⟩

/-- An index of an attention column, by block, half, head and place. -/
theorem split_index (i : Cert.KernelIdeal.S8192x4096.Idx) (h : (i 1).val < 2048) :
    ∃ (n : Fin 32) (qb : Fin 2) (kh g : Fin 4) (q d : Fin 128),
      i = place n qb kh g q d := by
  have h0 : (i 0).val < 8192 := (i 0).isLt
  refine ⟨⟨(i 0).val / 256, by omega⟩, ⟨(i 0).val / 128 % 2, by omega⟩, ⟨(i 1).val / 512, by omega⟩, ⟨(i 1).val / 128 % 4, by omega⟩,
    ⟨(i 0).val % 128, by omega⟩, ⟨(i 1).val % 128, by omega⟩, ?_⟩
  funext a; apply Fin.ext
  match a with
  | ⟨0, _⟩ => show (i 0).val = 256 * ((i 0).val / 256) + (128 * ((i 0).val / 128 % 2) + (i 0).val % 128); omega
  | ⟨1, _⟩ => show (i 1).val = 128 * (4 * ((i 1).val / 512) + (i 1).val / 128 % 4) + (i 1).val % 128; omega

section
open Cert.KernelIdeal Cert.KernelIdeal.Gen
variable (m : (ℓ : Loc nD τ sig) → Buf (Elt Ideal) ℓ)

/-- The kernel's attention columns are the reference's. -/
theorem attn_cols (hf : Cert.Pre_KernelIdeal_finite m) (c : Dev nD) (n : Fin 32) (qb : Fin 2) (kh g : Fin 4) (q d : Fin 128) :
    mixArr m c (place n qb kh g q d)
      = Cert.ReferenceIdeal.Value.refAttn (m ((c : Thread nD τ).loc main_arg0)) (m ((c : Thread nD τ).loc main_arg1))
          (m ((c : Thread nD τ).loc main_arg2)) (m ((c : Thread nD τ).loc main_arg4))
          (ix3 0 ⟨256 * n.val + (128 * qb.val + q.val), by omega⟩ ⟨128 * (4 * kh.val + g.val) + d.val, by omega⟩) := by
  obtain ⟨⟨qr, hq⟩, ⟨kr, hk⟩, _⟩ := Cert.Pre_finite.real_of_fn _ _ _ _ _ _ _ _ (hf c)
  unfold place
  rw [mixArr_attn, V_main_arg4]
  have hi : (⟨256 * n.val + (128 * qb.val + q.val), by omega⟩ : Fin 8192) = ⟨128 * (2 * n.val + qb.val) + q.val, by omega⟩ := Fin.ext (by simp only []; omega)
  rw [hi]
  exact attn_eq (V m c main_v9) (m ((c : Thread nD τ).loc main_arg4)) (m ((c : Thread nD τ).loc main_arg0)) (m ((c : Thread nD τ).loc main_arg1))
    (m ((c : Thread nD τ).loc main_arg2)) qr kr hq hk
    ⟨fun i h e => query_apply m c i h e, fun i h e => key_apply m c i h e, fun i h e => value_apply m c i h e⟩ n qb kh g q d

/-- The kernel's pooled columns are the reference's. -/
theorem pool_cols (hf : Cert.Pre_KernelIdeal_finite m) (c : Dev nD) (n : Fin 32) (r : Fin 256) (gi : Fin 4) (d : Fin 512) :
    mixArr m c (poolPlace n r gi d)
      = Cert.ReferenceIdeal.Value.poolCols (m ((c : Thread nD τ).loc main_arg3)) (m ((c : Thread nD τ).loc main_arg5)) (m ((c : Thread nD τ).loc main_arg6))
          (ix3 0 ⟨256 * n.val + r.val, by omega⟩ ⟨512 * gi.val + d.val, by omega⟩) := by
  obtain ⟨_, _, ⟨p, hp⟩⟩ := Cert.Pre_finite.real_of_fn _ _ _ _ _ _ _ _ (hf c)
  have hX : ∀ (i : Fin 8192) (j : Fin 2048), m ((c : Thread nD τ).loc main_arg3) (ix3 0 i j) = ((p (ix3 0 i j) : ℝ) : EReal) := fun i j => hp _
  refine Eq.trans ?_ (Cert.ReferenceIdeal.Value.poolCols_apply _ _ _ (fun i j => p (ix3 0 i j)) hX ⟨256 * n.val + r.val, by omega⟩ gi d).symm
  have hi : poolPlace n r gi d = ix2 ⟨256 * n.val + r.val, by omega⟩ ⟨2048 + 512 * gi.val + d.val, by omega⟩ :=
    congrArg (ix2 _) (Fin.ext (by show 2048 + (512 * gi.val + d.val) = 2048 + 512 * gi.val + d.val; omega))
  rw [hi, mixArr_pool m (fun i j => p (ix3 0 i j)) c hX n r gi d]
  unfold arrPool
  exact congrArg (· * _) (Finset.sum_congr rfl fun e _ => mul_comm _ _)
end

open Idealize.SL.Sem in
/-- Both programs end, with equal mixed rows and equal cast weights. -/
theorem algebraic : Cert.algebraic_KernelIdeal_ReferenceIdeal_pre_finite := by
  intro m ρ m' ρ' hf hm
  refine ⟨fun c => (Cert.KernelIdeal.Gen.dats m 0 c).arrAt 11 Cert.KernelIdeal.cfg0.N,
    fun c => (Cert.KernelIdeal.Gen.dats m 0 c).arrAt 12 Cert.KernelIdeal.cfg0.N, ?_, ?_⟩
  · refine (θ_run Cert.KernelIdeal.defs _ _).mono (fun r h c => ?_)
      (θ_run_and ((θ_run Cert.KernelIdeal.defs _ _).mono (fun _ h => h.1) (Cert.KernelIdeal.Gen.runs m ρ)) (Cert.KernelIdeal.Gen.quiet m ρ))
    exact ⟨(h.1 c).1 11, (h.1 c).1 12, h.2.1 c⟩
  · refine (θ_run Cert.ReferenceIdeal.defs _ _).mono (fun r h c => ?_) (Cert.ReferenceIdeal.Value.run (F := Ideal) m' ρ')
    obtain ⟨h0, h1, h2, h3, h4, h5, h6, h7⟩ := hm c
    refine ⟨funext fun i => ?_, funext fun i => ?_, (h c).2.2⟩
    · by_cases hi : (i 1).val < 2048
      swap
      · obtain ⟨n, r, gi, d, rfl⟩ := split_pool i hi
        refine (congrFun (h c).1 _).trans ((result_apply_right _ _ _ (512 * gi.val + d.val) (by omega)).trans ?_)
        show Cert.ReferenceIdeal.Value.poolCols (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) _ = _
        rw [h3, h5, h6]
        exact (pool_cols m hf c n r gi d).symm.trans (congrFun (Cert.KernelIdeal.Gen.final_11 m c) _).symm
      obtain ⟨n, qb, kh, g, q, d, rfl⟩ := split_index i hi
      refine (congrFun (h c).1 _).trans ((result_apply _ _ _ (128 * (4 * kh.val + g.val) + d.val) (by omega)).trans ?_)
      show Cert.ReferenceIdeal.Value.refAttn (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg4)) _ = _
      rw [h0, h1, h2, h4]
      exact (attn_cols m hf c n qb kh g q d).symm.trans (congrFun (Cert.KernelIdeal.Gen.final_11 m c) _).symm
    · refine (congrFun (h c).2.1 i).trans (Eq.trans ?_ (congrFun (Cert.KernelIdeal.Gen.final_12 m c) i).symm)
      rw [Cert.KernelIdeal.Gen.V_main_arg7]
      exact congrFun h7 i

end Cert.Proof.Mix
end
-- ==== Proof.lean ====
module

public import proofs.«01_k».proof.Proof.Frames
public import proofs.«01_k».proof.Proof.UpFrames
public import proofs.«01_k».proof.Proof.UpValue
public import proofs.«01_k».proof.Proof.MixValue

@[expose] public section
noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.facts,
  frame_kernel, frame_ideal, fun m ρ _ => frame_ideal m ρ trivial, frame_reference, fun m ρ _ => frame_reference m ρ trivial,
  Up.frame_kernel, Up.frame_ideal, Up.frame_reference, preserves, Mix.algebraic, trivial, Up.algebraic⟩

end Cert.Proof

end
